-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2 = (fun _ => 1#1)

def Pre_Kernel2 [hPre_tables : Cert.Pre_tables.Facts] (m : (ℓ : Loc Cert.Kernel2.nD Cert.Kernel2.τ Cert.Kernel2.sig) → Buf (Elt Bits) ℓ) : Prop :=
  ∀ c : Dev Cert.Kernel2.nD,
    (Cert.Pre_tables.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).1 = (fun _ => 1#1)
    ∧ (Cert.Pre_tables.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).2.1 = (fun _ => 1#1)
    ∧ (Cert.Pre_tables.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).2.2.1 = (fun _ => 1#1)
    ∧ (Cert.Pre_tables.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).2.2.2.1 = (fun _ => 1#1)
    ∧ (Cert.Pre_tables.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).2.2.2.2 = (fun _ => 1#1)

def Pre_Kernel2Ideal [hPre_tables : Cert.Pre_tables.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tables.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).1 = (fun _ => 1#1)
    ∧ (Cert.Pre_tables.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.1 = (fun _ => 1#1)
    ∧ (Cert.Pre_tables.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.1 = (fun _ => 1#1)
    ∧ (Cert.Pre_tables.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.1 = (fun _ => 1#1)
    ∧ (Cert.Pre_tables.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tables [hPre_tables : Cert.Pre_tables.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tables.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).1 = (fun _ => 1#1)
    ∧ (Cert.Pre_tables.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.1 = (fun _ => 1#1)
    ∧ (Cert.Pre_tables.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.1 = (fun _ => 1#1)
    ∧ (Cert.Pre_tables.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.1 = (fun _ => 1#1)
    ∧ (Cert.Pre_tables.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] [hPre_tables : Cert.Pre_tables.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_tables : Cert.Pre_tables.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_tables [hReference2Ideal : Cert.Reference2Ideal.Facts] [hPre_tables : Cert.Pre_tables.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tables m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] [hPre_tables : Cert.Pre_tables.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts) (hPre_tables : Cert.Pre_tables.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_tables := hPre_tables)
    ∧ quiescent_Kernel2Ideal (hKernel2Ideal := hKernel2Ideal) (hPre_tables := hPre_tables)
    ∧ quiescent_Reference2Ideal (hReference2Ideal := hReference2Ideal)
    ∧ quiescent_Reference2Ideal_pre_tables (hReference2Ideal := hReference2Ideal) (hPre_tables := hPre_tables)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_tables := hPre_tables)
-- ==== Pre_finite.lean ====
abbrev S2x16384x512 : Shape := ⟨3, ![2, 16384, 512]⟩
abbrev S2x256x512 : Shape := ⟨3, ![2, 256, 512]⟩
abbrev S4x64 : Shape := ⟨2, ![4, 64]⟩
abbrev S128 : Shape := ⟨1, ![128]⟩
abbrev S_ : Shape := ⟨0, ![]⟩

class Facts : Prop where
  bcast_S_S2x16384x512 : S_.BroadcastsInDim S2x16384x512 (![] : Fin 0 → Fin S2x16384x512.rank)
  bcast_S_S2x256x512 : S_.BroadcastsInDim S2x256x512 (![] : Fin 0 → Fin S2x256x512.rank)
  bcast_S_S4x64 : S_.BroadcastsInDim S4x64 (![] : Fin 0 → Fin S4x64.rank)

variable [Facts]

def fn {F : FTy → Type} [FloatOps F] (main_arg0 : FVec F S2x16384x512 .f32) (main_arg1 : FVec F S2x16384x512 .f32) (main_arg2 : FVec F S2x16384x512 .f32) (main_arg3 : FVec F S2x256x512 .f32) (main_arg4 : FVec F S2x256x512 .f32) (main_arg5 : FVec F S2x256x512 .f32) (main_arg6 : FVec F S4x64 .f32) (main_arg7 : FVec F S128 .f32) : IVec S2x16384x512 1 × IVec S2x256x512 1 × IVec S4x64 1 :=
  let main_v0 : FVec F S2x16384x512 .f32 := Host.absf main_arg2
  let main_cst : FVec F S_ .f32 := constant S_ .f32 0x7F800000#32
  let main_v1 : FVec F S2x16384x512 .f32 := broadcastInDim S2x16384x512 ![] bcast_S_S2x16384x512 main_cst
  let main_v2 : IVec S2x16384x512 1 := cmpf .olt main_v0 main_v1
  let main_v3 : FVec F S2x256x512 .f32 := Host.absf main_arg5
  let main_cst_0 : FVec F S_ .f32 := constant S_ .f32 0x7F800000#32
  let main_v4 : FVec F S2x256x512 .f32 := broadcastInDim S2x256x512 ![] bcast_S_S2x256x512 main_cst_0
  let main_v5 : IVec S2x256x512 1 := cmpf .olt main_v3 main_v4
  let main_v6 : FVec F S4x64 .f32 := Host.absf main_arg6
  let main_cst_1 : FVec F S_ .f32 := constant S_ .f32 0x7F800000#32
  let main_v7 : FVec F S4x64 .f32 := broadcastInDim S4x64 ![] bcast_S_S4x64 main_cst_1
  let main_v8 : IVec S4x64 1 := cmpf .olt main_v6 main_v7
  (main_v2, main_v5, main_v8)
-- ==== Pre_tables.lean ====
abbrev S39424x1024 : Shape := ⟨2, ![39424, 1024]⟩
abbrev S154 : Shape := ⟨1, ![154]⟩
abbrev S1 : Shape := ⟨1, ![1]⟩
abbrev S16x1024x512 : Shape := ⟨3, ![16, 1024, 512]⟩
abbrev S16x512x1024 : Shape := ⟨3, ![16, 512, 1024]⟩
abbrev S_ : Shape := ⟨0, ![]⟩

class Facts : Prop where
  bcast_S_S154 : S_.BroadcastsInDim S154 (![] : Fin 0 → Fin S154.rank)
  bcast_S_S1 : S_.BroadcastsInDim S1 (![] : Fin 0 → Fin S1.rank)

variable [Facts]

def fn {F : FTy → Type} [FloatOps F] (main_arg0 : FVec F S39424x1024 .f32) (main_arg1 : IVec S154 32) (main_arg2 : IVec S154 32) (main_arg3 : IVec S1 32) (main_arg4 : FVec F S16x1024x512 .f32) (main_arg5 : FVec F S16x1024x512 .f32) (main_arg6 : FVec F S16x512x1024 .f32) : IVec S154 1 × IVec S154 1 × IVec S154 1 × IVec S154 1 × IVec S1 1 :=
  let main_c : IVec S_ 32 := constantI S_ 32 0#32
  let main_v0 : IVec S154 32 := broadcastInDim S154 ![] bcast_S_S154 main_c
  let main_v1 : IVec S154 1 := cmpi .sge main_arg1 main_v0
  let main_c_0 : IVec S_ 32 := constantI S_ 32 16#32
  let main_v2 : IVec S154 32 := broadcastInDim S154 ![] bcast_S_S154 main_c_0
  let main_v3 : IVec S154 1 := cmpi .slt main_arg1 main_v2
  let main_c_1 : IVec S_ 32 := constantI S_ 32 0#32
  let main_v4 : IVec S154 32 := broadcastInDim S154 ![] bcast_S_S154 main_c_1
  let main_v5 : IVec S154 1 := cmpi .sge main_arg2 main_v4
  let main_c_2 : IVec S_ 32 := constantI S_ 32 16#32
  let main_v6 : IVec S154 32 := broadcastInDim S154 ![] bcast_S_S154 main_c_2
  let main_v7 : IVec S154 1 := cmpi .slt main_arg2 main_v6
  let main_c_3 : IVec S_ 32 := constantI S_ 32 1#32
  let main_v8 : IVec S1 32 := broadcastInDim S1 ![] bcast_S_S1 main_c_3
  let main_v9 : IVec S1 1 := cmpi .sge main_arg3 main_v8
  (main_v1, main_v3, main_v5, main_v7, main_v9)
-- ==== Kernel.lean ====
abbrev S2x16384x512 : Shape := ⟨3, ![2, 16384, 512]⟩
abbrev S2x256x512 : Shape := ⟨3, ![2, 256, 512]⟩
abbrev S4x64 : Shape := ⟨2, ![4, 64]⟩
abbrev S128 : Shape := ⟨1, ![128]⟩
abbrev S_ : Shape := ⟨0, ![]⟩
abbrev S2x16640x512 : Shape := ⟨3, ![2, 16640, 512]⟩
abbrev S2x16640x4x2x2x2x16 : Shape := ⟨7, ![2, 16640, 4, 2, 2, 2, 16]⟩
abbrev S2x16640x4x128 : Shape := ⟨4, ![2, 16640, 4, 128]⟩
abbrev S2x4x128x16640 : Shape := ⟨4, ![2, 4, 128, 16640]⟩
abbrev S2x16640x4x256 : Shape := ⟨4, ![2, 16640, 4, 256]⟩
abbrev S2x16640x1024 : Shape := ⟨3, ![2, 16640, 1024]⟩
abbrev S1x128 : Shape := ⟨2, ![1, 128]⟩
abbrev S1x8192x128 : Shape := ⟨3, ![1, 8192, 128]⟩
abbrev S1x1x128x16640 : Shape := ⟨4, ![1, 1, 128, 16640]⟩
abbrev S1x16640x256 : Shape := ⟨3, ![1, 16640, 256]⟩
abbrev S512x128 : Shape := ⟨2, ![512, 128]⟩
abbrev S3x512x1280 : Shape := ⟨3, ![3, 512, 1280]⟩
abbrev S2x512x128 : Shape := ⟨3, ![2, 512, 128]⟩
abbrev S2x512x256 : Shape := ⟨3, ![2, 512, 256]⟩
abbrev S256x128 : Shape := ⟨2, ![256, 128]⟩
abbrev S1x64 : Shape := ⟨2, ![1, 64]⟩
abbrev S1x1x64 : Shape := ⟨3, ![1, 1, 64]⟩
abbrev S1 : Shape := ⟨1, ![1]⟩
abbrev S1x1x1 : Shape := ⟨3, ![1, 1, 1]⟩
abbrev S1x1 : Shape := ⟨2, ![1, 1]⟩
abbrev S1x256x128 : Shape := ⟨3, ![1, 256, 128]⟩
abbrev S1x1x128x1280 : Shape := ⟨4, ![1, 1, 128, 1280]⟩
abbrev S128x1280 : Shape := ⟨2, ![128, 1280]⟩
abbrev S512x1280 : Shape := ⟨2, ![512, 1280]⟩
abbrev S1x512x1280 : Shape := ⟨3, ![1, 512, 1280]⟩
abbrev S512x256 : Shape := ⟨2, ![512, 256]⟩
abbrev S1x512x256 : Shape := ⟨3, ![1, 512, 256]⟩
abbrev S256 : Shape := ⟨1, ![256]⟩
abbrev S256x1 : Shape := ⟨2, ![256, 1]⟩
abbrev S512 : Shape := ⟨1, ![512]⟩
abbrev S512x1 : Shape := ⟨2, ![512, 1]⟩
abbrev S1x1280x256 : Shape := ⟨3, ![1, 1280, 256]⟩
abbrev S1280x256 : Shape := ⟨2, ![1280, 256]⟩
abbrev S1x512x128 : Shape := ⟨3, ![1, 512, 128]⟩

abbrev nBuf : Space → Nat
  | .hbm => 35
  | .vmem => 14
  | .smem => 0
  | _ => 0

abbrev bufTy : (tb : Table) → Fin (tcTables nBuf tb) → BufTy
  | .hbm, ⟨0, _⟩ => ⟨S2x16384x512, .f32⟩
  | .hbm, ⟨1, _⟩ => ⟨S2x16384x512, .f32⟩
  | .hbm, ⟨2, _⟩ => ⟨S2x16384x512, .f32⟩
  | .hbm, ⟨3, _⟩ => ⟨S2x256x512, .f32⟩
  | .hbm, ⟨4, _⟩ => ⟨S2x256x512, .f32⟩
  | .hbm, ⟨5, _⟩ => ⟨S2x256x512, .f32⟩
  | .hbm, ⟨6, _⟩ => ⟨S4x64, .f32⟩
  | .hbm, ⟨7, _⟩ => ⟨S128, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S2x16640x512, .f32⟩
  | .hbm, ⟨13, _⟩ => ⟨S2x16640x4x2x2x2x16, .f32⟩
  | .hbm, ⟨14, _⟩ => ⟨S2x16640x4x2x2x2x16, .f32⟩
  | .hbm, ⟨15, _⟩ => ⟨S2x16640x512, .f32⟩
  | .hbm, ⟨16, _⟩ => ⟨S2x16640x512, .f32⟩
  | .hbm, ⟨17, _⟩ => ⟨S2x16640x512, .f32⟩
  | .hbm, ⟨18, _⟩ => ⟨S2x16640x512, .bf16⟩
  | .hbm, ⟨19, _⟩ => ⟨S2x16640x512, .f32⟩
  | .hbm, ⟨20, _⟩ => ⟨S2x16640x4x2x2x2x16, .f32⟩
  | .hbm, ⟨21, _⟩ => ⟨S2x16640x4x2x2x2x16, .f32⟩
  | .hbm, ⟨22, _⟩ => ⟨S2x16640x512, .f32⟩
  | .hbm, ⟨23, _⟩ => ⟨S2x16640x4x128, .f32⟩
  | .hbm, ⟨24, _⟩ => ⟨S2x4x128x16640, .f32⟩
  | .hbm, ⟨25, _⟩ => ⟨S2x4x128x16640, .bf16⟩
  | .hbm, ⟨26, _⟩ => ⟨S2x16640x512, .f32⟩
  | .hbm, ⟨27, _⟩ => ⟨S2x16640x4x128, .f32⟩
  | .hbm, ⟨28, _⟩ => ⟨S_, .f32⟩
  | .hbm, ⟨29, _⟩ => ⟨S2x16640x4x128, .f32⟩
  | .hbm, ⟨30, _⟩ => ⟨S2x16640x4x256, .f32⟩
  | .hbm, ⟨31, _⟩ => ⟨S2x16640x1024, .f32⟩
  | .hbm, ⟨32, _⟩ => ⟨S2x16640x1024, .bf16⟩
  | .hbm, ⟨33, _⟩ => ⟨S1x128, .f32⟩
  | .hbm, ⟨34, _⟩ => ⟨S2x16384x512, .bf16⟩
  | .local _ .vmem, ⟨0, _⟩ => ⟨S1x8192x128, .bf16⟩
  | .local _ .vmem, ⟨1, _⟩ => ⟨S1x8192x128, .bf16⟩
  | .local _ .vmem, ⟨2, _⟩ => ⟨S1x1x128x16640, .bf16⟩
  | .local _ .vmem, ⟨3, _⟩ => ⟨S1x1x128x16640, .bf16⟩
  | .local _ .vmem, ⟨4, _⟩ => ⟨S1x16640x256, .bf16⟩
  | .local _ .vmem, ⟨5, _⟩ => ⟨S1x16640x256, .bf16⟩
  | .local _ .vmem, ⟨6, _⟩ => ⟨S4x64, .f32⟩
  | .local _ .vmem, ⟨7, _⟩ => ⟨S1x128, .f32⟩
  | .local _ .vmem, ⟨8, _⟩ => ⟨S1x8192x128, .bf16⟩
  | .local _ .vmem, ⟨9, _⟩ => ⟨S1x8192x128, .bf16⟩
  | .local _ .vmem, ⟨10, _⟩ => ⟨S512x128, .bf16⟩
  | .local _ .vmem, ⟨11, _⟩ => ⟨S3x512x1280, .f32⟩
  | .local _ .vmem, ⟨12, _⟩ => ⟨S2x512x128, .f32⟩
  | .local _ .vmem, ⟨13, _⟩ => ⟨S2x512x256, .f32⟩
  | _, _ => ⟨S2x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 4, 2], ![false, false, false]⟩

def k0_mult1 : BitVec 32 :=
  let c0_i32_9 : BitVec 32 := 0#32
  c0_i32_9
@[reducible] def k0_t1_loop : Scf.Loop 32 :=
  let c0_i32_28 : BitVec 32 := 0#32
  let c16_i32 : BitVec 32 := 16#32
  let v69 : BitVec 32 := Scalar.addi c0_i32_28 c16_i32
  let c1_i32_29 : BitVec 32 := 1#32
  ⟨c0_i32_28, v69, c1_i32_29⟩
def k0_mult2 (k0_t1 : Fin k0_t1_loop.trips) : BitVec 32 :=
  let c2_i32 : BitVec 32 := 2#32
  let c0_i32_28 : BitVec 32 := 0#32
  let c1_i32_29 : BitVec 32 := 1#32
  let arg13 : BitVec 32 := Scf.iv c0_i32_28 c1_i32_29 k0_t1
  let v99 : BitVec 32 := Scalar.muli c2_i32 arg13
  let c1_i32_48 : BitVec 32 := 1#32
  let v107 : BitVec 32 := Scalar.subi v99 c1_i32_48
  let c0_i32_49 : BitVec 32 := 0#32
  let v108 : BitVec 32 := Scalar.maxsi v107 c0_i32_49
  let c256_i32 : BitVec 32 := 256#32
  let v133 : BitVec 32 := Scalar.muli v108 c256_i32
  v133
def k0_off1 (k0_t1 : Fin k0_t1_loop.trips) : Fin 3 → Nat :=
  let c0_56 : Index := 0#32
  let c2_i32 : BitVec 32 := 2#32
  let c0_i32_28 : BitVec 32 := 0#32
  let c1_i32_29 : BitVec 32 := 1#32
  let arg13 : BitVec 32 := Scf.iv c0_i32_28 c1_i32_29 k0_t1
  let v99 : BitVec 32 := Scalar.muli c2_i32 arg13
  let c1_i32_48 : BitVec 32 := 1#32
  let v107 : BitVec 32 := Scalar.subi v99 c1_i32_48
  let c0_i32_49 : BitVec 32 := 0#32
  let v108 : BitVec 32 := Scalar.maxsi v107 c0_i32_49
  let c256_i32 : BitVec 32 := 256#32
  let v133 : BitVec 32 := Scalar.muli v108 c256_i32
  let v134 : BitVec 32 := v133
  let v135 : Index := Scalar.indexCast v134
  let c0_57 : Index := 0#32
  ![0, v135.toNat, 0]
def k0_mult3 (k0_t1 : Fin k0_t1_loop.trips) : BitVec 32 :=
  let c2_i32 : BitVec 32 := 2#32
  let c0_i32_28 : BitVec 32 := 0#32
  let c1_i32_29 : BitVec 32 := 1#32
  let arg13 : BitVec 32 := Scf.iv c0_i32_28 c1_i32_29 k0_t1
  let v99 : BitVec 32 := Scalar.muli c2_i32 arg13
  let c1_i32_391 : BitVec 32 := 1#32
  let v543 : BitVec 32 := Scalar.addi v99 c1_i32_391
  let c31_i32 : BitVec 32 := 31#32
  let v544 : BitVec 32 := Scalar.minsi v543 c31_i32
  let c256_i32_392 : BitVec 32 := 256#32
  let v545 : BitVec 32 := Scalar.muli v544 c256_i32_392
  v545
def k0_off2 (k0_t1 : Fin k0_t1_loop.trips) : Fin 3 → Nat :=
  let c0_393 : Index := 0#32
  let c2_i32 : BitVec 32 := 2#32
  let c0_i32_28 : BitVec 32 := 0#32
  let c1_i32_29 : BitVec 32 := 1#32
  let arg13 : BitVec 32 := Scf.iv c0_i32_28 c1_i32_29 k0_t1
  let v99 : BitVec 32 := Scalar.muli c2_i32 arg13
  let c1_i32_391 : BitVec 32 := 1#32
  let v543 : BitVec 32 := Scalar.addi v99 c1_i32_391
  let c31_i32 : BitVec 32 := 31#32
  let v544 : BitVec 32 := Scalar.minsi v543 c31_i32
  let c256_i32_392 : BitVec 32 := 256#32
  let v545 : BitVec 32 := Scalar.muli v544 c256_i32_392
  let v546 : BitVec 32 := v545
  let v547 : Index := Scalar.indexCast v546
  let c0_394 : Index := 0#32
  ![0, v547.toNat, 0]
def k0_mult4 (k0_t1 : Fin k0_t1_loop.trips) : BitVec 32 :=
  let c2_i32 : BitVec 32 := 2#32
  let c0_i32_28 : BitVec 32 := 0#32
  let c1_i32_29 : BitVec 32 := 1#32
  let arg13 : BitVec 32 := Scf.iv c0_i32_28 c1_i32_29 k0_t1
  let v99 : BitVec 32 := Scalar.muli c2_i32 arg13
  let c1_i32_430 : BitVec 32 := 1#32
  let v594 : BitVec 32 := Scalar.addi v99 c1_i32_430
  let c1_i32_441 : BitVec 32 := 1#32
  let v602 : BitVec 32 := Scalar.subi v594 c1_i32_441
  let c0_i32_442 : BitVec 32 := 0#32
  let v603 : BitVec 32 := Scalar.maxsi v602 c0_i32_442
  let c256_i32_449 : BitVec 32 := 256#32
  let v628 : BitVec 32 := Scalar.muli v603 c256_i32_449
  v628
def k0_off3 (k0_t1 : Fin k0_t1_loop.trips) : Fin 3 → Nat :=
  let c0_450 : Index := 0#32
  let c2_i32 : BitVec 32 := 2#32
  let c0_i32_28 : BitVec 32 := 0#32
  let c1_i32_29 : BitVec 32 := 1#32
  let arg13 : BitVec 32 := Scf.iv c0_i32_28 c1_i32_29 k0_t1
  let v99 : BitVec 32 := Scalar.muli c2_i32 arg13
  let c1_i32_430 : BitVec 32 := 1#32
  let v594 : BitVec 32 := Scalar.addi v99 c1_i32_430
  let c1_i32_441 : BitVec 32 := 1#32
  let v602 : BitVec 32 := Scalar.subi v594 c1_i32_441
  let c0_i32_442 : BitVec 32 := 0#32
  let v603 : BitVec 32 := Scalar.maxsi v602 c0_i32_442
  let c256_i32_449 : BitVec 32 := 256#32
  let v628 : BitVec 32 := Scalar.muli v603 c256_i32_449
  let v629 : BitVec 32 := v628
  let v630 : Index := Scalar.indexCast v629
  let c0_451 : Index := 0#32
  ![0, v630.toNat, 0]
def k0_mult5 (k0_t1 : Fin k0_t1_loop.trips) : BitVec 32 :=
  let c2_i32 : BitVec 32 := 2#32
  let c0_i32_28 : BitVec 32 := 0#32
  let c1_i32_29 : BitVec 32 := 1#32
  let arg13 : BitVec 32 := Scf.iv c0_i32_28 c1_i32_29 k0_t1
  let v99 : BitVec 32 := Scalar.muli c2_i32 arg13
  let c1_i32_430 : BitVec 32 := 1#32
  let v594 : BitVec 32 := Scalar.addi v99 c1_i32_430
  let c1_i32_796 : BitVec 32 := 1#32
  let v1038 : BitVec 32 := Scalar.addi v594 c1_i32_796
  let c31_i32_797 : BitVec 32 := 31#32
  let v1039 : BitVec 32 := Scalar.minsi v1038 c31_i32_797
  let c256_i32_798 : BitVec 32 := 256#32
  let v1040 : BitVec 32 := Scalar.muli v1039 c256_i32_798
  v1040
def k0_off4 (k0_t1 : Fin k0_t1_loop.trips) : Fin 3 → Nat :=
  let c0_799 : Index := 0#32
  let c2_i32 : BitVec 32 := 2#32
  let c0_i32_28 : BitVec 32 := 0#32
  let c1_i32_29 : BitVec 32 := 1#32
  let arg13 : BitVec 32 := Scf.iv c0_i32_28 c1_i32_29 k0_t1
  let v99 : BitVec 32 := Scalar.muli c2_i32 arg13
  let c1_i32_430 : BitVec 32 := 1#32
  let v594 : BitVec 32 := Scalar.addi v99 c1_i32_430
  let c1_i32_796 : BitVec 32 := 1#32
  let v1038 : BitVec 32 := Scalar.addi v594 c1_i32_796
  let c31_i32_797 : BitVec 32 := 31#32
  let v1039 : BitVec 32 := Scalar.minsi v1038 c31_i32_797
  let c256_i32_798 : BitVec 32 := 256#32
  let v1040 : BitVec 32 := Scalar.muli v1039 c256_i32_798
  let v1041 : BitVec 32 := v1040
  let v1042 : Index := Scalar.indexCast v1041
  let c0_800 : Index := 0#32
  ![0, v1042.toNat, 0]
def k0_mult6 : BitVec 32 :=
  let c7936_i32 : BitVec 32 := 7936#32
  c7936_i32
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x16640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16640x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x8192x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S2x16384x512 : Shape := ⟨3, ![2, 16384, 512]⟩
abbrev S2x256x512 : Shape := ⟨3, ![2, 256, 512]⟩
abbrev S4x64 : Shape := ⟨2, ![4, 64]⟩
abbrev S128 : Shape := ⟨1, ![128]⟩
abbrev S1x64 : Shape := ⟨2, ![1, 64]⟩
abbrev S64 : Shape := ⟨1, ![64]⟩
abbrev S_ : Shape := ⟨0, ![]⟩
abbrev S2x16384x4x2x64 : Shape := ⟨5, ![2, 16384, 4, 2, 64]⟩
abbrev S2x4x2x16384x64 : Shape := ⟨5, ![2, 4, 2, 16384, 64]⟩
abbrev S2x256x4x2x64 : Shape := ⟨5, ![2, 256, 4, 2, 64]⟩
abbrev S2x4x2x256x64 : Shape := ⟨5, ![2, 4, 2, 256, 64]⟩
abbrev S2x4x2x16640x64 : Shape := ⟨5, ![2, 4, 2, 16640, 64]⟩
abbrev S2x256x4x128 : Shape := ⟨4, ![2, 256, 4, 128]⟩
abbrev S2x4x256x128 : Shape := ⟨4, ![2, 4, 256, 128]⟩
abbrev S2x16384x4x128 : Shape := ⟨4, ![2, 16384, 4, 128]⟩
abbrev S2x4x16384x128 : Shape := ⟨4, ![2, 4, 16384, 128]⟩
abbrev S2x4x16640x128 : Shape := ⟨4, ![2, 4, 16640, 128]⟩
abbrev S2x4x2x16384x16640 : Shape := ⟨5, ![2, 4, 2, 16384, 16640]⟩
abbrev S2x4x2x16384 : Shape := ⟨4, ![2, 4, 2, 16384]⟩
abbrev S2x4x2x16384x1 : Shape := ⟨5, ![2, 4, 2, 16384, 1]⟩
abbrev S2x4x1x16384x16640 : Shape := ⟨5, ![2, 4, 1, 16384, 16640]⟩
abbrev S2x4x16384x16640 : Shape := ⟨4, ![2, 4, 16384, 16640]⟩
abbrev S2x4x16384 : Shape := ⟨3, ![2, 4, 16384]⟩
abbrev S2x4x16384x1 : Shape := ⟨4, ![2, 4, 16384, 1]⟩
abbrev S1x1x1x128 : Shape := ⟨4, ![1, 1, 1, 128]⟩

abbrev nBuf : Space → Nat
  | .hbm => 87
  | .vmem => 0
  | .smem => 0
  | _ => 0

abbrev bufTy : (tb : Table) → Fin (tcTables nBuf tb) → BufTy
  | .hbm, ⟨0, _⟩ => ⟨S2x16384x512, .f32⟩
  | .hbm, ⟨1, _⟩ => ⟨S2x16384x512, .f32⟩
  | .hbm, ⟨2, _⟩ => ⟨S2x16384x512, .f32⟩
  | .hbm, ⟨3, _⟩ => ⟨S2x256x512, .f32⟩
  | .hbm, ⟨4, _⟩ => ⟨S2x256x512, .f32⟩
  | .hbm, ⟨5, _⟩ => ⟨S2x256x512, .f32⟩
  | .hbm, ⟨6, _⟩ => ⟨S4x64, .f32⟩
  | .hbm, ⟨7, _⟩ => ⟨S128, .f32⟩
  | .hbm, ⟨8, _⟩ => ⟨S1x64, .f32⟩
  | .hbm, ⟨9, _⟩ => ⟨S64, .f32⟩
  | .hbm, ⟨10, _⟩ => ⟨S1x64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x64, .f32⟩
  | .hbm, ⟨17, _⟩ => ⟨S64, .f32⟩
  | .hbm, ⟨18, _⟩ => ⟨S1x64, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S2x16384x4x2x64, .f32⟩
  | .hbm, ⟨28, _⟩ => ⟨S2x4x2x16384x64, .f32⟩
  | .hbm, ⟨29, _⟩ => ⟨S2x256x4x2x64, .f32⟩
  | .hbm, ⟨30, _⟩ => ⟨S2x4x2x256x64, .f32⟩
  | .hbm, ⟨31, _⟩ => ⟨S2x16384x4x2x64, .f32⟩
  | .hbm, ⟨32, _⟩ => ⟨S2x4x2x16384x64, .f32⟩
  | .hbm, ⟨33, _⟩ => ⟨S2x4x2x16640x64, .f32⟩
  | .hbm, ⟨34, _⟩ => ⟨S2x256x4x128, .f32⟩
  | .hbm, ⟨35, _⟩ => ⟨S2x4x256x128, .f32⟩
  | .hbm, ⟨36, _⟩ => ⟨S2x16384x4x128, .f32⟩
  | .hbm, ⟨37, _⟩ => ⟨S2x4x16384x128, .f32⟩
  | .hbm, ⟨38, _⟩ => ⟨S2x4x16640x128, .f32⟩
  | .hbm, ⟨39, _⟩ => ⟨S2x4x2x16384x16640, .f32⟩
  | .hbm, ⟨40, _⟩ => ⟨S_, .f32⟩
  | .hbm, ⟨41, _⟩ => ⟨S2x4x2x16384x16640, .f32⟩
  | .hbm, ⟨42, _⟩ => ⟨S2x4x2x16384x16640, .f32⟩
  | .hbm, ⟨43, _⟩ => ⟨S_, .f32⟩
  | .hbm, ⟨44, _⟩ => ⟨S2x4x2x16384, .f32⟩
  | .hbm, ⟨45, _⟩ => ⟨S_, .f32⟩
  | .hbm, ⟨46, _⟩ => ⟨S2x4x2x16384, .f32⟩
  | .hbm, ⟨47, _⟩ => ⟨S2x4x2x16384, .f32⟩
  | .hbm, ⟨48, _⟩ => ⟨S2x4x2x16384x1, .f32⟩
  | .hbm, ⟨49, _⟩ => ⟨S2x4x2x16384x16640, .f32⟩
  | .hbm, ⟨50, _⟩ => ⟨S2x4x2x16384x16640, .f32⟩
  | .hbm, ⟨51, _⟩ => ⟨S2x4x2x16384x16640, .f32⟩
  | .hbm, ⟨52, _⟩ => ⟨S_, .f32⟩
  | .hbm, ⟨53, _⟩ => ⟨S2x4x2x16384, .f32⟩
  | .hbm, ⟨54, _⟩ => ⟨S2x4x2x16384x1, .f32⟩
  | .hbm, ⟨55, _⟩ => ⟨S2x4x2x16384x16640, .f32⟩
  | .hbm, ⟨56, _⟩ => ⟨S2x4x2x16384x16640, .f32⟩
  | .hbm, ⟨57, _⟩ => ⟨S2x4x1x16384x16640, .f32⟩
  | .hbm, ⟨58, _⟩ => ⟨S2x4x16384x16640, .f32⟩
  | .hbm, ⟨59, _⟩ => ⟨S2x4x1x16384x16640, .f32⟩
  | .hbm, ⟨60, _⟩ => ⟨S2x4x16384x16640, .f32⟩
  | .hbm, ⟨61, _⟩ => ⟨S2x4x16384x16640, .f32⟩
  | .hbm, ⟨62, _⟩ => ⟨S2x4x16384x16640, .f32⟩
  | .hbm, ⟨63, _⟩ => ⟨S2x4x16384x16640, .f32⟩
  | .hbm, ⟨64, _⟩ => ⟨S2x4x16384x128, .f32⟩
  | .hbm, ⟨65, _⟩ => ⟨S2x4x16384x128, .f32⟩
  | .hbm, ⟨66, _⟩ => ⟨S_, .f32⟩
  | .hbm, ⟨67, _⟩ => ⟨S2x4x16384, .f32⟩
  | .hbm, ⟨68, _⟩ => ⟨S2x4x16384x1, .f32⟩
  | .hbm, ⟨69, _⟩ => ⟨S_, .f32⟩
  | .hbm, ⟨70, _⟩ => ⟨S2x4x16384x1, .f32⟩
  | .hbm, ⟨71, _⟩ => ⟨S2x4x16384x1, .f32⟩
  | .hbm, ⟨72, _⟩ => ⟨S_, .f32⟩
  | .hbm, ⟨73, _⟩ => ⟨S2x4x16384x1, .f32⟩
  | .hbm, ⟨74, _⟩ => ⟨S2x4x16384x1, .f32⟩
  | .hbm, ⟨75, _⟩ => ⟨S2x4x16384x1, .f32⟩
  | .hbm, ⟨76, _⟩ => ⟨S2x4x16384x128, .f32⟩
  | .hbm, ⟨77, _⟩ => ⟨S2x4x16384x128, .f32⟩
  | .hbm, ⟨78, _⟩ => ⟨S1x1x1x128, .f32⟩
  | .hbm, ⟨79, _⟩ => ⟨S2x4x16384x128, .f32⟩
  | .hbm, ⟨80, _⟩ => ⟨S2x4x16384x128, .f32⟩
  | .hbm, ⟨81, _⟩ => ⟨S_, .f32⟩
  | .hbm, ⟨82, _⟩ => ⟨S2x4x16384x128, .f32⟩
  | .hbm, ⟨83, _⟩ => ⟨S2x4x16384x128, .f32⟩
  | .hbm, ⟨84, _⟩ => ⟨S2x16384x4x128, .f32⟩
  | .hbm, ⟨85, _⟩ => ⟨S2x16384x512, .f32⟩
  | .hbm, ⟨86, _⟩ => ⟨S2x16384x512, .bf16⟩
  | _, _ => ⟨S2x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_6 : Ref sig .tc := ⟨.hbm, 66, rfl⟩
abbrev main_v51 : Ref sig .tc := ⟨.hbm, 67, rfl⟩
abbrev main_v52 : Ref sig .tc := ⟨.hbm, 68, rfl⟩
abbrev main_cst_7 : Ref sig .tc := ⟨.hbm, 69, rfl⟩
abbrev main_v53 : Ref sig .tc := ⟨.hbm, 70, rfl⟩
abbrev main_v54 : Ref sig .tc := ⟨.hbm, 71, rfl⟩
abbrev main_cst_8 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_9 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩

abbrev nD : Nat := 1
abbrev τ : Topo := Topo.v7x

variable {F : FTy → Type} [FloatOps F]
-- ==== Kernel2.lean ====
abbrev S39424x1024 : Shape := ⟨2, ![39424, 1024]⟩
abbrev S154 : Shape := ⟨1, ![154]⟩
abbrev S1 : Shape := ⟨1, ![1]⟩
abbrev S16x1024x512 : Shape := ⟨3, ![16, 1024, 512]⟩
abbrev S16x512x1024 : Shape := ⟨3, ![16, 512, 1024]⟩
abbrev S16x1024x1024 : Shape := ⟨3, ![16, 1024, 1024]⟩
abbrev S39424x2048 : Shape := ⟨2, ![39424, 2048]⟩
abbrev S256x1024 : Shape := ⟨2, ![256, 1024]⟩
abbrev S1x1024x1024 : Shape := ⟨3, ![1, 1024, 1024]⟩
abbrev S1x512x1024 : Shape := ⟨3, ![1, 512, 1024]⟩
abbrev S256x2048 : Shape := ⟨2, ![256, 2048]⟩
abbrev S1024x1024 : Shape := ⟨2, ![1024, 1024]⟩
abbrev S256x512 : Shape := ⟨2, ![256, 512]⟩
abbrev S512x1024 : Shape := ⟨2, ![512, 1024]⟩

abbrev nBuf : Space → Nat
  | .hbm => 9
  | .vmem => 12
  | .smem => 3
  | _ => 0

abbrev bufTy : (tb : Table) → Fin (tcTables nBuf tb) → BufTy
  | .hbm, ⟨0, _⟩ => ⟨S39424x1024, .f32⟩
  | .hbm, ⟨1, _⟩ => ⟨S16x1024x512, .f32⟩
  | .hbm, ⟨2, _⟩ => ⟨S16x1024x512, .f32⟩
  | .hbm, ⟨3, _⟩ => ⟨S16x512x1024, .f32⟩
  | .hbm, ⟨4, _⟩ => ⟨S16x1024x1024, .f32⟩
  | .hbm, ⟨5, _⟩ => ⟨S16x1024x1024, .bf16⟩
  | .hbm, ⟨6, _⟩ => ⟨S39424x1024, .bf16⟩
  | .hbm, ⟨7, _⟩ => ⟨S16x512x1024, .bf16⟩
  | .hbm, ⟨8, _⟩ => ⟨S39424x2048, .bf16⟩
  | .local _ .vmem, ⟨0, _⟩ => ⟨S256x1024, .bf16⟩
  | .local _ .vmem, ⟨1, _⟩ => ⟨S256x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S256x2048, .bf16⟩
  | .local _ .vmem, ⟨11, _⟩ => ⟨S256x2048, .bf16⟩
  | .local _ .smem, ⟨0, _⟩ => ⟨S154, .i32⟩
  | .local _ .smem, ⟨1, _⟩ => ⟨S154, .i32⟩
  | .local _ .smem, ⟨2, _⟩ => ⟨S1, .i32⟩
  | _, _ => ⟨S39424x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![154], ![false]⟩

abbrev pre0 : Pipeline.Prefetch sig := ⟨3, ![main_arg1.idx, main_arg2.idx, main_arg3.idx], fun | 0 => main_arg1.names | 1 => main_arg2.names | 2 => main_arg3.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S154.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S154) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S154.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S154) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S154.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S154) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S154.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S154) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S39424x1024 : Shape := ⟨2, ![39424, 1024]⟩
abbrev S154 : Shape := ⟨1, ![154]⟩
abbrev S1 : Shape := ⟨1, ![1]⟩
abbrev S16x1024x512 : Shape := ⟨3, ![16, 1024, 512]⟩
abbrev S16x512x1024 : Shape := ⟨3, ![16, 512, 1024]⟩
abbrev S16x512x39424 : Shape := ⟨3, ![16, 512, 39424]⟩
abbrev S16x39424x512 : Shape := ⟨3, ![16, 39424, 512]⟩
abbrev S_ : Shape := ⟨0, ![]⟩
abbrev S16x39424x1024 : Shape := ⟨3, ![16, 39424, 1024]⟩
abbrev S39424 : Shape := ⟨1, ![39424]⟩
abbrev S39424x1 : Shape := ⟨2, ![39424, 1]⟩
abbrev S154x256 : Shape := ⟨2, ![154, 256]⟩
abbrev S1x39424 : Shape := ⟨2, ![1, 39424]⟩
abbrev S16x1 : Shape := ⟨2, ![16, 1]⟩
abbrev S16x39424 : Shape := ⟨2, ![16, 39424]⟩
abbrev S16x39424x1 : Shape := ⟨3, ![16, 39424, 1]⟩
abbrev S39424x2048 : Shape := ⟨2, ![39424, 2048]⟩

abbrev nBuf : Space → Nat
  | .hbm => 78
  | .vmem => 0
  | .smem => 0
  | _ => 0

abbrev bufTy : (tb : Table) → Fin (tcTables nBuf tb) → BufTy
  | .hbm, ⟨0, _⟩ => ⟨S39424x1024, .f32⟩
  | .hbm, ⟨1, _⟩ => ⟨S154, .i32⟩
  | .hbm, ⟨2, _⟩ => ⟨S154, .i32⟩
  | .hbm, ⟨3, _⟩ => ⟨S1, .i32⟩
  | .hbm, ⟨4, _⟩ => ⟨S16x1024x512, .f32⟩
  | .hbm, ⟨5, _⟩ => ⟨S16x1024x512, .f32⟩
  | .hbm, ⟨6, _⟩ => ⟨S16x512x1024, .f32⟩
  | .hbm, ⟨7, _⟩ => ⟨S16x512x39424, .f32⟩
  | .hbm, ⟨8, _⟩ => ⟨S16x39424x512, .f32⟩
  | .hbm, ⟨9, _⟩ => ⟨S16x39424x512, .f32⟩
  | .hbm, ⟨10, _⟩ => ⟨S16x39424x512, .f32⟩
  | .hbm, ⟨11, _⟩ => ⟨S_, .f32⟩
  | .hbm, ⟨12, _⟩ => ⟨S16x39424x512, .f32⟩
  | .hbm, ⟨13, _⟩ => ⟨S16x39424x512, .f32⟩
  | .hbm, ⟨14, _⟩ => ⟨S_, .f32⟩
  | .hbm, ⟨15, _⟩ => ⟨S16x39424x512, .f32⟩
  | .hbm, ⟨16, _⟩ => ⟨S16x39424x512, .f32⟩
  | .hbm, ⟨17, _⟩ => ⟨S16x39424x512, .f32⟩
  | .hbm, ⟨18, _⟩ => ⟨S16x512x39424, .f32⟩
  | .hbm, ⟨19, _⟩ => ⟨S16x39424x512, .f32⟩
  | .hbm, ⟨20, _⟩ => ⟨S16x39424x512, .f32⟩
  | .hbm, ⟨21, _⟩ => ⟨S16x39424x1024, .f32⟩
  | .hbm, ⟨22, _⟩ => ⟨S39424, .i32⟩
  | .hbm, ⟨23, _⟩ => ⟨S_, .i32⟩
  | .hbm, ⟨24, _⟩ => ⟨S_, .i32⟩
  | .hbm, ⟨25, _⟩ => ⟨S39424, .i32⟩
  | .hbm, ⟨26, _⟩ => ⟨S39424, .i32⟩
  | .hbm, ⟨27, _⟩ => ⟨S39424, .i32⟩
  | .hbm, ⟨28, _⟩ => ⟨S_, .i32⟩
  | .hbm, ⟨29, _⟩ => ⟨S39424, .i32⟩
  | .hbm, ⟨30, _⟩ => ⟨S39424, .i1⟩
  | .hbm, ⟨31, _⟩ => ⟨S39424, .i32⟩
  | .hbm, ⟨32, _⟩ => ⟨S39424, .i32⟩
  | .hbm, ⟨33, _⟩ => ⟨S_, .i32⟩
  | .hbm, ⟨34, _⟩ => ⟨S39424, .i32⟩
  | .hbm, ⟨35, _⟩ => ⟨S39424, .i1⟩
  | .hbm, ⟨36, _⟩ => ⟨S39424, .i1⟩
  | .hbm, ⟨37, _⟩ => ⟨S_, .i32⟩
  | .hbm, ⟨38, _⟩ => ⟨S39424, .i32⟩
  | .hbm, ⟨39, _⟩ => ⟨S39424, .i32⟩
  | .hbm, ⟨40, _⟩ => ⟨S39424, .i32⟩
  | .hbm, ⟨41, _⟩ => ⟨S_, .i32⟩
  | .hbm, ⟨42, _⟩ => ⟨S39424, .i32⟩
  | .hbm, ⟨43, _⟩ => ⟨S39424, .i1⟩
  | .hbm, ⟨44, _⟩ => ⟨S39424x1, .i1⟩
  | .hbm, ⟨45, _⟩ => ⟨S154x256, .i32⟩
  | .hbm, ⟨46, _⟩ => ⟨S39424, .i32⟩
  | .hbm, ⟨47, _⟩ => ⟨S1x39424, .i32⟩
  | .hbm, ⟨48, _⟩ => ⟨S16x1, .i32⟩
  | .hbm, ⟨49, _⟩ => ⟨S16x39424, .i32⟩
  | .hbm, ⟨50, _⟩ => ⟨S16x39424, .i32⟩
  | .hbm, ⟨51, _⟩ => ⟨S16x39424, .i1⟩
  | .hbm, ⟨52, _⟩ => ⟨S16x39424, .f32⟩
  | .hbm, ⟨53, _⟩ => ⟨S16x39424x1, .f32⟩
  | .hbm, ⟨54, _⟩ => ⟨S16x39424x1024, .f32⟩
  | .hbm, ⟨55, _⟩ => ⟨S16x39424x1024, .f32⟩
  | .hbm, ⟨56, _⟩ => ⟨S_, .f32⟩
  | .hbm, ⟨57, _⟩ => ⟨S39424x1024, .f32⟩
  | .hbm, ⟨58, _⟩ => ⟨S154x256, .i32⟩
  | .hbm, ⟨59, _⟩ => ⟨S39424, .i32⟩
  | .hbm, ⟨60, _⟩ => ⟨S1x39424, .i32⟩
  | .hbm, ⟨61, _⟩ => ⟨S16x1, .i32⟩
  | .hbm, ⟨62, _⟩ => ⟨S16x39424, .i32⟩
  | .hbm, ⟨63, _⟩ => ⟨S16x39424, .i32⟩
  | .hbm, ⟨64, _⟩ => ⟨S16x39424, .i1⟩
  | .hbm, ⟨65, _⟩ => ⟨S16x39424, .f32⟩
  | .hbm, ⟨66, _⟩ => ⟨S16x39424x1, .f32⟩
  | .hbm, ⟨67, _⟩ => ⟨S16x39424x1024, .f32⟩
  | .hbm, ⟨68, _⟩ => ⟨S16x39424x1024, .f32⟩
  | .hbm, ⟨69, _⟩ => ⟨S_, .f32⟩
  | .hbm, ⟨70, _⟩ => ⟨S39424x1024, .f32⟩
  | .hbm, ⟨71, _⟩ => ⟨S39424x2048, .f32⟩
  | .hbm, ⟨72, _⟩ => ⟨S_, .f32⟩
  | .hbm, ⟨73, _⟩ => ⟨S_, .f32⟩
  | .hbm, ⟨74, _⟩ => ⟨S39424x2048, .i1⟩
  | .hbm, ⟨75, _⟩ => ⟨S39424x2048, .f32⟩
  | .hbm, ⟨76, _⟩ => ⟨S39424x2048, .f32⟩
  | .hbm, ⟨77, _⟩ => ⟨S39424x2048, .bf16⟩
  | _, _ => ⟨S39424x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_c : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_0 : Ref sig .tc := ⟨.hbm, 37, rfl⟩
abbrev main_call1_v12 : Ref sig .tc := ⟨.hbm, 38, rfl⟩
abbrev main_call1_v13 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_cst : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_call3_v0 : Ref sig .tc := ⟨.hbm, 60, rfl⟩
abbrev main_call3_v1 : Ref sig .tc := ⟨.hbm, 61, rfl⟩
abbrev main_call3_v2 : Ref sig .tc := ⟨.hbm, 62, rfl⟩
abbrev main_call3_v3 : Ref sig .tc := ⟨.hbm, 63, rfl⟩
abbrev main_call3_v4 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_cst_0 : Ref sig .tc := ⟨.hbm, 69, rfl⟩
abbrev main_v26 : Ref sig .tc := ⟨.hbm, 70, rfl⟩
abbrev main_v27 : Ref sig .tc := ⟨.hbm, 71, rfl⟩
abbrev main_cst_1 : Ref sig .tc := ⟨.hbm, 72, rfl⟩
abbrev main_call4_v0 : Ref sig .tc := ⟨.hbm, 73, rfl⟩
abbrev main_call4_v1 : Ref sig .tc := ⟨.hbm, 74, rfl⟩
abbrev main_call4_v2 : Ref sig .tc := ⟨.hbm, 75, rfl⟩
abbrev main_v28 : Ref sig .tc := ⟨.hbm, 76, rfl⟩
abbrev main_v29 : Ref sig .tc := ⟨.hbm, 77, rfl⟩

abbrev nD : Nat := 1
abbrev τ : Topo := Topo.v7x

variable {F : FTy → Type} [FloatOps F]
-- ==== Proof.ExpertsIdeal.Setup.lean ====
/- What the launch of the experts' products is stated over: the buffers as the region finds them, the tables, the windows' blocks. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.ExpertsIdeal

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The host operations write the four buffers they prepare, and no other. -/
theorem kept (c : Dev nD) (b : Ref sig .tc) (hb : b ≠ main_v0 ∧ b ≠ main_v1 ∧ b ≠ main_v2 ∧ b ≠ main_v3) : V m c b = m ((c : Thread nD τ).loc b) :=
  StableHlo.after_of_forall_not_mem (b := Proc.devRef .tc b) _ _ (List.forall_iff_forall_mem.mp (by
    simp only [hostOps0, List.Forall, StableHlo.unary_writes, StableHlo.binary_writes, Finset.mem_singleton]
    exact ⟨StableHlo.devRef_ne_of_ne hb.1, StableHlo.devRef_ne_of_ne hb.2.1, StableHlo.devRef_ne_of_ne hb.2.2.1, StableHlo.devRef_ne_of_ne hb.2.2.2⟩))

theorem V_main_arg0 (c : Dev nD) : V m c main_arg0 = m ((c : Thread nD τ).loc main_arg0) := kept m c main_arg0 (by decide)
theorem V_main_arg1 (c : Dev nD) : V m c main_arg1 = m ((c : Thread nD τ).loc main_arg1) := kept m c main_arg1 (by decide)
theorem V_main_arg2 (c : Dev nD) : V m c main_arg2 = m ((c : Thread nD τ).loc main_arg2) := kept m c main_arg2 (by decide)
theorem V_main_arg3 (c : Dev nD) : V m c main_arg3 = m ((c : Thread nD τ).loc main_arg3) := kept m c main_arg3 (by decide)
theorem V_main_arg4 (c : Dev nD) : V m c main_arg4 = m ((c : Thread nD τ).loc main_arg4) := kept m c main_arg4 (by decide)
theorem V_main_arg5 (c : Dev nD) : V m c main_arg5 = m ((c : Thread nD τ).loc main_arg5) := kept m c main_arg5 (by decide)
theorem V_main_arg6 (c : Dev nD) : V m c main_arg6 = m ((c : Thread nD τ).loc main_arg6) := kept m c main_arg6 (by decide)

/-! ## The prefetched tables, read off the launch memory -/

/-- The tables' contents when the region is entered. -/
def tbl : pre0.Contents (Elt F) := fun j => V m (0 : Dev nD) (pre0.ref j)
/-- Every device's tables hold them: there is one device. -/
theorem V_pre (c : Dev nD) (j : Fin 3) : V m c (pre0.ref j) = tbl m j := by
  obtain rfl : c = 0 := Subsingleton.elim _ _; rfl
/-- Every block the tables name is inside its array. -/
abbrev Ok : Prop := ok0 (F := F) (tbl m)
/-- The tables' contents, and the pipeline at them. -/
abbrev adm (hO : Ok m) : (pcfg0 (F := F)).Adm := ⟨tbl m, hO⟩
abbrev cfgM (hO : Ok m) : Pipeline.Cfg sig Λ₀ := cfg0 (adm m hO)

/-- The three tables as the body is handed them. -/
abbrev tbM0_0 : Memref sig .tc .smem S154 .i32 := Memref.whole main_arg1
abbrev htbM0_0 : tbM0_0.IsWhole := Memref.isWhole_whole _
abbrev tbM0_1 : Memref sig .tc .smem S154 .i32 := Memref.whole main_arg2
abbrev htbM0_1 : tbM0_1.IsWhole := Memref.isWhole_whole _
abbrev tbM0_2 : Memref sig .tc .smem S1 .i32 := Memref.whole main_arg3
abbrev htbM0_2 : tbM0_2.IsWhole := Memref.isWhole_whole _

/-- A table held, to be read only. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves, table by table. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- A window's block at a point, read off its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input's buffer holds its block at every point. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The arguments after a run of the region: as launched. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c)⟩) h

/-! ## The kernel body on any staging memrefs: a subtype the run finds -/

/-- A buffer of the output's. -/
abbrev VO0_5 : View sig .tc .vmem S256x2048 .bf16 := (Memref.whole cc0_stg5_0 : Memref sig .tc .vmem S256x2048 .bf16).view
/-- Each window's buffer at a point. -/
abbrev ms0_0 (hO : Ok m) (t : Fin (cfgM m hO).N) : Memref sig .tc .vmem S256x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x1024 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x512x1024 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1024x1024 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x512x1024 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S256x2048 .bf16 := spec0_5.stage ((cfgM m hO).slots t 5)
abbrev hs0_5 (hO : Ok m) (t : Fin (cfgM m hO).N) : (ms0_5 m hO t).IsWhole := hstage0_5 (((cfgM m hO).slots t 5).cast nbuf0_5)

end Cert.Proof.ExpertsIdeal

end
-- ==== Proof.ExpertsIdeal.Body.lean ====
/- The body at one point: a tile in use gets its two experts' products, any other zeros. -/
module

public import proofs.«01_k».proof.Proof.ExpertsIdeal.Setup
public import Idealize.ShloMosaic.Lib.VecWindow

@[expose] public section

set_option maxRecDepth 16384

noncomputable section

namespace Cert.Proof.ExpertsIdeal

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The third table's only index. -/
def first : S1.Idx := fun a => ⟨0, by have h : a = 0 := Subsingleton.elim _ _; subst h; decide⟩

theorem eq_first (x : S1.Idx) : x = first := funext fun a => Fin.ext (by
  have h : a = 0 := Subsingleton.elim _ _
  subst h
  exact Nat.lt_one_iff.mp (x 0).isLt)

/-- The word of the third table: how many tiles are in use. -/
def used (c : Dev nD) (xt2 : TbBuf0 (F := F) c tbM0_2) : BitVec 32 := (show S1.Idx → BitVec 32 from xt2) first

/-- The block of results at a point, from the blocks staged there. -/
def outBlk (i : grid0.Coords) (nv : BitVec 32) (x0 : Vec F S256x1024 .bf16) (x1 : Vec F S1x1024x1024 .bf16) (x2 : Vec F S1x512x1024 .bf16)
    (x3 : Vec F S1x1024x1024 .bf16) (x4 : Vec F S1x512x1024 .bf16) : Vec F S256x2048 .bf16 :=
  if k0_cond1 i nv = 1#1 then k0_pay1 x0 x1 x2 x3 x4 else k0_pay2

/-- Exactly one of the body's two conditions holds. -/
theorem cond2_iff (i : grid0.Coords) (nv : BitVec 32) : k0_cond2 i nv = 1#1 ↔ ¬ k0_cond1 i nv = 1#1 := by
  unfold k0_cond1 k0_cond2
  simp only [Scalar.cmpi, Scalar.extui, WordCmp.cmpi_slt_eq, WordCmp.cmpi_sge_eq]
  by_cases h : (BitVec.ofNat 32 (i 0).val).toInt < nv.toInt
  · have h' : ¬ nv.toInt ≤ (BitVec.ofNat 32 (i 0).val).toInt := by omega
    simp only [h, h', decide_true, decide_false]; decide
  · have h' : nv.toInt ≤ (BitVec.ofNat 32 (i 0).val).toInt := by omega
    simp only [h, h', decide_true, decide_false]; decide

set_option maxHeartbeats 1000000 in
/-- The body on memrefs holding the staged blocks: it leaves them, and the block of results in the last. -/
theorem sound_kernel (c : Dev nD) (i : grid0.Coords) (arg4 : Memref sig .tc .vmem S256x1024 .bf16) (harg4 : arg4.IsWhole) (arg5 : Memref sig .tc .vmem S1x1024x1024 .bf16) (harg5 : arg5.IsWhole)
    (arg6 : Memref sig .tc .vmem S1x512x1024 .bf16) (harg6 : arg6.IsWhole) (arg7 : Memref sig .tc .vmem S1x1024x1024 .bf16) (harg7 : arg7.IsWhole)
    (arg8 : Memref sig .tc .vmem S1x512x1024 .bf16) (harg8 : arg8.IsWhole) (arg9 : Memref sig .tc .vmem S256x2048 .bf16) (harg9 : arg9.IsWhole)
    (x0 : Vec F S256x1024 .bf16) (x1 : Vec F S1x1024x1024 .bf16) (x2 : Vec F S1x512x1024 .bf16) (x3 : Vec F S1x1024x1024 .bf16) (x4 : Vec F S1x512x1024 .bf16)
    (xt0 : TbBuf0 (F := F) c tbM0_0) (xt1 : TbBuf0 (F := F) c tbM0_1) (xt2 : TbBuf0 (F := F) c tbM0_2) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ tbPt0 c tbM0_0 xt0 ∗ tbPt0 c tbM0_1 xt1 ∗ tbPt0 c tbM0_2 xt2
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare (outBlk i (used c xt2) x0 x1 x2 x3 x4) ∗ tbPt0 c tbM0_0 xt0 ∗ tbPt0 c tbM0_1 xt1 ∗ tbPt0 c tbM0_2 xt2) -∗ K ⟨⟩))
      ⊢ wp frame (wpE (defs₀ (F := F)) Variants.none c none) Set.univ (cc0_moe_expert_pairs i tbM0_0 htbM0_0 tbM0_1 htbM0_1 tbM0_2 htbM0_2 arg4 harg4 arg5 harg5 arg6 harg6 arg7 harg7 arg8 harg8 arg9 harg9) K := by
  simp only [cc0_moe_expert_pairs_eq_skeleton]; unfold cc0_moe_expert_pairs_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, HT1, HT2, Hk⟩
  obtain rfl := harg4.eq_unread hf0; obtain rfl := harg5.eq_unread hf1; obtain rfl := harg6.eq_unread hf2; obtain rfl := harg7.eq_unread hf3; obtain rfl := harg8.eq_unread hf4
  sl_exec
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro
    rw [show sound_kernel.sl.r c xt2 = used c xt2 from congrArg (show S1.Idx → BitVec 32 from xt2) (eq_first _)]
    unfold outBlk
    by_cases h : k0_cond1 i (used c xt2) = 1#1
    · have h2 : ¬ k0_cond2 i (used c xt2) = 1#1 := fun e => (cond2_iff i _).mp e h
      rw [dif_neg h2, dif_pos h, if_pos h]
      refine (View.read_writes_full arg9.view f5 inb_S256x2048_S256x2048_0_0 _ []).trans ?_
      have e0 := (View.readAt_full arg4.view (harg4.unread x0) inb_S256x1024_S256x1024_0_0).trans hf0
      have e1 := (View.readAt_full arg5.view (harg5.unread x1) inb_S1x1024x1024_S1x1024x1024_0_0_0).trans hf1
      have e2 := (View.readAt_full arg6.view (harg6.unread x2) inb_S1x512x1024_S1x512x1024_0_0_0).trans hf2
      have e3 := (View.readAt_full arg7.view (harg7.unread x3) inb_S1x1024x1024_S1x1024x1024_0_0_0).trans hf3
      have e4 := (View.readAt_full arg8.view (harg8.unread x4) inb_S1x512x1024_S1x512x1024_0_0_0).trans hf4
      exact congr (congr (congr (congr (congrArg k0_pay1 e0) e1) e2) e3) e4
    · rw [dif_pos ((cond2_iff i _).mpr h), if_neg h]
      exact View.read_writes_full arg9.view _ inb_S256x2048_S256x2048_0_0 _ []
  isplitl [HT0]; · iexact HT0
  isplitl [HT1]; · iexact HT1
  iexact HT2

end Cert.Proof.ExpertsIdeal

end
-- ==== Proof.ExpertsIdeal.Frame.lean ====
/- The launch of the experts' products: the body at every point, the run, and that the arguments end as they were. -/
module

public import proofs.«01_k».proof.Proof.ExpertsIdeal.Body
public import Idealize.ShloMosaic.Lib.Claim

@[expose] public section

set_option maxRecDepth 16384

noncomputable section

namespace Cert.Proof.ExpertsIdeal

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of results at a point, of the arrays as the region finds them. -/
def outsAt0 (hO : Ok m) (c : Dev nD) (t : Fin (cfgM m hO).N) : Vec F S256x2048 .bf16 :=
  outBlk (grid0.coords t) (used c (tbl m 2)) (iblk m hO c 0 t) (iblk m hO c 1 t) (iblk m hO c 2 t) (iblk m hO c 3 t) (iblk m hO c 4 t)

/-! ## The pipeline's proof data -/

/-- The pipeline's contents: each input's buffer keeps its block, the output's gets the block of results. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => (outsAt0 m hO c t)
  Φ _ := iprop(Pipeline.ΦA spec0 c ∗ Pipeline.ΦT pre0 (tbl m) c)
  q w := Pipeline.shareOf spec0 w
  owed _ := 0

/-- The arrays are as the region finds them. -/
theorem A_eq (hO : Ok m) (c : Dev nD) (w : Fin (cfgM m hO).W) : (dats m hO 0 c).A w = V m c (Pipeline.arrRef spec0 w) := by
  dsimp only [dats]

/-- What the body leaves, window by window. -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = (outsAt0 m hO c t) := by dsimp only [dats]; try rfl

/-- Each input's buffer holds its block before the body. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation, at a generic point -/

/-- What the body is called with at a point, -/
def bodyPre (a : (pcfg0 (F := F)).Adm) (c : Dev nD) (dat : Dat τ (Elt F) Unit ℕ (UR sig nD τ) ℕ (cfg0 a) c) (t : Fin (cfg0 a).N) : sProp 𝕄 :=
  iprop(dat.Φ t.castSucc ∗ dat.owesAt () t.castSucc
    ∗ (∃ d, owns (c : Thread nD τ) (spec0_0.stage ((cfg0 a).slots t 0)) fullShare (dat.before 0 t d))
    ∗ (∃ d, owns (c : Thread nD τ) (spec0_1.stage ((cfg0 a).slots t 1)) fullShare (dat.before 1 t d))
    ∗ (∃ d, owns (c : Thread nD τ) (spec0_2.stage ((cfg0 a).slots t 2)) fullShare (dat.before 2 t d))
    ∗ (∃ d, owns (c : Thread nD τ) (spec0_3.stage ((cfg0 a).slots t 3)) fullShare (dat.before 3 t d))
    ∗ (∃ d, owns (c : Thread nD τ) (spec0_4.stage ((cfg0 a).slots t 4)) fullShare (dat.before 4 t d))
    ∗ (∃ d, owns (c : Thread nD τ) (spec0_5.stage ((cfg0 a).slots t 5)) fullShare (dat.before 5 t d)))

/-- and what it returns. -/
def bodyPost (a : (pcfg0 (F := F)).Adm) (c : Dev nD) (dat : Dat τ (Elt F) Unit ℕ (UR sig nD τ) ℕ (cfg0 a) c) (t : Fin (cfg0 a).N) : sProp 𝕄 :=
  iprop(dat.Φ t.succ ∗ dat.owesAt () t.succ
    ∗ owns (c : Thread nD τ) (spec0_0.stage ((cfg0 a).slots t 0)) fullShare (dat.after 0 t)
    ∗ owns (c : Thread nD τ) (spec0_1.stage ((cfg0 a).slots t 1)) fullShare (dat.after 1 t)
    ∗ owns (c : Thread nD τ) (spec0_2.stage ((cfg0 a).slots t 2)) fullShare (dat.after 2 t)
    ∗ owns (c : Thread nD τ) (spec0_3.stage ((cfg0 a).slots t 3)) fullShare (dat.after 3 t)
    ∗ owns (c : Thread nD τ) (spec0_4.stage ((cfg0 a).slots t 4)) fullShare (dat.after 4 t)
    ∗ owns (c : Thread nD τ) (spec0_5.stage ((cfg0 a).slots t 5)) fullShare (dat.after 5 t))

/-- The body as it is run at a point. -/
abbrev bodyAt0 (a : (pcfg0 (F := F)).Adm) (t : Fin (cfg0 a).N) : Prog (TpuEff nD τ sig (Elt F) Λ₀ .tc) PUnit :=
  cc0_moe_expert_pairs (grid0.coords t) (Memref.whole main_arg1) (Memref.isWhole_whole _) (Memref.whole main_arg2) (Memref.isWhole_whole _) (Memref.whole main_arg3) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5))

/-- The body stores into the output's buffer at every point, whatever the tables. -/
theorem stored (pf : pre0.Contents (Elt F)) (i : grid0.Coords) : idle0 pf 5 i = false := by
  have key : ∀ (w : BitVec 32), (!(k0_cond1 i w == 1#1) && !(k0_cond2 i w == 1#1)) = false := fun w => by
    by_cases h : k0_cond1 i w = 1#1
    · simp [h]
    · simp [(cond2_iff i w).mpr h]
  exact key (pf.atD 2 ![0])

theorem idle_at (a : (pcfg0 (F := F)).Adm) (i : grid0.Coords) : (cfg0 a).idle 5 i = false := stored a.1 i

set_option maxHeartbeats 400000 in
/-- The body at any point. -/
theorem sound_body (hO : Ok m) (c : Dev nD) (t : Fin (cfgM m hO).N) :
    bodyPre (adm m hO) c (dats m hO 0 c) t ⊢ wp frame (wpE (defs₀ (F := F)) Variants.none c none) Set.univ (bodyAt0 (adm m hO) t) (fun _ => bodyPost (adm m hO) c (dats m hO 0 c) t) := by
  unfold bodyPre bodyPost bodyAt0
  simp only [before0_0, before0_1, before0_2, before0_3, before0_4]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5]
  rw [show (dats m hO 0 c).Φ t.castSucc = iprop(Pipeline.ΦA spec0 c ∗ Pipeline.ΦT pre0 (tbl m) c) from rfl, PhiT0_eq]
  unfold outsAt0
  iintro ⟨⟨HΦ, ⟨HT0, HT1, HT2⟩⟩, Ho, ⟨%d0, H0⟩, ⟨%d1, H1⟩, ⟨%d2, H2⟩, ⟨%d3, H3⟩, ⟨%d4, H4⟩, ⟨%d5, H5⟩⟩
  iapply (sound_kernel c (grid0.coords t) _ _ _ _ _ _ _ _ _ _ _ _ (iblk m hO c 0 t) (iblk m hO c 1 t) (iblk m hO c 2 t) (iblk m hO c 3 t) (iblk m hO c 4 t) (tbl m 0) (tbl m 1) (tbl m 2) _)
  isplitl [H0]; · iexact H0
  isplitl [H1]; · iexact H1
  isplitl [H2]; · iexact H2
  isplitl [H3]; · iexact H3
  isplitl [H4]; · iexact H4
  isplitl [H5]; · iexists _; iexact H5
  isplitl [HT0]; · iexact HT0
  isplitl [HT1]; · iexact HT1
  isplitl [HT2]; · iexact HT2
  iintro ⟨H0, H1, H2, H3, H4, H5, HT0, HT1, HT2⟩
  isplitl [HΦ HT0 HT1 HT2]
  · isplitl [HΦ]
    · iexact HΦ
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  iexact H5

/-- The body's row of the table of bodies. -/
theorem defs₀_row (a : (pcfg0 (F := F)).Adm) (t : Fin (cfg0 a).N) :
    defs₀ (F := F) .tc (cfg0 a).body ((cfg0 a).bodyArgs t ((cfg0 a).slots t)) = bodyAt0 a t := by
  unfold defs₀; rw [Defs.onTc_tc]

set_option maxHeartbeats 400000 in
/-- A body that keeps to the two above at every point is what the pipeline asks for, whatever the tables and the contents. -/
theorem obligation_of (a : (pcfg0 (F := F)).Adm) (c : Dev nD) (dat : Dat τ (Elt F) Unit ℕ (UR sig nD τ) ℕ (cfg0 a) c)
    (h : ∀ t, bodyPre a c dat t ⊢ wp frame (wpE (defs₀ (F := F)) Variants.none c none) Set.univ (bodyAt0 a t) (fun _ => bodyPost a c dat t)) :
    BodyObligation dat (defs₀ (F := F)) Variants.none () Set.univ := fun t => by
  rw [bigSep_W0, bigSep_W0, defs₀_row a]
  refine triple_restated (h t) rfl .rfl fun _ => ?_
  unfold bodyPost
  iintro ⟨HΦ, Ho, H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  dsimp only
  split
  · next e => exact absurd ((idle_at a (grid0.coords t)).symm.trans e) (by decide)
  · iexact H5

/-- The body at every point, as the pipeline asks for it. -/
theorem body_obligation (hO : Ok m) (c : Dev nD) : BodyObligation (dats (F := F) m hO 0 c) (defs₀ (F := F)) Variants.none () Set.univ :=
  obligation_of (adm m hO) c (dats m hO 0 c) (sound_body m hO c)

/-! ## The run and the frame -/

set_option backward.isDefEq.respectTransparency.types false in
/-- Every run ends, the arrays as computed, the other buffers as found and every counter zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hΦ := fun _ _ => rfl)

/-- Every run ends, the arrays as computed and the other buffers as found. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The arguments end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hO)

/-- The arguments end unchanged and every counter is zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.Proof.ExpertsIdeal

end
-- ==== Proof.ExpertsIdeal.Tables.lean ====
/- The tables' words: which blocks they name, and that these lie inside the arrays. -/
module

public import proofs.«01_k».proof.Proof.ExpertsIdeal.Body
public import Idealize.ShloMosaic.Lib.Affine

@[expose] public section

set_option maxRecDepth 16384

noncomputable section

namespace Cert.Proof.ExpertsIdeal

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A word that is not negative and below sixteen, as the comparisons say it. -/
theorem toNat_lt_of (w : BitVec 32) (h0 : IntOp.cmpi .sge w 0#32 = 1#1) (h1 : IntOp.cmpi .slt w 16#32 = 1#1) : w.toNat < 16 := by
  rw [WordCmp.cmpi_sge_eq] at h0
  rw [WordCmp.cmpi_slt_eq] at h1
  have e0 : (0#32 : BitVec 32).toInt = 0 := by decide
  have e1 : (16#32 : BitVec 32).toInt = 16 := by decide
  have a0 : 0 ≤ w.toInt := by
    by_contra h; rw [e0, decide_eq_false h] at h0; exact absurd h0 (by decide)
  have a1 : w.toInt < 16 := by
    by_contra h; rw [e1, decide_eq_false h] at h1; exact absurd h1 (by decide)
  rw [BitVec.toInt_eq_toNat_cond] at a0 a1
  split at a0 <;> omega

/-- A positive word, as the comparison says it. -/
theorem pos_of (w : BitVec 32) (h : IntOp.cmpi .sge w 1#32 = 1#1) : 1 ≤ w.toInt := by
  rw [WordCmp.cmpi_sge_eq] at h
  have e1 : (1#32 : BitVec 32).toInt = 1 := by decide
  by_contra h'
  rw [e1, decide_eq_false h'] at h; exact absurd h (by decide)

theorem toInt_tile (k : ℕ) (hk : k < 154) : (BitVec.ofNat 32 k).toInt = k := WordCmp.toInt_ofNat_of_lt (by omega)

theorem toInt_pred (w : BitVec 32) (h : 1 ≤ w.toInt) : (w - 1#32).toInt = w.toInt - 1 := by
  have hw := w.isLt
  rw [BitVec.toInt_eq_toNat_cond] at h ⊢
  rw [BitVec.toInt_eq_toNat_cond, BitVec.toNat_sub]
  have e1 : (1#32 : BitVec 32).toNat = 1 := by decide
  rw [e1]
  split at h
  · have : (2 ^ 32 - 1 + w.toNat) % 2 ^ 32 = w.toNat - 1 := by omega
    rw [this]; split <;> omega
  · omega

/-- The rows staged for a tile: its own while tiles are in use, the last one's after. -/
theorem row_tile (k : ℕ) (hk : k < 154) (w : BitVec 32) (h : 1 ≤ w.toInt) :
    (Scalar.minsi (BitVec.ofNat 32 k) (Scalar.subi w 1#32)).toNat ≤ k
      ∧ ((k : ℤ) < w.toInt → (Scalar.minsi (BitVec.ofNat 32 k) (Scalar.subi w 1#32)).toNat = k) := by
  have hp := toInt_pred w h
  have hkt := toInt_tile k hk
  have hkn : (BitVec.ofNat 32 k).toNat = k := by rw [BitVec.toNat_ofNat]; omega
  show (if (BitVec.ofNat 32 k).slt (w - 1#32) then BitVec.ofNat 32 k else w - 1#32).toNat ≤ k
    ∧ (_ → (if (BitVec.ofNat 32 k).slt (w - 1#32) then BitVec.ofNat 32 k else w - 1#32).toNat = k)
  by_cases hc : (BitVec.ofNat 32 k).toInt < (w - 1#32).toInt
  · have : (BitVec.ofNat 32 k).slt (w - 1#32) = true := decide_eq_true hc
    rw [if_pos this, hkn]; exact ⟨le_rfl, fun _ => rfl⟩
  · have : ¬ (BitVec.ofNat 32 k).slt (w - 1#32) = true := fun e => hc (of_decide_eq_true e)
    rw [if_neg this]
    rw [hkt, hp] at hc
    have hn : ((w - 1#32).toNat : ℤ) = w.toInt - 1 := by
      rw [← hp, BitVec.toInt_eq_toNat_cond]
      have h0 : 0 ≤ (w - 1#32).toInt := by omega
      rw [BitVec.toInt_eq_toNat_cond] at h0
      split at h0 <;> [rw [if_pos (by assumption)]; (have := (w - 1#32).isLt; omega)]
    constructor
    · omega
    · intro hlt; omega

/-- An expert's name for each tile, first and second, and the number of tiles in use. -/
def e1 (pf : pre0.Contents (Elt F)) : S154.Idx → BitVec 32 := pf 0
def e2 (pf : pre0.Contents (Elt F)) : S154.Idx → BitVec 32 := pf 1
def nv (pf : pre0.Contents (Elt F)) : BitVec 32 := (show S1.Idx → BitVec 32 from pf 2) first

/-- A tile's index into the tables. -/
def tile (i : grid0.Coords) : S154.Idx := fun a => ⟨(i 0).val, by have h : a = 0 := Subsingleton.elim _ _; subst h; exact (i 0).isLt⟩

/-- The tables name experts there are, and some tile is in use. -/
def Good (pf : pre0.Contents (Elt F)) : Prop := (∀ x, (e1 pf x).toNat < 16) ∧ (∀ x, (e2 pf x).toNat < 16) ∧ 1 ≤ (nv pf).toInt

theorem off_tile (i : grid0.Coords) : (BitVec.ofNat 32 (i 0).val).toNat + 1 * 0 = (i 0).val := by
  have hi : (i 0).val < 154 := (i 0).isLt
  rw [BitVec.toNat_ofNat]; omega

theorem at_first (pf : pre0.Contents (Elt F)) (i : grid0.Coords) :
    pf.at 0 (Rect.unit (s := S154) (k0_off1 i) S1.size (k0_off1_inb i)) numel1_S1 = e1 pf (tile i) := by
  refine congrArg (e1 pf) (funext fun (a : Fin 1) => Fin.ext ?_)
  obtain rfl : a = 0 := Subsingleton.elim _ _
  exact off_tile i

theorem at_second (pf : pre0.Contents (Elt F)) (i : grid0.Coords) :
    pf.at 1 (Rect.unit (s := S154) (k0_off1 i) S1.size (k0_off1_inb i)) numel1_S1 = e2 pf (tile i) := by
  refine congrArg (e2 pf) (funext fun (a : Fin 1) => Fin.ext ?_)
  obtain rfl : a = 0 := Subsingleton.elim _ _
  exact off_tile i

theorem at_count (pf : pre0.Contents (Elt F)) : pf.at 2 (Rect.unit (s := S1) ![0] S1.size inb_S1_S1_0) numel1_S1 = nv pf :=
  congrArg (show S1.Idx → BitVec 32 from pf 2) (eq_first _)

theorem tile_lt (i : grid0.Coords) : (i 0).val < 154 := (i 0).isLt

/-- Each window's block, from the tables' words. -/
theorem ix0_eq (pf : pre0.Contents (Elt F)) (i : grid0.Coords) :
    cc0_transform_0 inb_S1_S1_0 numel1_S1 pf i = ![(Scalar.minsi (BitVec.ofNat 32 (i 0).val) (Scalar.subi (nv pf) 1#32)).toNat, 0] :=
  congrArg (fun w : BitVec 32 => ![(Scalar.minsi (BitVec.ofNat 32 (i 0).val) (Scalar.subi w 1#32)).toNat, 0]) (at_count pf)
theorem ix1_eq (pf : pre0.Contents (Elt F)) (i : grid0.Coords) : cc0_transform_1 k0_off1_inb numel1_S1 pf i = ![(e1 pf (tile i)).toNat, 0, 0] :=
  congrArg (fun w : BitVec 32 => ![w.toNat, 0, 0]) (at_first pf i)
theorem ix2_eq (pf : pre0.Contents (Elt F)) (i : grid0.Coords) : cc0_transform_2 k0_off1_inb numel1_S1 pf i = ![(e1 pf (tile i)).toNat, 0, 0] :=
  congrArg (fun w : BitVec 32 => ![w.toNat, 0, 0]) (at_first pf i)
theorem ix3_eq (pf : pre0.Contents (Elt F)) (i : grid0.Coords) : cc0_transform_3 k0_off1_inb numel1_S1 pf i = ![(e2 pf (tile i)).toNat, 0, 0] :=
  congrArg (fun w : BitVec 32 => ![w.toNat, 0, 0]) (at_second pf i)
theorem ix4_eq (pf : pre0.Contents (Elt F)) (i : grid0.Coords) : cc0_transform_4 k0_off1_inb numel1_S1 pf i = ![(e2 pf (tile i)).toNat, 0, 0] :=
  congrArg (fun w : BitVec 32 => ![w.toNat, 0, 0]) (at_second pf i)

theorem inside3 {n p q : ℕ} (w : ℕ) (hw : w < n) (a : Fin 3) : ((![w, 0, 0] : Fin 3 → ℕ) a + 1) * (![1, p, q] : Fin 3 → ℕ) a ≤ (![n, p, q] : Fin 3 → ℕ) a := by
  fin_cases a
  · show (w + 1) * 1 ≤ n; omega
  · show (0 + 1) * p ≤ p; omega
  · show (0 + 1) * q ≤ q; omega

/-- Every block such tables name lies inside its array. -/
theorem ok_of (pf : pre0.Contents (Elt F)) (h : Good pf) : ok0 pf := by
  refine ⟨fun i => ⟨?_, .inr (Affine.block_words_dvd (of_decide_eq_true rfl) (by decide))⟩, fun i => ⟨?_, .inr (Affine.block_words_dvd (of_decide_eq_true rfl) (by decide))⟩,
    fun i => ⟨?_, .inr (Affine.block_words_dvd (of_decide_eq_true rfl) (by decide))⟩, fun i => ⟨?_, .inr (Affine.block_words_dvd (of_decide_eq_true rfl) (by decide))⟩,
    fun i => ⟨?_, .inr (Affine.block_words_dvd (of_decide_eq_true rfl) (by decide))⟩⟩
  · intro a
    rw [ix0_eq]
    have hr := (row_tile (i 0).val (tile_lt i) (nv pf) h.2.2).1
    have hi := tile_lt i
    generalize (Scalar.minsi (BitVec.ofNat 32 (i 0).val) (Scalar.subi (nv pf) 1#32)).toNat = k at hr ⊢
    fin_cases a
    · show (k + 1) * 256 ≤ 39424; omega
    · show (0 + 1) * 1024 ≤ 1024; omega
  · rw [ix1_eq]; exact inside3 _ (h.1 _)
  · rw [ix2_eq]; exact inside3 _ (h.1 _)
  · rw [ix3_eq]; exact inside3 _ (h.2.1 _)
  · rw [ix4_eq]; exact inside3 _ (h.2.1 _)

variable (m : (ℓ : Loc nD τ sig) → Buf (Elt F) ℓ)

theorem tbl_e1 : e1 (tbl m) = m (((0 : Dev nD) : Thread nD τ).loc main_arg1) := V_main_arg1 m 0
theorem tbl_e2 : e2 (tbl m) = m (((0 : Dev nD) : Thread nD τ).loc main_arg2) := V_main_arg2 m 0
theorem tbl_nv : nv (tbl m) = (show S1.Idx → BitVec 32 from m (((0 : Dev nD) : Thread nD τ).loc main_arg3)) first := congrFun (V_main_arg3 m 0) first

/-- The precondition's comparisons give such tables. -/
theorem good_of (h1 : ∀ x, IntOp.cmpi .sge ((show S154.Idx → BitVec 32 from m (((0 : Dev nD) : Thread nD τ).loc main_arg1)) x) 0#32 = 1#1)
    (h2 : ∀ x, IntOp.cmpi .slt ((show S154.Idx → BitVec 32 from m (((0 : Dev nD) : Thread nD τ).loc main_arg1)) x) 16#32 = 1#1)
    (h3 : ∀ x, IntOp.cmpi .sge ((show S154.Idx → BitVec 32 from m (((0 : Dev nD) : Thread nD τ).loc main_arg2)) x) 0#32 = 1#1)
    (h4 : ∀ x, IntOp.cmpi .slt ((show S154.Idx → BitVec 32 from m (((0 : Dev nD) : Thread nD τ).loc main_arg2)) x) 16#32 = 1#1)
    (h5 : ∀ x, IntOp.cmpi .sge ((show S1.Idx → BitVec 32 from m (((0 : Dev nD) : Thread nD τ).loc main_arg3)) x) 1#32 = 1#1) : Good (tbl m) :=
  ⟨fun x => by rw [tbl_e1]; exact toNat_lt_of _ (h1 x) (h2 x), fun x => by rw [tbl_e2]; exact toNat_lt_of _ (h3 x) (h4 x),
    by rw [tbl_nv]; exact pos_of _ (h5 first)⟩

end Cert.Proof.ExpertsIdeal

end
-- ==== Proof.ExpertsIdeal.Row.lean ====
/- What one expert makes of one row. -/
module

public import Idealize.ShloMosaic.Lib.Pipeline.ValueKit

@[expose] public section

noncomputable section

namespace Cert.Proof.ExpertsIdeal

open Idealize.ShloMosaic

/-- A hidden unit: the gate's product with its own logistic, times the other product. -/
def hid (x : Fin 1024 → EReal) (w1 w3 : Fin 1024 → Fin 512 → EReal) (f : Fin 512) : EReal :=
  (∑ d : Fin 1024, x d * w1 d f) * Ideal.logistic (∑ d : Fin 1024, x d * w1 d f) * ∑ d : Fin 1024, x d * w3 d f

/-- A column of an expert's output. -/
def mlp (x : Fin 1024 → EReal) (w1 w3 : Fin 1024 → Fin 512 → EReal) (w2 : Fin 512 → EReal) : EReal := ∑ f : Fin 512, hid x w1 w3 f * w2 f

/-- The expert a table's word names. -/
def expert (w : BitVec 32) : Fin 16 := ⟨w.toNat % 16, by omega⟩

theorem expert_val {w : BitVec 32} (h : w.toNat < 16) : (expert w).val = w.toNat := Nat.mod_eq_of_lt h

/-- The results: for a row of a tile in use the first expert's outputs and then the second's, for any other zero. -/
def pairs (x : Fin 39424 → Fin 1024 → EReal) (e1 e2 : Fin 154 → BitVec 32) (n : BitVec 32) (w1 w3 : Fin 16 → Fin 1024 → Fin 512 → EReal)
    (w2 : Fin 16 → Fin 512 → Fin 1024 → EReal) (r : Fin 39424) (l : Fin 2048) : EReal :=
  if ((r.val / 256 : ℕ) : ℤ) < n.toInt then
    (if h : l.val < 1024
      then mlp (x r) (w1 (expert (e1 ⟨r.val / 256, by omega⟩))) (w3 (expert (e1 ⟨r.val / 256, by omega⟩))) (fun f => w2 (expert (e1 ⟨r.val / 256, by omega⟩)) f ⟨l.val, h⟩)
      else mlp (x r) (w1 (expert (e2 ⟨r.val / 256, by omega⟩))) (w3 (expert (e2 ⟨r.val / 256, by omega⟩))) (fun f => w2 (expert (e2 ⟨r.val / 256, by omega⟩)) f ⟨l.val - 1024, by omega⟩))
  else 0

end Cert.Proof.ExpertsIdeal

end
-- ==== Proof.ExpertsIdeal.Blocks.lean ====
/- The blocks staged at a tile, read at an index. -/
module

public import proofs.«01_k».proof.Proof.ExpertsIdeal.Tables
public import proofs.«01_k».proof.Proof.ExpertsIdeal.Row
public import Idealize.ShloMosaic.Lib.Pipeline.ValueKit

@[expose] public section

set_option maxRecDepth 16384

noncomputable section

namespace Cert.Proof.ExpertsIdeal

open Cert.Kernel2Ideal Cert.Kernel2Ideal.Gen
open Idealize.ShloMosaic Idealize.ShloMosaic.TcCoe Idealize.ShloMosaic.Tactic

variable (a : (pcfg0 (F := Ideal)).Adm)

/-- A point's tile. -/
theorem tile_lt' (t : Fin (cfg0 a).N) : (grid0.coords t 0).val < 154 := tile_lt (grid0.coords t)

/-- A tile's rows. -/
def rowOf (t : Fin (cfg0 a).N) (r : Fin 256) : Fin 39424 := ⟨(grid0.coords t 0).val * 256 + r.val, by have := tile_lt' a t; omega⟩

/-- The rows staged for a tile in use. -/
theorem read0 (hg : Good a.1) (A : S39424x1024.Idx → EReal) (t : Fin (cfg0 a).N) (hu : (((grid0.coords t 0).val : ℕ) : ℤ) < (nv a.1).toInt) (r : Fin 256) (d : Fin 1024) :
    ((((cfg0 a).win 0).blk t).view.read (Elt Ideal) A (ix2 r d) : EReal) = A (ix2 (rowOf a t r) d) := by
  have h0 : ((cfg0 a).win 0).index t = ![(grid0.coords t 0).val, 0] :=
    (ix0_eq a.1 (grid0.coords t)).trans (by rw [(row_tile _ (tile_lt' a t) _ hg.2.2).2 hu])
  blk_simp
  refine congrArg A (funext fun x => Fin.ext ?_)
  fin_cases x
  · blk_simp [h0] <;> rfl
  · blk_simp [h0] <;> rfl

/-- The weights staged of the first expert, into its hidden units. -/
theorem read1 (hg : Good a.1) (A : S16x1024x1024.Idx → EReal) (t : Fin (cfg0 a).N) (d : Fin 1024) (l : Fin 1024) :
    ((((cfg0 a).win 1).blk t).view.read (Elt Ideal) A (ix3 0 d l) : EReal) = A (ix3 (expert (e1 a.1 (tile (grid0.coords t)))) d l) := by
  have h0 : ((cfg0 a).win 1).index t = ![(expert (e1 a.1 (tile (grid0.coords t)))).val, 0, 0] :=
    (ix1_eq a.1 (grid0.coords t)).trans (by rw [expert_val (hg.1 _)])
  blk_simp
  refine congrArg A (funext fun x => Fin.ext ?_)
  fin_cases x
  · blk_simp [h0] <;> rfl
  · blk_simp [h0] <;> rfl
  · blk_simp [h0] <;> rfl

/-- The weights staged of the first expert, out of its hidden units. -/
theorem read2 (hg : Good a.1) (A : S16x512x1024.Idx → EReal) (t : Fin (cfg0 a).N) (d : Fin 512) (l : Fin 1024) :
    ((((cfg0 a).win 2).blk t).view.read (Elt Ideal) A (ix3 0 d l) : EReal) = A (ix3 (expert (e1 a.1 (tile (grid0.coords t)))) d l) := by
  have h0 : ((cfg0 a).win 2).index t = ![(expert (e1 a.1 (tile (grid0.coords t)))).val, 0, 0] :=
    (ix2_eq a.1 (grid0.coords t)).trans (by rw [expert_val (hg.1 _)])
  blk_simp
  refine congrArg A (funext fun x => Fin.ext ?_)
  fin_cases x
  · blk_simp [h0] <;> rfl
  · blk_simp [h0] <;> rfl
  · blk_simp [h0] <;> rfl

/-- The weights staged of the second expert, into its hidden units. -/
theorem read3 (hg : Good a.1) (A : S16x1024x1024.Idx → EReal) (t : Fin (cfg0 a).N) (d : Fin 1024) (l : Fin 1024) :
    ((((cfg0 a).win 3).blk t).view.read (Elt Ideal) A (ix3 0 d l) : EReal) = A (ix3 (expert (e2 a.1 (tile (grid0.coords t)))) d l) := by
  have h0 : ((cfg0 a).win 3).index t = ![(expert (e2 a.1 (tile (grid0.coords t)))).val, 0, 0] :=
    (ix3_eq a.1 (grid0.coords t)).trans (by rw [expert_val (hg.2.1 _)])
  blk_simp
  refine congrArg A (funext fun x => Fin.ext ?_)
  fin_cases x
  · blk_simp [h0] <;> rfl
  · blk_simp [h0] <;> rfl
  · blk_simp [h0] <;> rfl

/-- The weights staged of the second expert, out of its hidden units. -/
theorem read4 (hg : Good a.1) (A : S16x512x1024.Idx → EReal) (t : Fin (cfg0 a).N) (d : Fin 512) (l : Fin 1024) :
    ((((cfg0 a).win 4).blk t).view.read (Elt Ideal) A (ix3 0 d l) : EReal) = A (ix3 (expert (e2 a.1 (tile (grid0.coords t)))) d l) := by
  have h0 : ((cfg0 a).win 4).index t = ![(expert (e2 a.1 (tile (grid0.coords t)))).val, 0, 0] :=
    (ix4_eq a.1 (grid0.coords t)).trans (by rw [expert_val (hg.2.1 _)])
  blk_simp
  refine congrArg A (funext fun x => Fin.ext ?_)
  fin_cases x
  · blk_simp [h0] <;> rfl
  · blk_simp [h0] <;> rfl
  · blk_simp [h0] <;> rfl

/-- The tile of results at a point. -/
theorem index5 (t : Fin (cfg0 a).N) : ((cfg0 a).win 5).index t = ![(grid0.coords t 0).val, 0] := by
  refine (rfl : _ = ![(BitVec.ofNat 32 (grid0.coords t 0).val).toNat, 0]).trans ?_
  rw [BitVec.toNat_ofNat, Nat.mod_eq_of_lt (by have := tile_lt' a t; omega)]

/-- A tile of the results, in their array. -/
theorem emb5 (t : Fin (cfg0 a).N) (r : Fin 256) (l : Fin 2048) :
    ((((cfg0 a).win 5).blk t).view.emb (ix2 r l) : S39424x2048.Idx) = ix2 (rowOf a t r) l := by
  have h0 := index5 a t
  refine funext fun x => Fin.ext ?_
  fin_cases x
  · blk_simp [h0] <;> rfl
  · blk_simp [h0] <;> rfl

end Cert.Proof.ExpertsIdeal

end
-- ==== Proof.ExpertsIdeal.Host.lean ====
/- The operands the host prepares, read at an index. -/
module

public import proofs.«01_k».proof.Proof.ExpertsIdeal.Setup
public import Idealize.ShloMosaic.Lib.Pipeline.ValueKit
public import Idealize.ShloMosaic.Lib.StableHlo.ReadAt

@[expose] public section

set_option maxRecDepth 16384

noncomputable section

namespace Cert.Proof.ExpertsIdeal

open Cert.Kernel2Ideal Cert.Kernel2Ideal.Gen
open Idealize.ShloMosaic Idealize.ShloMosaic.TcCoe Idealize.ShloMosaic.Tactic

variable (m : (ℓ : Loc nD τ sig) → Buf (Elt Ideal) ℓ)

/-- The rows, as launched. -/
def aX (c : Dev nD) : S39424x1024.Idx → EReal := m ((c : Thread nD τ).loc main_arg0)
/-- The gates' weights. -/
def aG (c : Dev nD) : S16x1024x512.Idx → EReal := m ((c : Thread nD τ).loc main_arg4)
/-- The other weights into the hidden units. -/
def aU (c : Dev nD) : S16x1024x512.Idx → EReal := m ((c : Thread nD τ).loc main_arg5)
/-- The weights out of them. -/
def aD (c : Dev nD) : S16x512x1024.Idx → EReal := m ((c : Thread nD τ).loc main_arg6)

/-- The rows as prepared. -/
theorem v2_at (c : Dev nD) (r : Fin 39424) (d : Fin 1024) : (V m c main_v2 : S39424x1024.Idx → EReal) (ix2 r d) = aX m c (ix2 r d) := by
  unfold V hostOps0
  after_reads_at
  rfl

/-- The weights into the hidden units as prepared: the gates' first. -/
theorem v1_at (c : Dev nD) (e : Fin 16) (d : Fin 1024) (l : Fin 1024) : (V m c main_v1 : S16x1024x1024.Idx → EReal) (ix3 e d l)
    = if h : l.val < 512 then aG m c (ix3 e d ⟨l.val, h⟩) else aU m c (ix3 e d ⟨l.val - 512, by omega⟩) := by
  unfold V hostOps0
  after_reads_at
  after_reads_simp
  rfl

/-- The weights out of them as prepared. -/
theorem v3_at (c : Dev nD) (e : Fin 16) (f : Fin 512) (l : Fin 1024) : (V m c main_v3 : S16x512x1024.Idx → EReal) (ix3 e f l) = aD m c (ix3 e f l) := by
  unfold V hostOps0
  after_reads_at
  rfl

end Cert.Proof.ExpertsIdeal

end
-- ==== Proof.ExpertsIdeal.Pay.lean ====
/- The tile's body, read at an index. -/
module

public import proofs.«01_k».proof.Proof.Gen.Kernel2Ideal.Skeleton
public import proofs.«01_k».proof.Proof.ExpertsIdeal.Row

@[expose] public section

set_option maxRecDepth 16384

noncomputable section

namespace Cert.Proof.ExpertsIdeal

open Cert.Kernel2Ideal Cert.Kernel2Ideal.Gen
open Idealize.ShloMosaic Idealize.ShloMosaic.TcCoe Idealize.ShloMosaic.Tactic

/-- A row of a tile, at a column: the first expert's outputs, then the second's. -/
theorem pay1_at (x : Vec Ideal S256x1024 .bf16) (p : Vec Ideal S1x1024x1024 .bf16) (q : Vec Ideal S1x512x1024 .bf16) (p' : Vec Ideal S1x1024x1024 .bf16) (q' : Vec Ideal S1x512x1024 .bf16)
    (r : Fin 256) (l : Fin 2048) :
    (k0_pay1 x p q p' q' (ix2 r l) : EReal) = if h : l.val < 1024
      then mlp (fun d => x (ix2 r d)) (fun d f => p (ix3 0 d ⟨f.val, by omega⟩)) (fun d f => p (ix3 0 d ⟨512 + f.val, by omega⟩)) (fun f => q (ix3 0 f ⟨l.val, h⟩))
      else mlp (fun d => x (ix2 r d)) (fun d f => p' (ix3 0 d ⟨f.val, by omega⟩)) (fun d f => p' (ix3 0 d ⟨512 + f.val, by omega⟩)) (fun f => q' (ix3 0 f ⟨l.val - 1024, by omega⟩)) := by
  unfold mlp hid
  pointwise [k0_pay1]

/-- A tile not in use is zero. -/
theorem pay2_at (r : Fin 256) (l : Fin 2048) : ((k0_pay2 (F := Ideal)) (ix2 r l) : EReal) = 0 := by
  pointwise [k0_pay2]

end Cert.Proof.ExpertsIdeal

end
-- ==== Proof.ExpertsIdeal.Kern.lean ====
/- The array of results the experts' launch leaves. -/
module

public import proofs.«01_k».proof.Proof.ExpertsIdeal.Blocks
public import proofs.«01_k».proof.Proof.ExpertsIdeal.Host
public import proofs.«01_k».proof.Proof.ExpertsIdeal.Pay
public import proofs.«01_k».proof.Proof.ExpertsIdeal.Frame

@[expose] public section

set_option maxRecDepth 16384

noncomputable section

namespace Cert.Proof.ExpertsIdeal

open Cert.Kernel2Ideal Cert.Kernel2Ideal.Gen
open Idealize.ShloMosaic Idealize.ShloMosaic.TcCoe Idealize.ShloMosaic.Tactic
open Idealize.SL Idealize.SL.RA
open Idealize.ShloMosaic.Rounds
open Idealize.ShloMosaic.Pipeline (Dat)

/-- The body multiplies while the tile is in use. -/
theorem cond1_iff (i : grid0.Coords) (n : BitVec 32) : k0_cond1 i n = 1#1 ↔ (((i 0).val : ℕ) : ℤ) < n.toInt := by
  have ht := toInt_tile (i 0).val (tile_lt i)
  unfold k0_cond1
  simp only [Scalar.cmpi, Scalar.extui, WordCmp.cmpi_slt_eq, ht]
  by_cases h : (((i 0).val : ℕ) : ℤ) < n.toInt
  · rw [decide_eq_true h]; exact iff_of_true (by decide) h
  · rw [decide_eq_false h]; exact iff_of_false (by decide) h

section
variable (a : (pcfg0 (F := Ideal)).Adm)

/-- A row's tile. -/
theorem rowOf_div (t : Fin (cfg0 a).N) (r : Fin 256) : (rowOf a t r).val / 256 = (grid0.coords t 0).val := by
  show ((grid0.coords t 0).val * 256 + r.val) / 256 = _
  omega

theorem at_tile (t : Fin (cfg0 a).N) (h : (grid0.coords t 0).val < 154) : (ix1 ⟨(grid0.coords t 0).val, h⟩ : S154.Idx) = tile (grid0.coords t) := by
  funext (x : Fin 1)
  obtain rfl : x = 0 := Subsingleton.elim _ _
  rfl

/-- A tile of results, of the arrays its blocks are read from. -/
theorem tile_at (hg : Good a.1) (X : S39424x1024.Idx → EReal) (W : S16x1024x1024.Idx → EReal) (D : S16x512x1024.Idx → EReal) (n : BitVec 32) (hn : n = nv a.1)
    (t : Fin (cfg0 a).N) (r : Fin 256) (l : Fin 2048) :
    (outBlk (F := Ideal) (grid0.coords t) n ((((cfg0 a).win 0).blk t).view.read (Elt Ideal) X) ((((cfg0 a).win 1).blk t).view.read (Elt Ideal) W)
        ((((cfg0 a).win 2).blk t).view.read (Elt Ideal) D) ((((cfg0 a).win 3).blk t).view.read (Elt Ideal) W) ((((cfg0 a).win 4).blk t).view.read (Elt Ideal) D) (ix2 r l) : EReal)
      = pairs (fun r d => X (ix2 r d)) (fun i => e1 a.1 (ix1 i)) (fun i => e2 a.1 (ix1 i)) (nv a.1) (fun e d f => W (ix3 e d ⟨f.val, by omega⟩))
          (fun e d f => W (ix3 e d ⟨512 + f.val, by omega⟩)) (fun e f l => D (ix3 e f l)) (rowOf a t r) l := by
  subst hn
  unfold outBlk pairs
  simp only [rowOf_div, at_tile]
  by_cases hu : (((grid0.coords t 0).val : ℕ) : ℤ) < (nv a.1).toInt
  · rw [if_pos ((cond1_iff _ _).mpr hu), if_pos hu]
    refine (pay1_at _ _ _ _ _ r l).trans ?_
    by_cases hl : l.val < 1024
    · rw [dif_pos hl, dif_pos hl]
      simp only [read0 a hg X t hu, read1 a hg W t, read2 a hg D t]
    · rw [dif_neg hl, dif_neg hl]
      simp only [read0 a hg X t hu, read3 a hg W t, read4 a hg D t]
  · rw [if_neg (fun e => hu ((cond1_iff _ _).mp e)), if_neg hu]
    exact pay2_at r l

theorem coord_self : ∀ t : Fin grid0.N, (grid0.coords t 0).val = t.val := by decide +kernel

/-- The tiles of results cover their array. -/
theorem covers5 : ((cfg0 a).win 5).Covers := by
  refine ⟨fun x => ?_, fun β => ?_⟩
  · fin_cases x
    · show 0 < 256; decide
    · show 0 < 2048; decide
  · have n0 : ((cfg0 a).win 5).nblk (0 : Fin 2) = 154 := by show (39424 + 256 - 1) / 256 = 154; norm_num
    have n1 : ((cfg0 a).win 5).nblk (1 : Fin 2) = 1 := by show (2048 + 2048 - 1) / 2048 = 1; norm_num
    have h0 : (β (0 : Fin 2)).val < 154 := lt_of_lt_of_eq (β (0 : Fin 2)).isLt n0
    have h1 : (β (1 : Fin 2)).val < 1 := lt_of_lt_of_eq (β (1 : Fin 2)).isLt n1
    refine ⟨(⟨(β (0 : Fin 2)).val, h0⟩ : Fin grid0.N), ?_, fun x => ⟨?_, .inl rfl⟩⟩
    · exact (Pipeline.Window.flushOf_reads cc0_transform_5 reads0_5 hreads0_5 0 (by decide) (by decide) (Pipeline.Window.sep_of_coord cc0_transform_5 0 0 (fun _ => rfl) (by decide))
        (P := 1) (m := 0) (by decide) rfl _).mpr (Nat.mod_one _)
    · rw [index5]
      fin_cases x
      · exact coord_self _
      · show 0 = (β (1 : Fin 2)).val; omega

/-- What an array ends as whose every tile is a part of it. -/
theorem arr_of (c : Dev nD) (dat : Dat τ (Elt Ideal) Unit ℕ (UR sig nD τ) ℕ (cfg0 a) c) (R : S39424x2048.Idx → EReal)
    (h : ∀ (t : Fin (cfg0 a).N) (r : Fin 256) (l : Fin 2048), ((show S256x2048.Idx → EReal from dat.after 5 t) (ix2 r l) : EReal) = R (ix2 (rowOf a t r) l)) :
    dat.arrAt 5 (cfg0 a).N = R := by
  refine dat.arrAt_eq_of_covers 5 R (covers5 a) fun t hf (y : S256x2048.Idx) => ?_
  obtain ⟨p, q, rfl⟩ : ∃ (p : Fin 256) (q : Fin 2048), y = ix2 p q := ⟨y 0, y 1, by funext x; fin_cases x <;> rfl⟩
  exact (h t p q).trans (congrArg R (emb5 a t p q).symm)
end

variable (m : (ℓ : Loc nD τ sig) → Buf (Elt Ideal) ℓ)

/-- The result as an array, of the launch's arguments. -/
def resArr (c : Dev nD) : S39424x2048.Idx → EReal :=
  fun i => pairs (fun r d => aX m c (ix2 r d)) (fun i => e1 (tbl m) (ix1 i)) (fun i => e2 (tbl m) (ix1 i)) (nv (tbl m)) (fun e d f => aG m c (ix3 e d f))
    (fun e d f => aU m c (ix3 e d f)) (fun e f l => aD m c (ix3 e f l)) (i 0) (i 1)

/-- The same of the prepared operands. -/
theorem resArr_eq (c : Dev nD) (r : Fin 39424) (l : Fin 2048) :
    pairs (fun r d => (V m c main_v2 : S39424x1024.Idx → EReal) (ix2 r d)) (fun i => e1 (tbl m) (ix1 i)) (fun i => e2 (tbl m) (ix1 i)) (nv (tbl m))
      (fun e d f => (V m c main_v1 : S16x1024x1024.Idx → EReal) (ix3 e d ⟨f.val, by omega⟩))
      (fun e d f => (V m c main_v1 : S16x1024x1024.Idx → EReal) (ix3 e d ⟨512 + f.val, by omega⟩)) (fun e f l => (V m c main_v3 : S16x512x1024.Idx → EReal) (ix3 e f l)) r l
    = resArr m c (ix2 r l) := by
  have hx : (fun r d => (V m c main_v2 : S39424x1024.Idx → EReal) (ix2 r d)) = fun r d => aX m c (ix2 r d) := funext fun r => funext fun d => v2_at m c r d
  have hg : (fun (e : Fin 16) (d : Fin 1024) (f : Fin 512) => (V m c main_v1 : S16x1024x1024.Idx → EReal) (ix3 e d ⟨f.val, by omega⟩)) = fun e d f => aG m c (ix3 e d f) :=
    funext fun e => funext fun d => funext fun f => (v1_at m c e d _).trans (dif_pos f.isLt)
  have hu : (fun (e : Fin 16) (d : Fin 1024) (f : Fin 512) => (V m c main_v1 : S16x1024x1024.Idx → EReal) (ix3 e d ⟨512 + f.val, by omega⟩)) = fun e d f => aU m c (ix3 e d f) :=
    funext fun e => funext fun d => funext fun f => (v1_at m c e d _).trans ((dif_neg (by show ¬ 512 + f.val < 512; omega)).trans
      (congrArg (fun q => aU m c (ix3 e d q)) (Fin.ext (by show 512 + f.val - 512 = f.val; omega))))
  have hd : (fun (e : Fin 16) (f : Fin 512) (l : Fin 1024) => (V m c main_v3 : S16x512x1024.Idx → EReal) (ix3 e f l)) = fun e f l => aD m c (ix3 e f l) :=
    funext fun e => funext fun f => funext fun l => v3_at m c e f l
  rw [hx, hg, hu, hd]
  rfl

/-- A block of results is the array's own part. -/
theorem block_eq (hO : Ok m) (hg : Good (tbl m)) (c : Dev nD) (t : Fin (cfgM m hO).N) (r : Fin 256) (l : Fin 2048) :
    (outsAt0 m hO c t (ix2 r l) : EReal) = resArr m c (ix2 (rowOf (adm m hO) t r) l) := by
  unfold outsAt0 iblk
  exact (tile_at (adm m hO) hg (V m c main_v2) (V m c main_v1) (V m c main_v3) _ rfl t r l).trans (resArr_eq m c _ _)

/-- The array the launch leaves. -/
theorem arr_eq (hO : Ok m) (hg : Good (tbl m)) (c : Dev nD) : (dats m hO 0 c).arrAt 5 (cfgM m hO).N = resArr m c := by
  refine arr_of (adm m hO) c (dats m hO 0 c) (resArr m c) fun t r l => ?_
  rw [after0_5]
  exact block_eq m hO hg c t r l

/-- The launch: the results are the array. -/
theorem kernel_run (g : Dev nD → PrngReg) (hg : Good (tbl m)) :
    θ_run (defs (F := Ideal)) (onTc (τ := τ) (main (F := Ideal))) ⟨m, fun _ => 0, g⟩ (fun r => ∀ c : Dev nD, r.2.mem ((c.tc : Thread nD τ).loc main_v4) = resArr m c) :=
  (θ_run (defs (F := Ideal)) _ _).mono (fun r hr c => ((hr c).1 5).trans (arr_eq m (ok_of _ hg) hg c)) (run_main m g (ok_of _ hg))

end Cert.Proof.ExpertsIdeal

end
-- ==== Proof.ExpertsIdeal.Ref.lean ====
/- The experts' reference, read at an index. -/
module

public import proofs.«01_k».proof.Proof.Gen.Reference2Ideal.Run
public import proofs.«01_k».proof.Proof.ExpertsIdeal.Row
public import Idealize.ShloMosaic.Lib.WordCmp

@[expose] public section

set_option maxRecDepth 16384

noncomputable section

namespace Cert.Proof.ExpertsIdeal

open Cert.Reference2Ideal Cert.Reference2Ideal.Gen Cert.Reference2Ideal.Value
open Idealize.ShloMosaic Idealize.ShloMosaic.TcCoe Idealize.ShloMosaic.Tactic

/-- Of the reference: every row's products with every expert's columns. -/
def rProd (w : FVec Ideal S16x1024x512 .f32) (a0 : FVec Ideal S39424x1024 .f32) : FVec Ideal S16x39424x512 .f32 :=
  (transpose S16x39424x512 [0, 2, 1] (Host.dotGeneral dot_S16x1024x512_S39424x1024_S16x512x39424_1_1_02_0_n_n none w a0) transposes_S16x512x39424_S16x39424x512_0_2_1)

/-- Of the reference: the hidden units. -/
def rHid (g u : FVec Ideal S16x39424x512 .f32) : FVec Ideal S16x39424x512 .f32 :=
  (mulf (mulf g (Host.divf (broadcastInDim S16x39424x512 ![] bcast_S_S16x39424x512 (constant S_ .f32 0x3F800000#32)) (addf (broadcastInDim S16x39424x512 ![] bcast_S_S16x39424x512 (constant S_ .f32 0x3F800000#32)) (Host.exp (Host.negf g))))) u)

/-- Of the reference: every expert's outputs for every row. -/
def rOut (h : FVec Ideal S16x39424x512 .f32) (a6 : FVec Ideal S16x512x1024 .f32) : FVec Ideal S16x39424x1024 .f32 :=
  (Host.dotGeneral dot_S16x39424x512_S16x512x1024_S16x39424x1024_2_1_1_2_0_0 none h a6)

/-- Of the reference: one where the expert is the row's own, zero elsewhere. -/
def rGate (a1 : IVec S154 32) : FVec Ideal S16x39424x1024 .f32 :=
  (broadcastInDim S16x39424x1024 ![0, 1, 2] bcast_S16x39424x1_S16x39424x1024_0_1_2 (broadcastInDim S16x39424x1 ![0, 1] bcast_S16x39424_S16x39424x1_0_1 (uitofp .f32 (cmpi .eq (broadcastInDim S16x39424 ![0, 1] bcast_S1x39424_S16x39424_0_1 (broadcastInDim S1x39424 ![1] bcast_S39424_S1x39424_1 (shapeCast _ (broadcastInDim S154x256 ![0] bcast_S154_S154x256_0 a1) shapeCasts_S154x256_S39424))) (broadcastInDim S16x39424 ![0, 1] bcast_S16x1_S16x39424_0_1 (iotaInDim S16x1 32 0))))))

/-- Of the reference: the sum over the experts. -/
def rPick (g y : FVec Ideal S16x39424x1024 .f32) : FVec Ideal S39424x1024 .f32 :=
  (Host.reduceAdd (mulf g y) (constant S_ .f32 0x00000000#32) reducesTo_S16x39424x1024_S39424x1024_d0 h_S_)

/-- Of the reference: whether the row's tile is in use. -/
def rUsed (a3 : IVec S1 32) : IVec S39424x2048 1 :=
  (broadcastInDim S39424x2048 ![0, 1] bcast_S39424x1_S39424x2048_0_1 (broadcastInDim S39424x1 ![0] bcast_S39424_S39424x1_0 (cmpi .slt (select (andi (cmpi .ne (signi (iotaInDim S39424 32 0)) (broadcastInDim S39424 ![] bcast_S_S39424 (signi (id (constantI S_ 32 256#32))))) (cmpi .ne (Host.remsi (iotaInDim S39424 32 0) (broadcastInDim S39424 ![] bcast_S_S39424 (id (constantI S_ 32 256#32)))) (broadcastInDim S39424 ![] bcast_S_S39424 (constantI S_ 32 0#32)))) (subi (Host.divsi (iotaInDim S39424 32 0) (broadcastInDim S39424 ![] bcast_S_S39424 (id (constantI S_ 32 256#32)))) (broadcastInDim S39424 ![] bcast_S_S39424 (constantI S_ 32 1#32))) (Host.divsi (iotaInDim S39424 32 0) (broadcastInDim S39424 ![] bcast_S_S39424 (id (constantI S_ 32 256#32))))) (broadcastInDim S39424 ![] bcast_S_S39424 (shapeCast _ a3 shapeCasts_S1_S_)))))

/-- Of the reference: both experts' outputs side by side, zero where the tile is not in use. -/
def rEnd (k : IVec S39424x2048 1) (y z : FVec Ideal S39424x1024 .f32) : FVec Ideal S39424x2048 .bf16 :=
  truncf .bf16 (select k (concatenate S39424x2048 1 [⟨S39424x1024, y⟩, ⟨S39424x1024, z⟩] concatenates_S39424x1024_S39424x1024_S39424x2048_d1) (broadcastInDim S39424x2048 ![] bcast_S_S39424x2048 (id (constant S_ .f32 0x00000000#32)))) bitsLt_bf16_f32

/-- The reference's result is these, one after the other. -/
theorem ref_eq (m : (ℓ : Loc nD τ sig) → Buf (Elt Ideal) ℓ) (c : Dev nD) :
    res_main_v29 m c = rEnd (rUsed (m ((c.tc : Thread nD τ).loc main_arg3)))
      (rPick (rGate (m ((c.tc : Thread nD τ).loc main_arg1))) (rOut (rHid (rProd (m ((c.tc : Thread nD τ).loc main_arg4)) (m ((c.tc : Thread nD τ).loc main_arg0))) (rProd (m ((c.tc : Thread nD τ).loc main_arg5)) (m ((c.tc : Thread nD τ).loc main_arg0)))) (m ((c.tc : Thread nD τ).loc main_arg6))))
      (rPick (rGate (m ((c.tc : Thread nD τ).loc main_arg2))) (rOut (rHid (rProd (m ((c.tc : Thread nD τ).loc main_arg4)) (m ((c.tc : Thread nD τ).loc main_arg0))) (rProd (m ((c.tc : Thread nD τ).loc main_arg5)) (m ((c.tc : Thread nD τ).loc main_arg0)))) (m ((c.tc : Thread nD τ).loc main_arg6)))) := by
  unfold res_main_v29 rEnd rUsed rPick rGate rOut rHid rProd
  rfl

/-- Whole division of a row by a tile's height, as the reference spells it: the quotient, less one where the signs differ and something remains. -/
theorem tile_of_row (r : ℕ) (h : r < 39424) :
    Scalar.select (IntOp.andi (IntOp.cmpi CmpIPredicate.ne (if BitVec.ofNat 32 r = 0 then (0 : BitVec 32) else if (BitVec.ofNat 32 r).msb = true then -1 else 1)
          (if (256#32 : BitVec 32) = 0 then (0 : BitVec 32) else if (256#32 : BitVec 32).msb = true then -1 else 1))
        (IntOp.cmpi CmpIPredicate.ne (IntOp.remsi ArithUnit.host (BitVec.ofNat 32 r) 256#32) 0#32))
      (IntOp.subi (IntOp.divsi ArithUnit.host (BitVec.ofNat 32 r) 256#32) 1#32) (IntOp.divsi ArithUnit.host (BitVec.ofNat 32 r) 256#32)
      = BitVec.ofNat 32 (r / 256) := by
  have hn : (BitVec.ofNat 32 r).toNat = r := by rw [BitVec.toNat_ofNat]; omega
  have hm : (BitVec.ofNat 32 r).msb = false := by rw [BitVec.msb_eq_false_iff_two_mul_lt, hn]; omega
  have hk : (256#32 : BitVec 32).msb = false := by decide
  have hd : IntOp.divsi ArithUnit.host (BitVec.ofNat 32 r) 256#32 = BitVec.ofNat 32 (r / 256) := by
    rw [IntOp.divsi, if_neg (IntOp.not_corner_of_pos (by decide)), BitVec.sdiv_eq, hm, hk]
    refine BitVec.eq_of_toNat_eq ?_
    show (BitVec.ofNat 32 r / 256#32).toNat = _
    rw [BitVec.toNat_udiv, hn, BitVec.toNat_ofNat, BitVec.toNat_ofNat]
    simp only [Nat.reducePow, Nat.reduceMod]
    omega
  have hs : ¬ IntOp.andi (IntOp.cmpi CmpIPredicate.ne (if BitVec.ofNat 32 r = 0 then (0 : BitVec 32) else if (BitVec.ofNat 32 r).msb = true then -1 else 1)
          (if (256#32 : BitVec 32) = 0 then (0 : BitVec 32) else if (256#32 : BitVec 32).msb = true then -1 else 1))
        (IntOp.cmpi CmpIPredicate.ne (IntOp.remsi ArithUnit.host (BitVec.ofNat 32 r) 256#32) 0#32) = 1#1 := by
    rw [IntOp.andi_eq_one, IntOp.cmpi_ne, IntOp.cmpi_ne]
    rintro ⟨a, b⟩
    by_cases h0 : r = 0
    · subst h0; exact b (by decide)
    · refine a ?_
      rw [if_neg (fun e => h0 (by rw [← hn, e]; rfl)), hm]
      decide
  unfold Scalar.select
  exact (if_neg hs).trans hd

theorem rProd_at (w : FVec Ideal S16x1024x512 .f32) (a0 : FVec Ideal S39424x1024 .f32) (e : Fin 16) (r : Fin 39424) (f : Fin 512) :
    (rProd w a0 (ix3 e r f) : EReal) = ∑ d : Fin 1024, (w (ix3 e d f) : EReal) * a0 (ix2 r d) := by
  pointwise [rProd]

theorem rHid_at (g u : FVec Ideal S16x39424x512 .f32) (e : Fin 16) (r : Fin 39424) (f : Fin 512) :
    (rHid g u (ix3 e r f) : EReal) = (g (ix3 e r f) : EReal) * Ideal.logistic (g (ix3 e r f)) * u (ix3 e r f) := by
  pointwise [rHid]
  rfl

theorem rOut_at (h : FVec Ideal S16x39424x512 .f32) (w : FVec Ideal S16x512x1024 .f32) (e : Fin 16) (r : Fin 39424) (l : Fin 1024) :
    (rOut h w (ix3 e r l) : EReal) = ∑ f : Fin 512, (h (ix3 e r f) : EReal) * w (ix3 e f l) := by
  pointwise [rOut]

theorem rGate_at (a : IVec S154 32) (e : Fin 16) (r : Fin 39424) (l : Fin 1024) :
    (rGate a (ix3 e r l) : EReal) = if (a (ix1 ⟨r.val / 256, by omega⟩) : BitVec 32) = BitVec.ofNat 32 e.val then 1 else 0 := by
  pointwise [rGate]
  by_cases h : (a (ix1 ⟨r.val / 256, by omega⟩) : BitVec 32) = BitVec.ofNat 32 e.val
  · rw [if_pos h, IntOp.cmpi_eq.mpr h]
    show (((1#1 : BitVec 1).toNat : ℝ) : EReal) = 1
    simp
  · rw [if_neg h, (by revert h; rw [← IntOp.cmpi_eq]; generalize IntOp.cmpi _ _ _ = b; revert b; decide : IntOp.cmpi CmpIPredicate.eq (a (ix1 ⟨r.val / 256, by omega⟩) : BitVec 32) (BitVec.ofNat 32 e.val) = 0#1)]
    show (((0#1 : BitVec 1).toNat : ℝ) : EReal) = 0
    simp

theorem rPick_at (g y : FVec Ideal S16x39424x1024 .f32) (r : Fin 39424) (l : Fin 1024) :
    (rPick g y (ix2 r l) : EReal) = ∑ e : Fin 16, (g (ix3 e r l) : EReal) * y (ix3 e r l) := by
  pointwise [rPick]

theorem rUsed_at (n : IVec S1 32) (r : Fin 39424) (l : Fin 2048) :
    (rUsed n (ix2 r l) : BitVec 1) = IntOp.cmpi .slt (BitVec.ofNat 32 (r.val / 256)) (n (ix1 0)) := by
  pointwise [rUsed]
  exact congrArg (fun w => IntOp.cmpi CmpIPredicate.slt w (n (ix1 0) : BitVec 32)) (tile_of_row r.val r.isLt)

theorem rEnd_at (k : IVec S39424x2048 1) (y z : FVec Ideal S39424x1024 .f32) (r : Fin 39424) (l : Fin 2048) :
    (rEnd k y z (ix2 r l) : EReal) = if (k (ix2 r l) : BitVec 1) = 1#1
      then (if h : l.val < 1024 then (y (ix2 r ⟨l.val, h⟩) : EReal) else z (ix2 r ⟨l.val - 1024, by omega⟩)) else 0 := by
  pointwise [rEnd]
  have e : ((id (constant (F := Ideal) S_ FTy.f32 0#32) ix0 : Ideal FTy.f32) : EReal) = 0 := Idealize.ShloMosaic.Ideal.ofBits_zero FTy.f32
  unfold Scalar.select
  rw [e]
  rfl

/-- The one gate that is one picks its expert's output. -/
theorem picked (a : IVec S154 32) (y : FVec Ideal S16x39424x1024 .f32) (r : Fin 39424) (l : Fin 1024) (h : (a (ix1 ⟨r.val / 256, by omega⟩) : BitVec 32).toNat < 16) :
    (rPick (rGate a) y (ix2 r l) : EReal) = y (ix3 (expert (a (ix1 ⟨r.val / 256, by omega⟩))) r l) := by
  rw [rPick_at, Finset.sum_eq_single (expert (a (ix1 ⟨r.val / 256, by omega⟩)))]
  · rw [rGate_at, if_pos, one_mul]
    refine BitVec.eq_of_toNat_eq ?_
    rw [BitVec.toNat_ofNat, expert_val h]
    omega
  · intro e _ he
    rw [rGate_at, if_neg, zero_mul]
    intro e'
    refine he (Fin.ext ?_)
    rw [expert_val h, e', BitVec.toNat_ofNat]
    have := e.isLt
    omega
  · intro hh; exact absurd (Finset.mem_univ _) hh

/-- Every expert's output is its own sum. -/
theorem rOut_mlp (a0 : FVec Ideal S39424x1024 .f32) (a4 a5 : FVec Ideal S16x1024x512 .f32) (a6 : FVec Ideal S16x512x1024 .f32) (e : Fin 16) (r : Fin 39424) (l : Fin 1024) :
    (rOut (rHid (rProd a4 a0) (rProd a5 a0)) a6 (ix3 e r l) : EReal)
      = mlp (fun d => a0 (ix2 r d)) (fun d f => a4 (ix3 e d f)) (fun d f => a5 (ix3 e d f)) (fun f => a6 (ix3 e f l)) := by
  rw [rOut_at]
  unfold mlp hid
  simp only [rHid_at, rProd_at, mul_comm]

/-- The reference's result at an index. -/
theorem ref_at (a0 : FVec Ideal S39424x1024 .f32) (a1 a2 : IVec S154 32) (a3 : IVec S1 32) (a4 a5 : FVec Ideal S16x1024x512 .f32) (a6 : FVec Ideal S16x512x1024 .f32)
    (h1 : ∀ x, (a1 x : BitVec 32).toNat < 16) (h2 : ∀ x, (a2 x : BitVec 32).toNat < 16) (r : Fin 39424) (l : Fin 2048) :
    (rEnd (rUsed a3) (rPick (rGate a1) (rOut (rHid (rProd a4 a0) (rProd a5 a0)) a6)) (rPick (rGate a2) (rOut (rHid (rProd a4 a0) (rProd a5 a0)) a6)) (ix2 r l) : EReal)
      = pairs (fun r d => a0 (ix2 r d)) (fun i => a1 (ix1 i)) (fun i => a2 (ix1 i)) (a3 (ix1 0)) (fun e d f => a4 (ix3 e d f)) (fun e d f => a5 (ix3 e d f))
        (fun e f l => a6 (ix3 e f l)) r l := by
  rw [rEnd_at, rUsed_at]
  have hr : (BitVec.ofNat 32 (r.val / 256)).toInt = ((r.val / 256 : ℕ) : ℤ) := WordCmp.toInt_ofNat_of_lt (by omega)
  unfold pairs
  simp only [IntOp.cmpi_slt, hr]
  by_cases hu : ((r.val / 256 : ℕ) : ℤ) < (a3 (ix1 0) : BitVec 32).toInt
  · rw [if_pos hu, if_pos hu]
    by_cases hl : l.val < 1024
    · rw [dif_pos hl, dif_pos hl, picked _ _ _ _ (h1 _), rOut_mlp]
    · rw [dif_neg hl, dif_neg hl, picked _ _ _ _ (h2 _), rOut_mlp]
  · rw [if_neg hu, if_neg hu]

end Cert.Proof.ExpertsIdeal

end
-- ==== Proof.ExpertsIdeal.Both.lean ====
/- The experts' reference leaves the array the launch leaves. -/
module

public import proofs.«01_k».proof.Proof.ExpertsIdeal.Kern
public import proofs.«01_k».proof.Proof.ExpertsIdeal.Ref

@[expose] public section

set_option maxRecDepth 16384

noncomputable section

namespace Cert.Proof.ExpertsIdeal

open Cert.Kernel2Ideal Cert.Kernel2Ideal.Gen
open Idealize.ShloMosaic Idealize.ShloMosaic.TcCoe Idealize.ShloMosaic.Tactic

variable (m : (ℓ : Loc nD τ sig) → Buf (Elt Ideal) ℓ)

theorem split2 (i : S39424x2048.Idx) : i = ix2 (i 0) (i 1) := by funext x; fin_cases x <;> rfl

theorem first_eq : (ix1 0 : S1.Idx) = first := eq_first _

/-- The reference's array of results, of the launch's arguments. -/
theorem ref_arr (hg : Good (tbl m)) (c : Dev nD) :
    rEnd (rUsed (m ((c.tc : Thread nD τ).loc main_arg3)))
      (rPick (rGate (m ((c.tc : Thread nD τ).loc main_arg1))) (rOut (rHid (rProd (aG m c) (aX m c)) (rProd (aU m c) (aX m c))) (aD m c)))
      (rPick (rGate (m ((c.tc : Thread nD τ).loc main_arg2))) (rOut (rHid (rProd (aG m c) (aX m c)) (rProd (aU m c) (aX m c))) (aD m c)))
    = resArr m c := by
  obtain rfl : c = 0 := Subsingleton.elim _ _
  obtain ⟨h1, h2, _⟩ := hg
  funext i
  rw [split2 i]
  unfold resArr
  rw [tbl_e1] at h1 ⊢
  rw [tbl_e2] at h2 ⊢
  rw [tbl_nv, ← first_eq]
  exact ref_at (aX m 0) (m (((0 : Dev nD).tc : Thread nD τ).loc main_arg1)) (m (((0 : Dev nD).tc : Thread nD τ).loc main_arg2)) (m (((0 : Dev nD).tc : Thread nD τ).loc main_arg3))
    (aG m 0) (aU m 0) (aD m 0) h1 h2 (i 0) (i 1)

end Cert.Proof.ExpertsIdeal

end
-- ==== Proof.KernelIdeal.Trip.lean ====
/- One trip of the kernel's loop over pairs of query tiles, run once at a symbolic trip. -/
module

public import proofs.«01_k».proof.Proof.Gen.KernelIdeal
public import proofs.«01_k».proof.Proof.Gen.KernelIdeal.Skeleton
public import proofs.«01_k».proof.Proof.Gen.KernelIdeal.Loops
public import Idealize.ShloMosaic.Lib.Tactic
public import Idealize.ShloMosaic.Lib.Exec

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Where the previous pair's second tile is written: the row of tile `2 t - 1`, of tile 0 at the first trip. -/
theorem k0_off1_eq : ∀ t : Fin k0_t1_loop.trips, k0_off1 t = ![0, (2 * t.val - 1) * 256, 0] := by decide +kernel
/-- Where the pair's second tile of queries is read. -/
theorem k0_off2_eq : ∀ t : Fin k0_t1_loop.trips, k0_off2 t = ![0, (min (2 * t.val + 1) 31) * 256, 0] := by decide +kernel
/-- Where the pair's first tile is written. -/
theorem k0_off3_eq : ∀ t : Fin k0_t1_loop.trips, k0_off3 t = ![0, 2 * t.val * 256, 0] := by decide +kernel
/-- Where the next pair's first tile of queries is read. -/
theorem k0_off4_eq : ∀ t : Fin k0_t1_loop.trips, k0_off4 t = ![0, (min (2 * t.val + 2) 31) * 256, 0] := by decide +kernel

instance closedOff1 (t : Fin k0_t1_loop.trips) : ClosedOff (k0_off1 t) := ⟨_, k0_off1_eq t⟩
instance closedOff2 (t : Fin k0_t1_loop.trips) : ClosedOff (k0_off2 t) := ⟨_, k0_off2_eq t⟩
instance closedOff3 (t : Fin k0_t1_loop.trips) : ClosedOff (k0_off3 t) := ⟨_, k0_off3_eq t⟩
instance closedOff4 (t : Fin k0_t1_loop.trips) : ClosedOff (k0_off4 t) := ⟨_, k0_off4_eq t⟩

/-- A memref's contents on core `c`, and the memref held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- What one trip leaves in the result's block, given the inputs and the scratch buffers before it, and the scratch
    buffers after it, with the proof that the trip runs so. -/
def trip (c : Dev nD) (i : grid0.Coords)
    (arg3 : Memref sig .tc .vmem S1x8192x128 .bf16) (harg3 : arg3.IsWhole) (arg4 : Memref sig .tc .vmem S1x1x128x16640 .bf16) (harg4 : arg4.IsWhole)
    (arg5 : Memref sig .tc .vmem S1x16640x256 .bf16) (harg5 : arg5.IsWhole) (arg6 : Memref sig .tc .vmem S4x64 .f32) (harg6 : arg6.IsWhole)
    (arg7 : Memref sig .tc .vmem S1x128 .f32) (harg7 : arg7.IsWhole) (arg8 : Memref sig .tc .vmem S1x8192x128 .bf16) (harg8 : arg8.IsWhole)
    (arg9 : Memref sig .tc .vmem S512x128 .bf16) (harg9 : arg9.IsWhole) (arg10 : Memref sig .tc .vmem S3x512x1280 .f32) (harg10 : arg10.IsWhole)
    (arg11 : Memref sig .tc .vmem S2x512x128 .f32) (harg11 : arg11.IsWhole) (arg12 : Memref sig .tc .vmem S2x512x256 .f32) (harg12 : arg12.IsWhole)
    (v18 : IVec S256x128 1) (v40 : FVec F S1x1 .f32) (v42 : FVec F S1x128 .f32) (k : Fin k0_t1_loop.trips)
    (f3 : Bf (F := F) c arg3) (f4 : Bf (F := F) c arg4) (f5 : Bf (F := F) c arg5)
    (f9 : Bf (F := F) c arg9) (f10 : Bf (F := F) c arg10) (f11 : Bf (F := F) c arg11) (f12 : Bf (F := F) c arg12) :
    { W : List (View.Piece (Elt F) S1x8192x128 .bf16) × Bf (F := F) c arg9 × Bf (F := F) c arg10 × Bf (F := F) c arg11 × Bf (F := F) c arg12 //
      ∀ (f8 : Bf (F := F) c arg8),
        iprop(pt c arg3 f3 ∗ pt c arg4 f4 ∗ pt c arg5 f5 ∗ pt c arg8 f8 ∗ pt c arg9 f9 ∗ pt c arg10 f10 ∗ pt c arg11 f11 ∗ pt c arg12 f12)
        ⊢ wp frame (wpE (defs₀ (F := F)) Variants.none c none) Set.univ
            (k0_t1_body i arg3 harg3 arg4 harg4 arg5 harg5 arg6 harg6 arg7 harg7 arg8 harg8 arg9 harg9 arg10 harg10 arg11 harg11 arg12 harg12 v18 v40 v42 k ())
            (fun _ => iprop(pt c arg3 f3 ∗ pt c arg4 f4 ∗ pt c arg5 f5 ∗ pt c arg8 (arg8.view.writes (Elt F) f8 W.1)
              ∗ pt c arg9 W.2.1 ∗ pt c arg10 W.2.2.1 ∗ pt c arg11 W.2.2.2.1 ∗ pt c arg12 W.2.2.2.2)) } := by
  refine ⟨⟨?_, ?_, ?_, ?_, ?_⟩, fun f8 => ?run⟩
  case run =>
    unfold k0_t1_body
    iintro ⟨H3, H4, H5, H8, H9, H10, H11, H12⟩
    sl_exec_parts
    sl_step
    isplitl [H3]; · iexact H3
    isplitl [H4]; · iexact H4
    isplitl [H5]; · iexact H5
    isplitl [H8]; · iexact H8
    isplitl [H9]; · iexact H9
    isplitl [H10]; · iexact H10
    isplitl [H11]; · iexact H11
    iexact H12

end Cert.Proof.KernelIdeal

end
-- ==== Proof.KernelIdeal.Model.lean ====
/- What a query tile's run over the keys computes: scores against a block of keys, running maximum, accumulator. -/
module

public import proofs.«01_k».proof.Proof.KernelIdeal.Trip
public import Idealize.ShloMosaic.Lib.Pipeline.ReadBack

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open Idealize.ShloMosaic.View (ld)

variable {F : FTy → Type} [FloatOps F]

/-! ## The kernel's repeated payloads, each the first of its kind -/

theorem pay_10_0 (q : Vec F S512x128 .bf16) (kk : Vec F S1x1x128x1280 .bf16) : k0_pay9 q kk = k0_pay2 q kk := rfl
theorem pay_10_1 (q : Vec F S512x128 .bf16) (kk : Vec F S1x1x128x1280 .bf16) : k0_pay16 (k0_pay15 q kk) = k0_pay2 q kk := rfl
theorem pay_10_2 (q : Vec F S512x128 .bf16) (kk : Vec F S1x1x128x1280 .bf16) : k0_pay22 q kk = k0_pay2 q kk := rfl
theorem pay_10_3 (q : Vec F S512x128 .bf16) (kk : Vec F S1x1x128x1280 .bf16) : k0_pay28 q kk = k0_pay2 q kk := rfl
theorem pay_10_4 (q : Vec F S512x128 .bf16) (kk : Vec F S1x1x128x1280 .bf16) : k0_pay35 q kk = k0_pay2 q kk := rfl
theorem pay_10_5 (q : Vec F S512x128 .bf16) (kk : Vec F S1x1x128x1280 .bf16) : k0_pay43 q kk = k0_pay2 q kk := rfl
theorem pay_10_6 (q : Vec F S512x128 .bf16) (kk : Vec F S1x1x128x1280 .bf16) : k0_pay51 q kk = k0_pay2 q kk := rfl
theorem pay_10_7 (q : Vec F S512x128 .bf16) (kk : Vec F S1x1x128x1280 .bf16) : k0_pay58 q kk = k0_pay2 q kk := rfl
theorem pay_10_8 (q : Vec F S512x128 .bf16) (kk : Vec F S1x1x128x1280 .bf16) : k0_pay65 (k0_pay64 q kk) = k0_pay2 q kk := rfl
theorem pay_10_9 (q : Vec F S512x128 .bf16) (kk : Vec F S1x1x128x1280 .bf16) : k0_pay71 q kk = k0_pay2 q kk := rfl
theorem pay_10_10 (q : Vec F S512x128 .bf16) (kk : Vec F S1x1x128x1280 .bf16) : k0_pay77 q kk = k0_pay2 q kk := rfl
theorem pay_10_11 (q : Vec F S512x128 .bf16) (kk : Vec F S1x1x128x1280 .bf16) : k0_pay87 q kk = k0_pay2 q kk := rfl
theorem pay_10_12 (q : Vec F S512x128 .bf16) (kk : Vec F S1x1x128x1280 .bf16) : k0_pay94 (k0_pay93 q kk) = k0_pay2 q kk := rfl
theorem pay_10_13 (q : Vec F S512x128 .bf16) (kk : Vec F S1x1x128x1280 .bf16) : k0_pay101 q kk = k0_pay2 q kk := rfl
theorem pay_10_14 (q : Vec F S512x128 .bf16) (kk : Vec F S1x1x128x1280 .bf16) : k0_pay109 q kk = k0_pay2 q kk := rfl
theorem pay_10_15 (q : Vec F S512x128 .bf16) (kk : Vec F S1x1x128x1280 .bf16) : k0_pay116 q kk = k0_pay2 q kk := rfl
theorem pay_10_16 (q : Vec F S512x128 .bf16) (kk : Vec F S1x1x128x1280 .bf16) : k0_pay123 (k0_pay122 q kk) = k0_pay2 q kk := rfl
theorem pay_10_17 (q : Vec F S512x128 .bf16) (kk : Vec F S1x1x128x1280 .bf16) : k0_pay129 q kk = k0_pay2 q kk := rfl
theorem pay_10_18 (q : Vec F S512x128 .bf16) (kk : Vec F S1x1x128x1280 .bf16) : k0_pay135 q kk = k0_pay2 q kk := rfl
theorem pay_10_19 (q : Vec F S512x128 .bf16) (kk : Vec F S1x1x128x1280 .bf16) : k0_pay142 q kk = k0_pay2 q kk := rfl
theorem pay_10_20 (q : Vec F S512x128 .bf16) (kk : Vec F S1x1x128x1280 .bf16) : k0_pay150 q kk = k0_pay2 q kk := rfl
theorem pay_10_21 (q : Vec F S512x128 .bf16) (kk : Vec F S1x1x128x1280 .bf16) : k0_pay158 q kk = k0_pay2 q kk := rfl
theorem pay_10_22 (q : Vec F S512x128 .bf16) (kk : Vec F S1x1x128x1280 .bf16) : k0_pay164 q kk = k0_pay2 q kk := rfl
theorem pay_10_23 (q : Vec F S512x128 .bf16) (kk : Vec F S1x1x128x1280 .bf16) : k0_pay171 q kk = k0_pay2 q kk := rfl
theorem pay_10_24 (q : Vec F S512x128 .bf16) (kk : Vec F S1x1x128x1280 .bf16) : k0_pay181 q kk = k0_pay2 q kk := rfl
theorem pay_11_25 (s : Vec F S1x512x1280 .f32) (m : Vec F S1x512x128 .f32) : k0_pay21 s m = k0_pay14 s m := rfl
theorem pay_11_26 (s : Vec F S1x512x1280 .f32) (m : Vec F S1x512x128 .f32) : k0_pay27 (k0_pay25 s m) = k0_pay14 s m := rfl
theorem pay_11_27 (s : Vec F S1x512x1280 .f32) (m : Vec F S1x512x128 .f32) : k0_pay34 (k0_pay31 s m) = k0_pay14 s m := rfl
theorem pay_11_28 (s : Vec F S1x512x1280 .f32) (m : Vec F S1x512x128 .f32) : k0_pay42 (k0_pay38 s m) = k0_pay14 s m := rfl
theorem pay_11_29 (s : Vec F S1x512x1280 .f32) (m : Vec F S1x512x128 .f32) : k0_pay50 (k0_pay46 s m) = k0_pay14 s m := rfl
theorem pay_11_30 (s : Vec F S1x512x1280 .f32) (m : Vec F S1x512x128 .f32) : k0_pay57 (k0_pay53 m) (k0_pay54 s) = k0_pay14 s m := rfl
theorem pay_11_31 (s : Vec F S1x512x1280 .f32) (m : Vec F S1x512x128 .f32) : k0_pay63 (k0_pay59 s) m = k0_pay14 s m := rfl
theorem pay_11_32 (s : Vec F S1x512x1280 .f32) (m : Vec F S1x512x128 .f32) : k0_pay70 s m = k0_pay14 s m := rfl
theorem pay_11_33 (s : Vec F S1x512x1280 .f32) (m : Vec F S1x512x128 .f32) : k0_pay76 s m = k0_pay14 s m := rfl
theorem pay_11_34 (s : Vec F S1x512x1280 .f32) (m : Vec F S1x512x128 .f32) : k0_pay82 (k0_pay80 s m) = k0_pay14 s m := rfl
theorem pay_11_35 (s : Vec F S1x512x1280 .f32) (m : Vec F S1x512x128 .f32) : k0_pay92 (k0_pay88 s) m = k0_pay14 s m := rfl
theorem pay_11_36 (s : Vec F S1x512x1280 .f32) : k0_pay100 (k0_pay97 s) = k0_pay8 s := rfl
theorem pay_11_37 (s : Vec F S1x512x1280 .f32) (m : Vec F S1x512x128 .f32) : k0_pay108 (k0_pay104 s m) = k0_pay14 s m := rfl
theorem pay_11_38 (s : Vec F S1x512x1280 .f32) (m : Vec F S1x512x128 .f32) : k0_pay115 (k0_pay111 s) m = k0_pay14 s m := rfl
theorem pay_11_39 (s : Vec F S1x512x1280 .f32) (m : Vec F S1x512x128 .f32) : k0_pay121 s m = k0_pay14 s m := rfl
theorem pay_11_40 (s : Vec F S1x512x1280 .f32) (m : Vec F S1x512x128 .f32) : k0_pay128 s m = k0_pay14 s m := rfl
theorem pay_11_41 (s : Vec F S1x512x1280 .f32) (m : Vec F S1x512x128 .f32) : k0_pay134 (k0_pay132 s m) = k0_pay14 s m := rfl
theorem pay_11_42 (s : Vec F S1x512x1280 .f32) (m : Vec F S1x512x128 .f32) : k0_pay141 (k0_pay138 s m) = k0_pay14 s m := rfl
theorem pay_11_43 (s : Vec F S1x512x1280 .f32) (m : Vec F S1x512x128 .f32) : k0_pay149 (k0_pay145 s m) = k0_pay14 s m := rfl
theorem pay_11_44 (s : Vec F S1x512x1280 .f32) (m : Vec F S1x512x128 .f32) : k0_pay157 (k0_pay153 s m) = k0_pay14 s m := rfl
theorem pay_11_45 (s : Vec F S1x512x1280 .f32) (m : Vec F S1x512x128 .f32) : k0_pay163 (k0_pay161 s m) = k0_pay14 s m := rfl
theorem pay_11_46 (s : Vec F S1x512x1280 .f32) (m : Vec F S1x512x128 .f32) : k0_pay170 (k0_pay166 s) m = k0_pay14 s m := rfl
theorem pay_11_47 (s : Vec F S1x512x1280 .f32) (m : Vec F S1x512x128 .f32) : k0_pay176 s m = k0_pay14 s m := rfl
theorem pay_12_48 (s : Vec F S1x512x1280 .f32) (m : Vec F S1x512x128 .f32) (vv : Vec F S1x1280x256 .bf16) (a : Vec F S1x512x256 .f32) : k0_pay20 s m vv a = k0_pay13 s m vv a := rfl
theorem pay_12_49 (s : Vec F S1x512x1280 .f32) (m : Vec F S1x512x128 .f32) (vv : Vec F S1x1280x256 .bf16) (a : Vec F S1x512x256 .f32) : k0_pay26 s m vv a = k0_pay13 s m vv a := rfl
theorem pay_12_50 (s : Vec F S1x512x1280 .f32) (m : Vec F S1x512x128 .f32) (vv : Vec F S1x1280x256 .bf16) (a : Vec F S1x512x256 .f32) : k0_pay33 (k0_pay32 s m vv a) = k0_pay13 s m vv a := rfl
theorem pay_12_51 (s : Vec F S1x512x1280 .f32) (m : Vec F S1x512x128 .f32) (vv : Vec F S1x1280x256 .bf16) (a : Vec F S1x512x256 .f32) : k0_pay41 (k0_pay39 s m) (k0_pay40 s m vv) a = k0_pay13 s m vv a := rfl
theorem pay_12_52 (s : Vec F S1x512x1280 .f32) (m : Vec F S1x512x128 .f32) (vv : Vec F S1x1280x256 .bf16) (a : Vec F S1x512x256 .f32) : k0_pay49 (k0_pay47 s m) (k0_pay48 s m) vv a = k0_pay13 s m vv a := rfl
theorem pay_12_53 (s : Vec F S1x512x1280 .f32) (m : Vec F S1x512x128 .f32) (vv : Vec F S1x1280x256 .bf16) (a : Vec F S1x512x256 .f32) : k0_pay56 (k0_pay52 s) (k0_pay53 m) (k0_pay54 s) vv a = k0_pay13 s m vv a := rfl
theorem pay_12_54 (s : Vec F S1x512x1280 .f32) (m : Vec F S1x512x128 .f32) (vv : Vec F S1x1280x256 .bf16) (a : Vec F S1x512x256 .f32) : k0_pay62 (k0_pay59 s) m vv a = k0_pay13 s m vv a := rfl
theorem pay_12_55 (s : Vec F S1x512x1280 .f32) (m : Vec F S1x512x128 .f32) (vv : Vec F S1x1280x256 .bf16) (a : Vec F S1x512x256 .f32) : k0_pay69 s m vv a = k0_pay13 s m vv a := rfl
theorem pay_12_56 (s : Vec F S1x512x1280 .f32) (m : Vec F S1x512x128 .f32) (vv : Vec F S1x1280x256 .bf16) (a : Vec F S1x512x256 .f32) : k0_pay75 s m vv a = k0_pay13 s m vv a := rfl
theorem pay_12_57 (s : Vec F S1x512x1280 .f32) (m : Vec F S1x512x128 .f32) (vv : Vec F S1x1280x256 .bf16) (a : Vec F S1x512x256 .f32) : k0_pay81 s m vv a = k0_pay13 s m vv a := rfl
theorem pay_12_58 (s : Vec F S1x512x1280 .f32) (m : Vec F S1x512x128 .f32) (vv : Vec F S1x1280x256 .bf16) (a : Vec F S1x512x256 .f32) : k0_pay91 (k0_pay88 s) m vv a = k0_pay13 s m vv a := rfl
theorem pay_12_59 (s : Vec F S1x512x1280 .f32) (vv : Vec F S1x1280x256 .bf16) : k0_pay99 (k0_pay98 s) vv = k0_pay7 s vv := rfl
theorem pay_12_60 (s : Vec F S1x512x1280 .f32) (m : Vec F S1x512x128 .f32) (vv : Vec F S1x1280x256 .bf16) (a : Vec F S1x512x256 .f32) : k0_pay107 (k0_pay105 s m) (k0_pay106 s m) vv a = k0_pay13 s m vv a := rfl
theorem pay_12_61 (s : Vec F S1x512x1280 .f32) (m : Vec F S1x512x128 .f32) (vv : Vec F S1x1280x256 .bf16) (a : Vec F S1x512x256 .f32) : k0_pay114 (k0_pay110 s) (k0_pay111 s) m vv a = k0_pay13 s m vv a := rfl
theorem pay_12_62 (s : Vec F S1x512x1280 .f32) (m : Vec F S1x512x128 .f32) (vv : Vec F S1x1280x256 .bf16) (a : Vec F S1x512x256 .f32) : k0_pay120 s m vv a = k0_pay13 s m vv a := rfl
theorem pay_12_63 (s : Vec F S1x512x1280 .f32) (m : Vec F S1x512x128 .f32) (vv : Vec F S1x1280x256 .bf16) (a : Vec F S1x512x256 .f32) : k0_pay127 s m vv a = k0_pay13 s m vv a := rfl
theorem pay_12_64 (s : Vec F S1x512x1280 .f32) (m : Vec F S1x512x128 .f32) (vv : Vec F S1x1280x256 .bf16) (a : Vec F S1x512x256 .f32) : k0_pay133 s m vv a = k0_pay13 s m vv a := rfl
theorem pay_12_65 (s : Vec F S1x512x1280 .f32) (m : Vec F S1x512x128 .f32) (vv : Vec F S1x1280x256 .bf16) (a : Vec F S1x512x256 .f32) : k0_pay140 (k0_pay139 s m vv a) = k0_pay13 s m vv a := rfl
theorem pay_12_66 (s : Vec F S1x512x1280 .f32) (m : Vec F S1x512x128 .f32) (vv : Vec F S1x1280x256 .bf16) (a : Vec F S1x512x256 .f32) : k0_pay148 (k0_pay146 s m) (k0_pay147 s m vv) a = k0_pay13 s m vv a := rfl
theorem pay_12_67 (s : Vec F S1x512x1280 .f32) (m : Vec F S1x512x128 .f32) (vv : Vec F S1x1280x256 .bf16) (a : Vec F S1x512x256 .f32) : k0_pay156 (k0_pay154 s m) (k0_pay155 s m) vv a = k0_pay13 s m vv a := rfl
theorem pay_12_68 (s : Vec F S1x512x1280 .f32) (m : Vec F S1x512x128 .f32) (vv : Vec F S1x1280x256 .bf16) (a : Vec F S1x512x256 .f32) : k0_pay162 (k0_pay159 s) (k0_pay160 m) (k0_pay161 s m) vv a = k0_pay13 s m vv a := rfl
theorem pay_12_69 (s : Vec F S1x512x1280 .f32) (m : Vec F S1x512x128 .f32) (vv : Vec F S1x1280x256 .bf16) (a : Vec F S1x512x256 .f32) : k0_pay169 (k0_pay165 s) (k0_pay166 s) m vv a = k0_pay13 s m vv a := rfl
theorem pay_12_70 (s : Vec F S1x512x1280 .f32) (m : Vec F S1x512x128 .f32) (vv : Vec F S1x1280x256 .bf16) (a : Vec F S1x512x256 .f32) : k0_pay175 s m vv a = k0_pay13 s m vv a := rfl
theorem pay_11_71 (s : Vec F S1x512x1280 .f32) (m : Vec F S1x512x128 .f32) : k0_pay198 (k0_pay184 s m) = k0_pay14 s m := rfl
theorem pay_12_72 (s : Vec F S1x512x1280 .f32) (m : Vec F S1x512x128 .f32) (vv : Vec F S1x1280x256 .bf16) (a : Vec F S1x512x256 .f32) : k0_pay197 (k0_pay185 s m) (k0_pay186 s m) vv a = k0_pay13 s m vv a := rfl
theorem pay_10_73 (q : Vec F S512x128 .bf16) (kk : Vec F S1x1x128x1280 .bf16) : k0_pay195 q kk = k0_pay2 q kk := rfl
theorem pay_9_0 (v18 : IVec S256x128 1) (x : Vec F S1x256x128 .bf16) : k0_pay85 v18 x = k0_pay193 v18 x := rfl
theorem pay_9_1 (v18 : IVec S256x128 1) (x : Vec F S1x256x128 .bf16) : k0_pay86 v18 x = k0_pay194 v18 x := rfl
theorem pay_9_2 (v18 : IVec S256x128 1) (x : Vec F S1x256x128 .bf16) : k0_pay179 v18 x = k0_pay193 v18 x := rfl
theorem pay_9_3 (v18 : IVec S256x128 1) (x : Vec F S1x256x128 .bf16) : k0_pay180 v18 x = k0_pay194 v18 x := rfl
theorem pay_8_0 (v40 : FVec F S1x1 .f32) (g : FVec F S1x128 .f32) (a : Vec F S1x512x256 .f32) : k0_pay4 (k0_pay3 v40 g a) = k0_pay1 v40 g a := rfl
theorem pay_8_1 (v40 : FVec F S1x1 .f32) (g : FVec F S1x128 .f32) (a : Vec F S1x512x256 .f32) : k0_pay95 v40 g a = k0_pay1 v40 g a := rfl

/-! ## The run of one tile of queries over the thirteen blocks of keys -/

/-- The `j`-th block of 1280 keys, of the keys' block of the array. -/
def keyBlk (X4 : S1x1x128x16640.Idx → Elt F .bf16) (j : ℕ) : Vec F S1x1x128x1280 .bf16 :=
  ld X4 (Rect.unit (s := S1x1x128x16640) ![0, 0, 0, 1280 * (j % 13)] S1x1x128x1280.size
    (by have := Nat.mod_lt j (show 13 > 0 by decide); intro a; fin_cases a <;> simp [Shape.size, S1x1x128x1280, S1x1x128x16640] <;> omega))

/-- The `j`-th block of 1280 values. -/
def valBlk (X5 : S1x16640x256.Idx → Elt F .bf16) (j : ℕ) : Vec F S1x1280x256 .bf16 :=
  ld X5 (Rect.unit (s := S1x16640x256) ![0, 1280 * (j % 13), 0] S1x1280x256.size
    (by have := Nat.mod_lt j (show 13 > 0 by decide); intro a; fin_cases a <;> simp [Shape.size, S1x1280x256, S1x16640x256] <;> omega))

/-- The `t`-th tile of 256 queries. -/
def qryTile (X3 : S1x8192x128.Idx → Elt F .bf16) (t : ℕ) : Vec F S1x256x128 .bf16 :=
  ld X3 (Rect.unit (s := S1x8192x128) ![0, (t % 32) * 256, 0] S1x256x128.size
    (by have := Nat.mod_lt t (show 32 > 0 by decide); intro a; fin_cases a <;> simp [Shape.size, S1x256x128, S1x8192x128] <;> omega))

/-- The tile stacked twice, one component's lanes kept in each half. -/
def stack (v18 : IVec S256x128 1) (x : Vec F S1x256x128 .bf16) : Vec F S512x128 .bf16 :=
  fun j => View.canon (Val := Elt F) (s := S512x128) (e := .bf16)
    [⟨Rect.unit (s := S512x128) ![256, 0] S256x128.size inb_S512x128_S256x128_256_0, k0_pay194 v18 x⟩,
     ⟨Rect.unit (s := S512x128) ![0, 0] S256x128.size inb_S512x128_S256x128_0_0, k0_pay193 v18 x⟩] j

/-- The running maximum after block `j`. -/
def runMax (Q : Vec F S512x128 .bf16) (X4 : S1x1x128x16640.Idx → Elt F .bf16) : ℕ → Vec F S1x512x128 .f32
  | 0 => k0_pay8 (k0_pay2 Q (keyBlk X4 0))
  | j + 1 => k0_pay14 (k0_pay2 Q (keyBlk X4 (j + 1))) (runMax Q X4 j)

/-- The accumulator after block `j`: weighted values and, in the upper lanes, the weights' sum. -/
def runAcc (Q : Vec F S512x128 .bf16) (X4 : S1x1x128x16640.Idx → Elt F .bf16) (X5 : S1x16640x256.Idx → Elt F .bf16) : ℕ → Vec F S1x512x256 .f32
  | 0 => k0_pay7 (k0_pay2 Q (keyBlk X4 0)) (valBlk X5 0)
  | j + 1 => k0_pay13 (k0_pay2 Q (keyBlk X4 (j + 1))) (runMax Q X4 j) (valBlk X5 (j + 1)) (runAcc Q X4 X5 j)

/-- The accumulator a tile of queries ends with. -/
def tileAcc (v18 : IVec S256x128 1) (X3 : S1x8192x128.Idx → Elt F .bf16) (X4 : S1x1x128x16640.Idx → Elt F .bf16) (X5 : S1x16640x256.Idx → Elt F .bf16) (t : ℕ) :
    Vec F S1x512x256 .f32 :=
  runAcc (stack v18 (qryTile X3 t)) X4 X5 12

/-- The tile of results written from it. -/
def tileOut (v18 : IVec S256x128 1) (v40 : FVec F S1x1 .f32) (v42 : FVec F S1x128 .f32) (X3 : S1x8192x128.Idx → Elt F .bf16)
    (X4 : S1x1x128x16640.Idx → Elt F .bf16) (X5 : S1x16640x256.Idx → Elt F .bf16) (t : ℕ) : FVec F S1x256x128 .bf16 :=
  k0_pay1 v40 (k0_pay190 v42) (tileAcc v18 X3 X4 X5 t)

/-- What a list of stores leaves at an index one of them covers does not depend on the stores before them. -/
theorem canon_prefix {Val : EltTy → Type} [∀ e, Nonempty (Val e)] {s : Shape} {e : EltTy} (y : s.Idx) :
    ∀ L L' : List (View.Piece Val s e), (∃ p ∈ L, y ∈ p.1.set) → View.canon (L ++ L') y = View.canon L y
  | [], _, h => by obtain ⟨_, hm, _⟩ := h; exact absurd hm List.not_mem_nil
  | ⟨r, w⟩ :: L, L', h => by
    by_cases hy : y ∈ r.set
    · obtain ⟨x, rfl⟩ : ∃ x, r.emb x = y := LoadRect.exists_idx_of_mem r.toLoadRect hy
      rw [List.cons_append, View.canon_cons_emb, View.canon_cons_emb]
    · have hL : ∃ p ∈ L, y ∈ p.1.set := by
        obtain ⟨p, hm, hy'⟩ := h
        rcases List.mem_cons.mp hm with rfl | hm
        · exact absurd hy' hy
        · exact ⟨p, hm, hy'⟩
      rw [List.cons_append, View.canon_cons_of_not_mem _ _ hy, View.canon_cons_of_not_mem _ _ hy, canon_prefix y L L' hL]

/-- The two halves cover the stacked tile. -/
theorem stack_cover (v18 : IVec S256x128 1) (x : Vec F S1x256x128 .bf16) (j : S512x128.Idx) :
    ∃ p ∈ [(⟨Rect.unit (s := S512x128) ![256, 0] S256x128.size inb_S512x128_S256x128_256_0, k0_pay194 v18 x⟩ : View.Piece (Elt F) S512x128 .bf16),
      ⟨Rect.unit (s := S512x128) ![0, 0] S256x128.size inb_S512x128_S256x128_0_0, k0_pay193 v18 x⟩], j ∈ p.1.set := by
  have h0 : (j 0).val < 512 := (j 0).isLt
  have h3 : (j 1).val < 128 := (j 1).isLt
  by_cases h : 256 ≤ (j 0).val
  · refine ⟨_, List.mem_cons_self, (Rect.mem_set_unit (inb := inb_S512x128_S256x128_256_0)).mpr fun a => ?_⟩
    fin_cases a
    · exact ⟨h, h0⟩
    · exact ⟨Nat.zero_le _, h3⟩
  · refine ⟨_, List.mem_cons_of_mem _ List.mem_cons_self, (Rect.mem_set_unit (inb := inb_S512x128_S256x128_0_0)).mpr fun a => ?_⟩
    fin_cases a
    · exact ⟨Nat.zero_le _, show (j 0).val < 0 + 256 by omega⟩
    · exact ⟨Nat.zero_le _, show (j 1).val < 0 + 128 by omega⟩

/-- The load of the whole, of the two halves written over anything. -/
theorem readCov_stack {sg : RefSig} {κ : Kind} {sp : Space} (v : View sg κ sp S512x128 .bf16) (v18 : IVec S256x128 1) (x : Vec F S1x256x128 .bf16) (L : List (View.Piece (Elt F) S512x128 .bf16)) :
    v.readCov (Val := Elt F) (⟨Rect.unit (s := S512x128) ![256, 0] S256x128.size inb_S512x128_S256x128_256_0, k0_pay194 v18 x⟩ ::
     ⟨Rect.unit (s := S512x128) ![0, 0] S256x128.size inb_S512x128_S256x128_0_0, k0_pay193 v18 x⟩ :: L)
     (Rect.unit (s := S512x128) ![0, 0] S512x128.size inb_S512x128_S512x128_0_0).toLoadRect = stack v18 x := by
  rw [View.readCov_eq_canon']
  funext j
  have hj : (Rect.unit (s := S512x128) ![0, 0] S512x128.size inb_S512x128_S512x128_0_0).toLoadRect.idx j = j := by
    funext a; fin_cases a <;> exact Fin.ext (by simp [Rect.unit, Rect.toLoadRect, LoadRect.idx])
  rw [hj]; unfold stack
  exact canon_prefix (Val := Elt F) j [_, _] L (stack_cover v18 x j)

/-- The same with the sizes written out. -/
theorem readCov_stack_lit {sg : RefSig} {κ : Kind} {sp : Space} (v : View sg κ sp S512x128 .bf16) (v18 : IVec S256x128 1) (x : Vec F S1x256x128 .bf16) (L : List (View.Piece (Elt F) S512x128 .bf16)) :
    v.readCov (Val := Elt F) (⟨Rect.unit (s := S512x128) ![256, 0] ![256, 128] inb_S512x128_S256x128_256_0, k0_pay194 v18 x⟩ ::
     ⟨Rect.unit (s := S512x128) ![0, 0] ![256, 128] inb_S512x128_S256x128_0_0, k0_pay193 v18 x⟩ :: L)
     (Rect.unit (s := S512x128) ![0, 0] ![512, 128] inb_S512x128_S512x128_0_0).toLoadRect = stack v18 x :=
  readCov_stack v v18 x L

/-- The same whatever the buffer held. -/
theorem readAt_stack {sg : RefSig} {κ : Kind} {sp : Space} (v : View sg κ sp S512x128 .bf16) (f : v.ty.Contents (Elt F)) (v18 : IVec S256x128 1) (x : Vec F S1x256x128 .bf16)
    (L : List (View.Piece (Elt F) S512x128 .bf16)) :
    v.readAt (Elt F) (Rect.unit (s := S512x128) ![0, 0] S512x128.size inb_S512x128_S512x128_0_0).toLoadRect
      (v.writes (Elt F) f (⟨Rect.unit (s := S512x128) ![256, 0] S256x128.size inb_S512x128_S256x128_256_0, k0_pay194 v18 x⟩ ::
     ⟨Rect.unit (s := S512x128) ![0, 0] S256x128.size inb_S512x128_S256x128_0_0, k0_pay193 v18 x⟩ :: L)) = stack v18 x := by
  refine (View.readAt_writes_of_cover v f _ _ fun j => ?_).trans (readCov_stack v v18 x L)
  obtain ⟨p, hp, hj⟩ := stack_cover v18 x ((Rect.unit (s := S512x128) ![0, 0] S512x128.size inb_S512x128_S512x128_0_0).toLoadRect.idx j)
  exact ⟨p, List.mem_append_left L hp, hj⟩

end Cert.Proof.KernelIdeal

end
-- ==== Proof.KernelIdeal.TripEq.lean ====
/- What one trip of the loop leaves, in terms of the model: two tiles of results, and the scratch the next trip reads. -/
module

public import proofs.«01_k».proof.Proof.KernelIdeal.Model
public import Idealize.ShloMosaic.Lib.Pipeline.ReadBack

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open Idealize.ShloMosaic.View (ld)

variable {F : FTy → Type} [FloatOps F]

/-- A load through the last store's own rectangle reads what it stored. -/
theorem readAt_writes_head {Val : EltTy → Type} [∀ e, Nonempty (Val e)] {sg : RefSig} {κ : Kind} {sp : Space} {s : Shape} {e : EltTy} (v : View sg κ sp s e) (f : v.ty.Contents Val)
    (r : Rect s) (w : r.shape.Idx → Val e) (L : List (View.Piece Val s e)) : v.readAt Val r.toLoadRect (v.writes Val f (⟨r, w⟩ :: L)) = w :=
  (View.readAt_writes_of_cover v f (⟨r, w⟩ :: L) r.toLoadRect fun j => ⟨_, List.mem_cons_self, r.toLoadRect.idx_mem j⟩).trans (View.readCov_cons_toLoadRect v r w L)

/-- What the scratch buffers hold before a trip: the stacked tile, its scores against the first block of keys, and the
    accumulator of the tile before. -/
structure Scratch (c : Dev nD) (arg9 : Memref sig .tc .vmem S512x128 .bf16) (arg10 : Memref sig .tc .vmem S3x512x1280 .f32) (arg12 : Memref sig .tc .vmem S2x512x256 .f32)
    (X4 : S1x1x128x16640.Idx → Elt F .bf16) (Q : Vec F S512x128 .bf16) (A : Vec F S1x512x256 .f32)
    (f9 : Bf (F := F) c arg9) (f10 : Bf (F := F) c arg10) (f12 : Bf (F := F) c arg12) : Prop where
  q : View.readAt (Elt F) arg9.view (Rect.unit (s := S512x128) ![0, 0] S512x128.size inb_S512x128_S512x128_0_0).toLoadRect f9 = Q
  s : View.readAt (Elt F) arg10.view (Rect.unit (s := S3x512x1280) ![2, 0, 0] S1x512x1280.size inb_S3x512x1280_S1x512x1280_2_0_0).toLoadRect f10
    = k0_pay2 Q (keyBlk X4 0)
  a : View.readAt (Elt F) arg12.view (Rect.unit (s := S2x512x256) ![1, 0, 0] S1x512x256.size inb_S2x512x256_S1x512x256_1_0_0).toLoadRect f12 = A

/-- The two tiles of results a trip writes. -/
theorem trip_pieces (c : Dev nD) (i : grid0.Coords)
    (arg3 : Memref sig .tc .vmem S1x8192x128 .bf16) (harg3 : arg3.IsWhole) (arg4 : Memref sig .tc .vmem S1x1x128x16640 .bf16) (harg4 : arg4.IsWhole)
    (arg5 : Memref sig .tc .vmem S1x16640x256 .bf16) (harg5 : arg5.IsWhole) (arg6 : Memref sig .tc .vmem S4x64 .f32) (harg6 : arg6.IsWhole)
    (arg7 : Memref sig .tc .vmem S1x128 .f32) (harg7 : arg7.IsWhole) (arg8 : Memref sig .tc .vmem S1x8192x128 .bf16) (harg8 : arg8.IsWhole)
    (arg9 : Memref sig .tc .vmem S512x128 .bf16) (harg9 : arg9.IsWhole) (arg10 : Memref sig .tc .vmem S3x512x1280 .f32) (harg10 : arg10.IsWhole)
    (arg11 : Memref sig .tc .vmem S2x512x128 .f32) (harg11 : arg11.IsWhole) (arg12 : Memref sig .tc .vmem S2x512x256 .f32) (harg12 : arg12.IsWhole)
    (v18 : IVec S256x128 1) (v40 : FVec F S1x1 .f32) (v42 : FVec F S1x128 .f32) (k : Fin k0_t1_loop.trips)
    (f3 : Bf (F := F) c arg3) (f4 : Bf (F := F) c arg4) (f5 : Bf (F := F) c arg5)
    (f9 : Bf (F := F) c arg9) (f10 : Bf (F := F) c arg10) (f11 : Bf (F := F) c arg11) (f12 : Bf (F := F) c arg12) (Q : Vec F S512x128 .bf16) (A : Vec F S1x512x256 .f32)
    (h : Scratch c arg9 arg10 arg12 (arg4.view.read (Elt F) f4) Q A f9 f10 f12) :
    (trip c i arg3 harg3 arg4 harg4 arg5 harg5 arg6 harg6 arg7 harg7 arg8 harg8 arg9 harg9 arg10 harg10 arg11 harg11 arg12 harg12 v18 v40 v42 k f3 f4 f5 f9 f10 f11 f12).1.1
      = [⟨Rect.unit (s := S1x8192x128) (k0_off3 k) S1x256x128.size (k0_off3_inb k),
            k0_pay1 v40 (k0_pay190 v42) (runAcc Q (arg4.view.read (Elt F) f4) (arg5.view.read (Elt F) f5) 12)⟩,
         ⟨Rect.unit (s := S1x8192x128) (k0_off1 k) S1x256x128.size (k0_off1_inb k), k0_pay1 v40 (k0_pay190 v42) A⟩] := by
  have hQ := h.q; have hS := h.s; have hA := h.a
  simp (disch := decide) only [trip, ↓View.readCov_skip, ↓View.readCov_cons_toLoadRect, readCov_stack_lit, hQ, hS, hA, trip.sl.r_22, trip.sl.H12_14, trip.sl.v182, trip.sl.H10_20, trip.sl.r_18, trip.sl.H11_3, trip.sl.v427, trip.sl.v139, trip.sl.H11_7, trip.sl.v664, trip.sl.v992, trip.sl.r_20, trip.sl.v1065, trip.sl.H11_11, trip.sl.v800, trip.sl.H11_1, trip.sl.H10_3, trip.sl.H10_2, trip.sl.r_31, trip.sl.r_43, trip.sl.H10_12, trip.sl.H10_14, trip.sl.H12_9, trip.sl.v583, trip.sl.r_46, trip.sl.H10_24, trip.sl.H10_4, trip.sl.r_8, trip.sl.H11_21, trip.sl.r_47, trip.sl.H10_23, trip.sl.v449, trip.sl.H9_2, trip.sl.v559, trip.sl.H8_1, trip.sl.v1010, trip.sl.H12_18, trip.sl.r_9, trip.sl.r_14, trip.sl.H10_25, trip.sl.r_15, trip.sl.r_35, trip.sl.v839, trip.sl.H10_15, trip.sl.r_3, trip.sl.H10_26, trip.sl.v957, trip.sl.H12_5, trip.sl.H11_18, trip.sl.H11_10, trip.sl.v817, trip.sl.H11_5, trip.sl.H11_24, trip.sl.r_36, trip.sl.v835, trip.sl.v410, trip.sl.H12_19, trip.sl.H10_19, trip.sl.r_12, trip.sl.v769, trip.sl.v870, trip.sl.r_45, trip.sl.H12_12, trip.sl.r_28, trip.sl.v379, trip.sl.H11_8, trip.sl.H12_1, trip.sl.v99, trip.sl.v414, trip.sl.v270, trip.sl.v677, trip.sl.v922, trip.sl.r_25, trip.sl.H10_21, trip.sl.r, trip.sl.r_24, trip.sl.H10_17, trip.sl.v887, trip.sl.H11_20, trip.sl.H10_8, trip.sl.v239, trip.sl.v484, trip.sl.v874, trip.sl.v532, trip.sl.H10_1, trip.sl.v252, trip.sl.H11_22, trip.sl.v634, trip.sl.H11_6, trip.sl.H12_25, trip.sl.v309, trip.sl.v747, trip.sl.v445, trip.sl.v1027, trip.sl.r_6, trip.sl.H12_23, trip.sl.H10_22, trip.sl.v357, trip.sl.H9_4, trip.sl.r_39, trip.sl.r_13, trip.sl.v515, trip.sl.v940, trip.sl.H11_13, trip.sl.v217, trip.sl.r_41, trip.sl.r_38, trip.sl.H12_24, trip.sl.r_34, trip.sl.r_26, trip.sl.v235, trip.sl.r_30, trip.sl.H11_9, trip.sl.v979, trip.sl.r_33, trip.sl.v200, trip.sl.H10_9, trip.sl.H12_16, trip.sl.v480, trip.sl.v604, trip.sl.H8_2, trip.sl.v730, trip.sl.r_37, trip.sl.v570, trip.sl.r_2, trip.sl.r_11, trip.sl.H11_19, trip.sl.r_16, trip.sl.r_42, trip.sl.r_44, trip.sl.H12_20, trip.sl.r_7, trip.sl.v695, trip.sl.v169, trip.sl.v712, trip.sl.H11_15, trip.sl.H11_16, trip.sl.v852, trip.sl.v519, trip.sl.v782, trip.sl.v905, trip.sl.H10_7, trip.sl.H10_10, trip.sl.H12_7, trip.sl.v909, trip.sl.v1061, trip.sl.v975, trip.sl.H11_14, trip.sl.v699, trip.sl.H10_6, trip.sl.v566, trip.sl.H12_21, trip.sl.r_19, trip.sl.H10_13, trip.sl.H10_5, trip.sl.H11_23, trip.sl.v305, trip.sl.H12_15, trip.sl.H11_4, trip.sl.v165, trip.sl.H11_2, trip.sl.H12_2, trip.sl.v497, trip.sl.r_1, trip.sl.H12_6, trip.sl.r_29, trip.sl.v944, trip.sl.H10_16, trip.sl.H12_22, trip.sl.v660, trip.sl.H10_18, trip.sl.v734, trip.sl.H11_12, trip.sl.H12_8, trip.sl.H11_17, trip.sl.r_32, trip.sl.r_21, trip.sl.H12_11, trip.sl.H10_11, trip.sl.v392, trip.sl.r_40, trip.sl.v344, trip.sl.H11_25, trip.sl.v375, trip.sl.H12_17, trip.sl.v1054, trip.sl.v765, trip.sl.r_27, trip.sl.v340, trip.sl.r_4, trip.sl.H12_10, trip.sl.v322, trip.sl.H12_3, trip.sl.v287, trip.sl.v594, trip.sl.r_10, trip.sl.H12_13, trip.sl.r_17, trip.sl.v804, trip.sl.v204, trip.sl.r_23, trip.sl.v1014, trip.sl.v462, trip.sl.v1078, trip.sl.v274, trip.sl.H12_4, trip.sl.r_5,
    pay_10_0, pay_10_1, pay_10_2, pay_10_3, pay_10_4, pay_10_5, pay_10_6, pay_10_7, pay_10_8, pay_10_9, pay_10_10, pay_10_11, pay_10_12, pay_10_13, pay_10_14, pay_10_15, pay_10_16, pay_10_17, pay_10_18, pay_10_19, pay_10_20, pay_10_21, pay_10_22, pay_10_23, pay_10_24, pay_11_25, pay_11_26, pay_11_27, pay_11_28, pay_11_29, pay_11_30, pay_11_31, pay_11_32, pay_11_33, pay_11_34, pay_11_35, pay_11_36, pay_11_37, pay_11_38, pay_11_39, pay_11_40, pay_11_41, pay_11_42, pay_11_43, pay_11_44, pay_11_45, pay_11_46, pay_11_47, pay_12_48, pay_12_49, pay_12_50, pay_12_51, pay_12_52, pay_12_53, pay_12_54, pay_12_55, pay_12_56, pay_12_57, pay_12_58, pay_12_59, pay_12_60, pay_12_61, pay_12_62, pay_12_63, pay_12_64, pay_12_65, pay_12_66, pay_12_67, pay_12_68, pay_12_69, pay_12_70, pay_11_71, pay_12_72, pay_10_73, pay_9_0, pay_9_1, pay_9_2, pay_9_3, pay_8_0, pay_8_1]
  rfl

/-- The scratch buffers after a trip: the next stacked tile and its first scores, and the accumulator of the pair's second tile. -/
theorem trip_scratch (c : Dev nD) (i : grid0.Coords)
    (arg3 : Memref sig .tc .vmem S1x8192x128 .bf16) (harg3 : arg3.IsWhole) (arg4 : Memref sig .tc .vmem S1x1x128x16640 .bf16) (harg4 : arg4.IsWhole)
    (arg5 : Memref sig .tc .vmem S1x16640x256 .bf16) (harg5 : arg5.IsWhole) (arg6 : Memref sig .tc .vmem S4x64 .f32) (harg6 : arg6.IsWhole)
    (arg7 : Memref sig .tc .vmem S1x128 .f32) (harg7 : arg7.IsWhole) (arg8 : Memref sig .tc .vmem S1x8192x128 .bf16) (harg8 : arg8.IsWhole)
    (arg9 : Memref sig .tc .vmem S512x128 .bf16) (harg9 : arg9.IsWhole) (arg10 : Memref sig .tc .vmem S3x512x1280 .f32) (harg10 : arg10.IsWhole)
    (arg11 : Memref sig .tc .vmem S2x512x128 .f32) (harg11 : arg11.IsWhole) (arg12 : Memref sig .tc .vmem S2x512x256 .f32) (harg12 : arg12.IsWhole)
    (v18 : IVec S256x128 1) (v40 : FVec F S1x1 .f32) (v42 : FVec F S1x128 .f32) (k : Fin k0_t1_loop.trips)
    (f3 : Bf (F := F) c arg3) (f4 : Bf (F := F) c arg4) (f5 : Bf (F := F) c arg5)
    (f9 : Bf (F := F) c arg9) (f10 : Bf (F := F) c arg10) (f11 : Bf (F := F) c arg11) (f12 : Bf (F := F) c arg12) (Q : Vec F S512x128 .bf16) (A : Vec F S1x512x256 .f32)
    (h : Scratch c arg9 arg10 arg12 (arg4.view.read (Elt F) f4) Q A f9 f10 f12) :
    Scratch c arg9 arg10 arg12 (arg4.view.read (Elt F) f4) (stack v18 (ld (arg3.view.read (Elt F) f3) (Rect.unit (s := S1x8192x128) (k0_off4 k) S1x256x128.size (k0_off4_inb k))))
      (runAcc (stack v18 (ld (arg3.view.read (Elt F) f3) (Rect.unit (s := S1x8192x128) (k0_off2 k) S1x256x128.size (k0_off2_inb k)))) (arg4.view.read (Elt F) f4) (arg5.view.read (Elt F) f5) 12)
      (trip c i arg3 harg3 arg4 harg4 arg5 harg5 arg6 harg6 arg7 harg7 arg8 harg8 arg9 harg9 arg10 harg10 arg11 harg11 arg12 harg12 v18 v40 v42 k f3 f4 f5 f9 f10 f11 f12).1.2.1 (trip c i arg3 harg3 arg4 harg4 arg5 harg5 arg6 harg6 arg7 harg7 arg8 harg8 arg9 harg9 arg10 harg10 arg11 harg11 arg12 harg12 v18 v40 v42 k f3 f4 f5 f9 f10 f11 f12).1.2.2.1
      (trip c i arg3 harg3 arg4 harg4 arg5 harg5 arg6 harg6 arg7 harg7 arg8 harg8 arg9 harg9 arg10 harg10 arg11 harg11 arg12 harg12 v18 v40 v42 k f3 f4 f5 f9 f10 f11 f12).1.2.2.2.2 := by
  have hQ := h.q; have hS := h.s; have hA := h.a
  refine ⟨?_, ?_, ?_⟩
  · simp (disch := decide) only [trip, ↓View.readCov_skip, ↓View.readCov_cons_toLoadRect, readCov_stack_lit, hQ, hS, hA, trip.sl.r_22, trip.sl.H12_14, trip.sl.v182, trip.sl.H10_20, trip.sl.r_18, trip.sl.H11_3, trip.sl.v427, trip.sl.v139, trip.sl.H11_7, trip.sl.v664, trip.sl.v992, trip.sl.r_20, trip.sl.v1065, trip.sl.H11_11, trip.sl.v800, trip.sl.H11_1, trip.sl.H10_3, trip.sl.H10_2, trip.sl.r_31, trip.sl.r_43, trip.sl.H10_12, trip.sl.H10_14, trip.sl.H12_9, trip.sl.v583, trip.sl.r_46, trip.sl.H10_24, trip.sl.H10_4, trip.sl.r_8, trip.sl.H11_21, trip.sl.r_47, trip.sl.H10_23, trip.sl.v449, trip.sl.H9_2, trip.sl.v559, trip.sl.H8_1, trip.sl.v1010, trip.sl.H12_18, trip.sl.r_9, trip.sl.r_14, trip.sl.H10_25, trip.sl.r_15, trip.sl.r_35, trip.sl.v839, trip.sl.H10_15, trip.sl.r_3, trip.sl.H10_26, trip.sl.v957, trip.sl.H12_5, trip.sl.H11_18, trip.sl.H11_10, trip.sl.v817, trip.sl.H11_5, trip.sl.H11_24, trip.sl.r_36, trip.sl.v835, trip.sl.v410, trip.sl.H12_19, trip.sl.H10_19, trip.sl.r_12, trip.sl.v769, trip.sl.v870, trip.sl.r_45, trip.sl.H12_12, trip.sl.r_28, trip.sl.v379, trip.sl.H11_8, trip.sl.H12_1, trip.sl.v99, trip.sl.v414, trip.sl.v270, trip.sl.v677, trip.sl.v922, trip.sl.r_25, trip.sl.H10_21, trip.sl.r, trip.sl.r_24, trip.sl.H10_17, trip.sl.v887, trip.sl.H11_20, trip.sl.H10_8, trip.sl.v239, trip.sl.v484, trip.sl.v874, trip.sl.v532, trip.sl.H10_1, trip.sl.v252, trip.sl.H11_22, trip.sl.v634, trip.sl.H11_6, trip.sl.H12_25, trip.sl.v309, trip.sl.v747, trip.sl.v445, trip.sl.v1027, trip.sl.r_6, trip.sl.H12_23, trip.sl.H10_22, trip.sl.v357, trip.sl.H9_4, trip.sl.r_39, trip.sl.r_13, trip.sl.v515, trip.sl.v940, trip.sl.H11_13, trip.sl.v217, trip.sl.r_41, trip.sl.r_38, trip.sl.H12_24, trip.sl.r_34, trip.sl.r_26, trip.sl.v235, trip.sl.r_30, trip.sl.H11_9, trip.sl.v979, trip.sl.r_33, trip.sl.v200, trip.sl.H10_9, trip.sl.H12_16, trip.sl.v480, trip.sl.v604, trip.sl.H8_2, trip.sl.v730, trip.sl.r_37, trip.sl.v570, trip.sl.r_2, trip.sl.r_11, trip.sl.H11_19, trip.sl.r_16, trip.sl.r_42, trip.sl.r_44, trip.sl.H12_20, trip.sl.r_7, trip.sl.v695, trip.sl.v169, trip.sl.v712, trip.sl.H11_15, trip.sl.H11_16, trip.sl.v852, trip.sl.v519, trip.sl.v782, trip.sl.v905, trip.sl.H10_7, trip.sl.H10_10, trip.sl.H12_7, trip.sl.v909, trip.sl.v1061, trip.sl.v975, trip.sl.H11_14, trip.sl.v699, trip.sl.H10_6, trip.sl.v566, trip.sl.H12_21, trip.sl.r_19, trip.sl.H10_13, trip.sl.H10_5, trip.sl.H11_23, trip.sl.v305, trip.sl.H12_15, trip.sl.H11_4, trip.sl.v165, trip.sl.H11_2, trip.sl.H12_2, trip.sl.v497, trip.sl.r_1, trip.sl.H12_6, trip.sl.r_29, trip.sl.v944, trip.sl.H10_16, trip.sl.H12_22, trip.sl.v660, trip.sl.H10_18, trip.sl.v734, trip.sl.H11_12, trip.sl.H12_8, trip.sl.H11_17, trip.sl.r_32, trip.sl.r_21, trip.sl.H12_11, trip.sl.H10_11, trip.sl.v392, trip.sl.r_40, trip.sl.v344, trip.sl.H11_25, trip.sl.v375, trip.sl.H12_17, trip.sl.v1054, trip.sl.v765, trip.sl.r_27, trip.sl.v340, trip.sl.r_4, trip.sl.H12_10, trip.sl.v322, trip.sl.H12_3, trip.sl.v287, trip.sl.v594, trip.sl.r_10, trip.sl.H12_13, trip.sl.r_17, trip.sl.v804, trip.sl.v204, trip.sl.r_23, trip.sl.v1014, trip.sl.v462, trip.sl.v1078, trip.sl.v274, trip.sl.H12_4, trip.sl.r_5,
    pay_10_0, pay_10_1, pay_10_2, pay_10_3, pay_10_4, pay_10_5, pay_10_6, pay_10_7, pay_10_8, pay_10_9, pay_10_10, pay_10_11, pay_10_12, pay_10_13, pay_10_14, pay_10_15, pay_10_16, pay_10_17, pay_10_18, pay_10_19, pay_10_20, pay_10_21, pay_10_22, pay_10_23, pay_10_24, pay_11_25, pay_11_26, pay_11_27, pay_11_28, pay_11_29, pay_11_30, pay_11_31, pay_11_32, pay_11_33, pay_11_34, pay_11_35, pay_11_36, pay_11_37, pay_11_38, pay_11_39, pay_11_40, pay_11_41, pay_11_42, pay_11_43, pay_11_44, pay_11_45, pay_11_46, pay_11_47, pay_12_48, pay_12_49, pay_12_50, pay_12_51, pay_12_52, pay_12_53, pay_12_54, pay_12_55, pay_12_56, pay_12_57, pay_12_58, pay_12_59, pay_12_60, pay_12_61, pay_12_62, pay_12_63, pay_12_64, pay_12_65, pay_12_66, pay_12_67, pay_12_68, pay_12_69, pay_12_70, pay_11_71, pay_12_72, pay_10_73, pay_9_0, pay_9_1, pay_9_2, pay_9_3, pay_8_0, pay_8_1]
    exact readAt_stack _ _ _ _ _
  · simp (disch := decide) only [trip, ↓readAt_writes_head, ↓View.readCov_skip, ↓View.readCov_cons_toLoadRect, readCov_stack_lit, hQ, hS, hA, trip.sl.r_22, trip.sl.H12_14, trip.sl.v182, trip.sl.H10_20, trip.sl.r_18, trip.sl.H11_3, trip.sl.v427, trip.sl.v139, trip.sl.H11_7, trip.sl.v664, trip.sl.v992, trip.sl.r_20, trip.sl.v1065, trip.sl.H11_11, trip.sl.v800, trip.sl.H11_1, trip.sl.H10_3, trip.sl.H10_2, trip.sl.r_31, trip.sl.r_43, trip.sl.H10_12, trip.sl.H10_14, trip.sl.H12_9, trip.sl.v583, trip.sl.r_46, trip.sl.H10_24, trip.sl.H10_4, trip.sl.r_8, trip.sl.H11_21, trip.sl.r_47, trip.sl.H10_23, trip.sl.v449, trip.sl.H9_2, trip.sl.v559, trip.sl.H8_1, trip.sl.v1010, trip.sl.H12_18, trip.sl.r_9, trip.sl.r_14, trip.sl.H10_25, trip.sl.r_15, trip.sl.r_35, trip.sl.v839, trip.sl.H10_15, trip.sl.r_3, trip.sl.H10_26, trip.sl.v957, trip.sl.H12_5, trip.sl.H11_18, trip.sl.H11_10, trip.sl.v817, trip.sl.H11_5, trip.sl.H11_24, trip.sl.r_36, trip.sl.v835, trip.sl.v410, trip.sl.H12_19, trip.sl.H10_19, trip.sl.r_12, trip.sl.v769, trip.sl.v870, trip.sl.r_45, trip.sl.H12_12, trip.sl.r_28, trip.sl.v379, trip.sl.H11_8, trip.sl.H12_1, trip.sl.v99, trip.sl.v414, trip.sl.v270, trip.sl.v677, trip.sl.v922, trip.sl.r_25, trip.sl.H10_21, trip.sl.r, trip.sl.r_24, trip.sl.H10_17, trip.sl.v887, trip.sl.H11_20, trip.sl.H10_8, trip.sl.v239, trip.sl.v484, trip.sl.v874, trip.sl.v532, trip.sl.H10_1, trip.sl.v252, trip.sl.H11_22, trip.sl.v634, trip.sl.H11_6, trip.sl.H12_25, trip.sl.v309, trip.sl.v747, trip.sl.v445, trip.sl.v1027, trip.sl.r_6, trip.sl.H12_23, trip.sl.H10_22, trip.sl.v357, trip.sl.H9_4, trip.sl.r_39, trip.sl.r_13, trip.sl.v515, trip.sl.v940, trip.sl.H11_13, trip.sl.v217, trip.sl.r_41, trip.sl.r_38, trip.sl.H12_24, trip.sl.r_34, trip.sl.r_26, trip.sl.v235, trip.sl.r_30, trip.sl.H11_9, trip.sl.v979, trip.sl.r_33, trip.sl.v200, trip.sl.H10_9, trip.sl.H12_16, trip.sl.v480, trip.sl.v604, trip.sl.H8_2, trip.sl.v730, trip.sl.r_37, trip.sl.v570, trip.sl.r_2, trip.sl.r_11, trip.sl.H11_19, trip.sl.r_16, trip.sl.r_42, trip.sl.r_44, trip.sl.H12_20, trip.sl.r_7, trip.sl.v695, trip.sl.v169, trip.sl.v712, trip.sl.H11_15, trip.sl.H11_16, trip.sl.v852, trip.sl.v519, trip.sl.v782, trip.sl.v905, trip.sl.H10_7, trip.sl.H10_10, trip.sl.H12_7, trip.sl.v909, trip.sl.v1061, trip.sl.v975, trip.sl.H11_14, trip.sl.v699, trip.sl.H10_6, trip.sl.v566, trip.sl.H12_21, trip.sl.r_19, trip.sl.H10_13, trip.sl.H10_5, trip.sl.H11_23, trip.sl.v305, trip.sl.H12_15, trip.sl.H11_4, trip.sl.v165, trip.sl.H11_2, trip.sl.H12_2, trip.sl.v497, trip.sl.r_1, trip.sl.H12_6, trip.sl.r_29, trip.sl.v944, trip.sl.H10_16, trip.sl.H12_22, trip.sl.v660, trip.sl.H10_18, trip.sl.v734, trip.sl.H11_12, trip.sl.H12_8, trip.sl.H11_17, trip.sl.r_32, trip.sl.r_21, trip.sl.H12_11, trip.sl.H10_11, trip.sl.v392, trip.sl.r_40, trip.sl.v344, trip.sl.H11_25, trip.sl.v375, trip.sl.H12_17, trip.sl.v1054, trip.sl.v765, trip.sl.r_27, trip.sl.v340, trip.sl.r_4, trip.sl.H12_10, trip.sl.v322, trip.sl.H12_3, trip.sl.v287, trip.sl.v594, trip.sl.r_10, trip.sl.H12_13, trip.sl.r_17, trip.sl.v804, trip.sl.v204, trip.sl.r_23, trip.sl.v1014, trip.sl.v462, trip.sl.v1078, trip.sl.v274, trip.sl.H12_4, trip.sl.r_5,
    pay_10_0, pay_10_1, pay_10_2, pay_10_3, pay_10_4, pay_10_5, pay_10_6, pay_10_7, pay_10_8, pay_10_9, pay_10_10, pay_10_11, pay_10_12, pay_10_13, pay_10_14, pay_10_15, pay_10_16, pay_10_17, pay_10_18, pay_10_19, pay_10_20, pay_10_21, pay_10_22, pay_10_23, pay_10_24, pay_11_25, pay_11_26, pay_11_27, pay_11_28, pay_11_29, pay_11_30, pay_11_31, pay_11_32, pay_11_33, pay_11_34, pay_11_35, pay_11_36, pay_11_37, pay_11_38, pay_11_39, pay_11_40, pay_11_41, pay_11_42, pay_11_43, pay_11_44, pay_11_45, pay_11_46, pay_11_47, pay_12_48, pay_12_49, pay_12_50, pay_12_51, pay_12_52, pay_12_53, pay_12_54, pay_12_55, pay_12_56, pay_12_57, pay_12_58, pay_12_59, pay_12_60, pay_12_61, pay_12_62, pay_12_63, pay_12_64, pay_12_65, pay_12_66, pay_12_67, pay_12_68, pay_12_69, pay_12_70, pay_11_71, pay_12_72, pay_10_73, pay_9_0, pay_9_1, pay_9_2, pay_9_3, pay_8_0, pay_8_1]
    rfl
  · simp (disch := decide) only [trip, ↓readAt_writes_head, ↓View.readCov_skip, ↓View.readCov_cons_toLoadRect, readCov_stack_lit, hQ, hS, hA, trip.sl.r_22, trip.sl.H12_14, trip.sl.v182, trip.sl.H10_20, trip.sl.r_18, trip.sl.H11_3, trip.sl.v427, trip.sl.v139, trip.sl.H11_7, trip.sl.v664, trip.sl.v992, trip.sl.r_20, trip.sl.v1065, trip.sl.H11_11, trip.sl.v800, trip.sl.H11_1, trip.sl.H10_3, trip.sl.H10_2, trip.sl.r_31, trip.sl.r_43, trip.sl.H10_12, trip.sl.H10_14, trip.sl.H12_9, trip.sl.v583, trip.sl.r_46, trip.sl.H10_24, trip.sl.H10_4, trip.sl.r_8, trip.sl.H11_21, trip.sl.r_47, trip.sl.H10_23, trip.sl.v449, trip.sl.H9_2, trip.sl.v559, trip.sl.H8_1, trip.sl.v1010, trip.sl.H12_18, trip.sl.r_9, trip.sl.r_14, trip.sl.H10_25, trip.sl.r_15, trip.sl.r_35, trip.sl.v839, trip.sl.H10_15, trip.sl.r_3, trip.sl.H10_26, trip.sl.v957, trip.sl.H12_5, trip.sl.H11_18, trip.sl.H11_10, trip.sl.v817, trip.sl.H11_5, trip.sl.H11_24, trip.sl.r_36, trip.sl.v835, trip.sl.v410, trip.sl.H12_19, trip.sl.H10_19, trip.sl.r_12, trip.sl.v769, trip.sl.v870, trip.sl.r_45, trip.sl.H12_12, trip.sl.r_28, trip.sl.v379, trip.sl.H11_8, trip.sl.H12_1, trip.sl.v99, trip.sl.v414, trip.sl.v270, trip.sl.v677, trip.sl.v922, trip.sl.r_25, trip.sl.H10_21, trip.sl.r, trip.sl.r_24, trip.sl.H10_17, trip.sl.v887, trip.sl.H11_20, trip.sl.H10_8, trip.sl.v239, trip.sl.v484, trip.sl.v874, trip.sl.v532, trip.sl.H10_1, trip.sl.v252, trip.sl.H11_22, trip.sl.v634, trip.sl.H11_6, trip.sl.H12_25, trip.sl.v309, trip.sl.v747, trip.sl.v445, trip.sl.v1027, trip.sl.r_6, trip.sl.H12_23, trip.sl.H10_22, trip.sl.v357, trip.sl.H9_4, trip.sl.r_39, trip.sl.r_13, trip.sl.v515, trip.sl.v940, trip.sl.H11_13, trip.sl.v217, trip.sl.r_41, trip.sl.r_38, trip.sl.H12_24, trip.sl.r_34, trip.sl.r_26, trip.sl.v235, trip.sl.r_30, trip.sl.H11_9, trip.sl.v979, trip.sl.r_33, trip.sl.v200, trip.sl.H10_9, trip.sl.H12_16, trip.sl.v480, trip.sl.v604, trip.sl.H8_2, trip.sl.v730, trip.sl.r_37, trip.sl.v570, trip.sl.r_2, trip.sl.r_11, trip.sl.H11_19, trip.sl.r_16, trip.sl.r_42, trip.sl.r_44, trip.sl.H12_20, trip.sl.r_7, trip.sl.v695, trip.sl.v169, trip.sl.v712, trip.sl.H11_15, trip.sl.H11_16, trip.sl.v852, trip.sl.v519, trip.sl.v782, trip.sl.v905, trip.sl.H10_7, trip.sl.H10_10, trip.sl.H12_7, trip.sl.v909, trip.sl.v1061, trip.sl.v975, trip.sl.H11_14, trip.sl.v699, trip.sl.H10_6, trip.sl.v566, trip.sl.H12_21, trip.sl.r_19, trip.sl.H10_13, trip.sl.H10_5, trip.sl.H11_23, trip.sl.v305, trip.sl.H12_15, trip.sl.H11_4, trip.sl.v165, trip.sl.H11_2, trip.sl.H12_2, trip.sl.v497, trip.sl.r_1, trip.sl.H12_6, trip.sl.r_29, trip.sl.v944, trip.sl.H10_16, trip.sl.H12_22, trip.sl.v660, trip.sl.H10_18, trip.sl.v734, trip.sl.H11_12, trip.sl.H12_8, trip.sl.H11_17, trip.sl.r_32, trip.sl.r_21, trip.sl.H12_11, trip.sl.H10_11, trip.sl.v392, trip.sl.r_40, trip.sl.v344, trip.sl.H11_25, trip.sl.v375, trip.sl.H12_17, trip.sl.v1054, trip.sl.v765, trip.sl.r_27, trip.sl.v340, trip.sl.r_4, trip.sl.H12_10, trip.sl.v322, trip.sl.H12_3, trip.sl.v287, trip.sl.v594, trip.sl.r_10, trip.sl.H12_13, trip.sl.r_17, trip.sl.v804, trip.sl.v204, trip.sl.r_23, trip.sl.v1014, trip.sl.v462, trip.sl.v1078, trip.sl.v274, trip.sl.H12_4, trip.sl.r_5,
    pay_10_0, pay_10_1, pay_10_2, pay_10_3, pay_10_4, pay_10_5, pay_10_6, pay_10_7, pay_10_8, pay_10_9, pay_10_10, pay_10_11, pay_10_12, pay_10_13, pay_10_14, pay_10_15, pay_10_16, pay_10_17, pay_10_18, pay_10_19, pay_10_20, pay_10_21, pay_10_22, pay_10_23, pay_10_24, pay_11_25, pay_11_26, pay_11_27, pay_11_28, pay_11_29, pay_11_30, pay_11_31, pay_11_32, pay_11_33, pay_11_34, pay_11_35, pay_11_36, pay_11_37, pay_11_38, pay_11_39, pay_11_40, pay_11_41, pay_11_42, pay_11_43, pay_11_44, pay_11_45, pay_11_46, pay_11_47, pay_12_48, pay_12_49, pay_12_50, pay_12_51, pay_12_52, pay_12_53, pay_12_54, pay_12_55, pay_12_56, pay_12_57, pay_12_58, pay_12_59, pay_12_60, pay_12_61, pay_12_62, pay_12_63, pay_12_64, pay_12_65, pay_12_66, pay_12_67, pay_12_68, pay_12_69, pay_12_70, pay_11_71, pay_12_72, pay_10_73, pay_9_0, pay_9_1, pay_9_2, pay_9_3, pay_8_0, pay_8_1]
    rfl

end Cert.Proof.KernelIdeal

end
-- ==== Proof.KernelIdeal.Body.lean ====
/- The loop over pairs of query tiles and the whole body: the block of results it leaves. -/
module

public import proofs.«01_k».proof.Proof.KernelIdeal.TripEq
public import proofs.«01_k».proof.Proof.Gen.KernelIdeal.Loops
public import Idealize.ShloMosaic.Lib.WritesUnit

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open Idealize.ShloMosaic.View (ld)

open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

attribute [local irreducible] trip

section Loop

variable (c : Dev nD) (i : grid0.Coords)
    (arg3 : Memref sig .tc .vmem S1x8192x128 .bf16) (harg3 : arg3.IsWhole) (arg4 : Memref sig .tc .vmem S1x1x128x16640 .bf16) (harg4 : arg4.IsWhole)
    (arg5 : Memref sig .tc .vmem S1x16640x256 .bf16) (harg5 : arg5.IsWhole) (arg6 : Memref sig .tc .vmem S4x64 .f32) (harg6 : arg6.IsWhole)
    (arg7 : Memref sig .tc .vmem S1x128 .f32) (harg7 : arg7.IsWhole) (arg8 : Memref sig .tc .vmem S1x8192x128 .bf16) (harg8 : arg8.IsWhole)
    (arg9 : Memref sig .tc .vmem S512x128 .bf16) (harg9 : arg9.IsWhole) (arg10 : Memref sig .tc .vmem S3x512x1280 .f32) (harg10 : arg10.IsWhole)
    (arg11 : Memref sig .tc .vmem S2x512x128 .f32) (harg11 : arg11.IsWhole) (arg12 : Memref sig .tc .vmem S2x512x256 .f32) (harg12 : arg12.IsWhole)
    (v18 : IVec S256x128 1) (v40 : FVec F S1x1 .f32) (v42 : FVec F S1x128 .f32)

/-- The five buffers the loop writes. -/
structure Bufs (c : Dev nD) (arg8 : Memref sig .tc .vmem S1x8192x128 .bf16) (arg9 : Memref sig .tc .vmem S512x128 .bf16)
    (arg10 : Memref sig .tc .vmem S3x512x1280 .f32) (arg11 : Memref sig .tc .vmem S2x512x128 .f32) (arg12 : Memref sig .tc .vmem S2x512x256 .f32) where
  o : Bf (F := F) c arg8
  q : Bf (F := F) c arg9
  s : Bf (F := F) c arg10
  m : Bf (F := F) c arg11
  a : Bf (F := F) c arg12

/-- One trip's step. -/
def next (f3 : Bf (F := F) c arg3) (f4 : Bf (F := F) c arg4) (f5 : Bf (F := F) c arg5) (k : Fin k0_t1_loop.trips) (b : Bufs (F := F) c arg8 arg9 arg10 arg11 arg12) :
    Bufs (F := F) c arg8 arg9 arg10 arg11 arg12 :=
  let w := trip c i arg3 harg3 arg4 harg4 arg5 harg5 arg6 harg6 arg7 harg7 arg8 harg8 arg9 harg9 arg10 harg10 arg11 harg11 arg12 harg12 v18 v40 v42 k f3 f4 f5 b.q b.s b.m b.a
  ⟨arg8.view.writes (Elt F) b.o w.1.1, w.1.2.1, w.1.2.2.1, w.1.2.2.2.1, w.1.2.2.2.2⟩

/-- The buffers before trip `k`, from what the loop found in them. -/
def bufsAt (f3 : Bf (F := F) c arg3) (f4 : Bf (F := F) c arg4) (f5 : Bf (F := F) c arg5) (b : Bufs (F := F) c arg8 arg9 arg10 arg11 arg12) : ℕ → Bufs (F := F) c arg8 arg9 arg10 arg11 arg12
  | 0 => b
  | k + 1 => if h : k < k0_t1_loop.trips then next c i arg3 harg3 arg4 harg4 arg5 harg5 arg6 harg6 arg7 harg7 arg8 harg8 arg9 harg9 arg10 harg10 arg11 harg11 arg12 harg12 v18 v40 v42 f3 f4 f5 ⟨k, h⟩ (bufsAt f3 f4 f5 b k) else bufsAt f3 f4 f5 b k

theorem bufsAt_succ (f3 : Bf (F := F) c arg3) (f4 : Bf (F := F) c arg4) (f5 : Bf (F := F) c arg5) (b : Bufs (F := F) c arg8 arg9 arg10 arg11 arg12) (k : Fin k0_t1_loop.trips) :
    bufsAt c i arg3 harg3 arg4 harg4 arg5 harg5 arg6 harg6 arg7 harg7 arg8 harg8 arg9 harg9 arg10 harg10 arg11 harg11 arg12 harg12 v18 v40 v42 f3 f4 f5 b (k.val + 1) = next c i arg3 harg3 arg4 harg4 arg5 harg5 arg6 harg6 arg7 harg7 arg8 harg8 arg9 harg9 arg10 harg10 arg11 harg11 arg12 harg12 v18 v40 v42 f3 f4 f5 k (bufsAt c i arg3 harg3 arg4 harg4 arg5 harg5 arg6 harg6 arg7 harg7 arg8 harg8 arg9 harg9 arg10 harg10 arg11 harg11 arg12 harg12 v18 v40 v42 f3 f4 f5 b k.val) := by
  rw [bufsAt, dif_pos k.isLt]

/-- What the loop's buffers hold before trip `k`. -/
abbrev loopRes (f3 : Bf (F := F) c arg3) (f4 : Bf (F := F) c arg4) (f5 : Bf (F := F) c arg5) (b : Bufs (F := F) c arg8 arg9 arg10 arg11 arg12) : sProp 𝕄 :=
  iprop(pt c arg3 f3 ∗ pt c arg4 f4 ∗ pt c arg5 f5 ∗ pt c arg8 b.o ∗ pt c arg9 b.q ∗ pt c arg10 b.s ∗ pt c arg11 b.m ∗ pt c arg12 b.a)

/-- A trip runs from the buffers before it to the buffers after it. -/
theorem next_run (f3 : Bf (F := F) c arg3) (f4 : Bf (F := F) c arg4) (f5 : Bf (F := F) c arg5) (k : Fin k0_t1_loop.trips) (b : Bufs (F := F) c arg8 arg9 arg10 arg11 arg12) :
    loopRes c arg3 arg4 arg5 arg8 arg9 arg10 arg11 arg12 f3 f4 f5 b
      ⊢ wp frame (wpE (defs₀ (F := F)) Variants.none c none) Set.univ (k0_t1_body i arg3 harg3 arg4 harg4 arg5 harg5 arg6 harg6 arg7 harg7 arg8 harg8 arg9 harg9 arg10 harg10 arg11 harg11 arg12 harg12 v18 v40 v42 k ())
          (fun _ => loopRes c arg3 arg4 arg5 arg8 arg9 arg10 arg11 arg12 f3 f4 f5 (next c i arg3 harg3 arg4 harg4 arg5 harg5 arg6 harg6 arg7 harg7 arg8 harg8 arg9 harg9 arg10 harg10 arg11 harg11 arg12 harg12 v18 v40 v42 f3 f4 f5 k b)) :=
  (trip c i arg3 harg3 arg4 harg4 arg5 harg5 arg6 harg6 arg7 harg7 arg8 harg8 arg9 harg9 arg10 harg10 arg11 harg11 arg12 harg12 v18 v40 v42 k f3 f4 f5 b.q b.s b.m b.a).2 b.o

attribute [local irreducible] next

/-- One buffer of them: at trip 0 what the loop found in it. -/
def oAt (f3 : Bf (F := F) c arg3) (f4 : Bf (F := F) c arg4) (f5 : Bf (F := F) c arg5) (g8 : Bf (F := F) c arg8) (g9 : Bf (F := F) c arg9)
    (g10 : Bf (F := F) c arg10) (g11 : Bf (F := F) c arg11) (g12 : Bf (F := F) c arg12) : ℕ → Bf (F := F) c arg8
  | 0 => g8
  | k + 1 => (bufsAt c i arg3 harg3 arg4 harg4 arg5 harg5 arg6 harg6 arg7 harg7 arg8 harg8 arg9 harg9 arg10 harg10 arg11 harg11 arg12 harg12 v18 v40 v42 f3 f4 f5 ⟨g8, g9, g10, g11, g12⟩ (k + 1)).o

theorem oAt_eq (f3 : Bf (F := F) c arg3) (f4 : Bf (F := F) c arg4) (f5 : Bf (F := F) c arg5) (g8 : Bf (F := F) c arg8) (g9 : Bf (F := F) c arg9)
    (g10 : Bf (F := F) c arg10) (g11 : Bf (F := F) c arg11) (g12 : Bf (F := F) c arg12) :
    ∀ k, oAt c i arg3 harg3 arg4 harg4 arg5 harg5 arg6 harg6 arg7 harg7 arg8 harg8 arg9 harg9 arg10 harg10 arg11 harg11 arg12 harg12 v18 v40 v42 f3 f4 f5 g8 g9 g10 g11 g12 k = (bufsAt c i arg3 harg3 arg4 harg4 arg5 harg5 arg6 harg6 arg7 harg7 arg8 harg8 arg9 harg9 arg10 harg10 arg11 harg11 arg12 harg12 v18 v40 v42 f3 f4 f5 ⟨g8, g9, g10, g11, g12⟩ k).o
  | 0 => rfl
  | _ + 1 => rfl

/-- One buffer of them: at trip 0 what the loop found in it. -/
def qAt (f3 : Bf (F := F) c arg3) (f4 : Bf (F := F) c arg4) (f5 : Bf (F := F) c arg5) (g8 : Bf (F := F) c arg8) (g9 : Bf (F := F) c arg9)
    (g10 : Bf (F := F) c arg10) (g11 : Bf (F := F) c arg11) (g12 : Bf (F := F) c arg12) : ℕ → Bf (F := F) c arg9
  | 0 => g9
  | k + 1 => (bufsAt c i arg3 harg3 arg4 harg4 arg5 harg5 arg6 harg6 arg7 harg7 arg8 harg8 arg9 harg9 arg10 harg10 arg11 harg11 arg12 harg12 v18 v40 v42 f3 f4 f5 ⟨g8, g9, g10, g11, g12⟩ (k + 1)).q

theorem qAt_eq (f3 : Bf (F := F) c arg3) (f4 : Bf (F := F) c arg4) (f5 : Bf (F := F) c arg5) (g8 : Bf (F := F) c arg8) (g9 : Bf (F := F) c arg9)
    (g10 : Bf (F := F) c arg10) (g11 : Bf (F := F) c arg11) (g12 : Bf (F := F) c arg12) :
    ∀ k, qAt c i arg3 harg3 arg4 harg4 arg5 harg5 arg6 harg6 arg7 harg7 arg8 harg8 arg9 harg9 arg10 harg10 arg11 harg11 arg12 harg12 v18 v40 v42 f3 f4 f5 g8 g9 g10 g11 g12 k = (bufsAt c i arg3 harg3 arg4 harg4 arg5 harg5 arg6 harg6 arg7 harg7 arg8 harg8 arg9 harg9 arg10 harg10 arg11 harg11 arg12 harg12 v18 v40 v42 f3 f4 f5 ⟨g8, g9, g10, g11, g12⟩ k).q
  | 0 => rfl
  | _ + 1 => rfl

/-- One buffer of them: at trip 0 what the loop found in it. -/
def sAt (f3 : Bf (F := F) c arg3) (f4 : Bf (F := F) c arg4) (f5 : Bf (F := F) c arg5) (g8 : Bf (F := F) c arg8) (g9 : Bf (F := F) c arg9)
    (g10 : Bf (F := F) c arg10) (g11 : Bf (F := F) c arg11) (g12 : Bf (F := F) c arg12) : ℕ → Bf (F := F) c arg10
  | 0 => g10
  | k + 1 => (bufsAt c i arg3 harg3 arg4 harg4 arg5 harg5 arg6 harg6 arg7 harg7 arg8 harg8 arg9 harg9 arg10 harg10 arg11 harg11 arg12 harg12 v18 v40 v42 f3 f4 f5 ⟨g8, g9, g10, g11, g12⟩ (k + 1)).s

theorem sAt_eq (f3 : Bf (F := F) c arg3) (f4 : Bf (F := F) c arg4) (f5 : Bf (F := F) c arg5) (g8 : Bf (F := F) c arg8) (g9 : Bf (F := F) c arg9)
    (g10 : Bf (F := F) c arg10) (g11 : Bf (F := F) c arg11) (g12 : Bf (F := F) c arg12) :
    ∀ k, sAt c i arg3 harg3 arg4 harg4 arg5 harg5 arg6 harg6 arg7 harg7 arg8 harg8 arg9 harg9 arg10 harg10 arg11 harg11 arg12 harg12 v18 v40 v42 f3 f4 f5 g8 g9 g10 g11 g12 k = (bufsAt c i arg3 harg3 arg4 harg4 arg5 harg5 arg6 harg6 arg7 harg7 arg8 harg8 arg9 harg9 arg10 harg10 arg11 harg11 arg12 harg12 v18 v40 v42 f3 f4 f5 ⟨g8, g9, g10, g11, g12⟩ k).s
  | 0 => rfl
  | _ + 1 => rfl

/-- One buffer of them: at trip 0 what the loop found in it. -/
def mAt (f3 : Bf (F := F) c arg3) (f4 : Bf (F := F) c arg4) (f5 : Bf (F := F) c arg5) (g8 : Bf (F := F) c arg8) (g9 : Bf (F := F) c arg9)
    (g10 : Bf (F := F) c arg10) (g11 : Bf (F := F) c arg11) (g12 : Bf (F := F) c arg12) : ℕ → Bf (F := F) c arg11
  | 0 => g11
  | k + 1 => (bufsAt c i arg3 harg3 arg4 harg4 arg5 harg5 arg6 harg6 arg7 harg7 arg8 harg8 arg9 harg9 arg10 harg10 arg11 harg11 arg12 harg12 v18 v40 v42 f3 f4 f5 ⟨g8, g9, g10, g11, g12⟩ (k + 1)).m

theorem mAt_eq (f3 : Bf (F := F) c arg3) (f4 : Bf (F := F) c arg4) (f5 : Bf (F := F) c arg5) (g8 : Bf (F := F) c arg8) (g9 : Bf (F := F) c arg9)
    (g10 : Bf (F := F) c arg10) (g11 : Bf (F := F) c arg11) (g12 : Bf (F := F) c arg12) :
    ∀ k, mAt c i arg3 harg3 arg4 harg4 arg5 harg5 arg6 harg6 arg7 harg7 arg8 harg8 arg9 harg9 arg10 harg10 arg11 harg11 arg12 harg12 v18 v40 v42 f3 f4 f5 g8 g9 g10 g11 g12 k = (bufsAt c i arg3 harg3 arg4 harg4 arg5 harg5 arg6 harg6 arg7 harg7 arg8 harg8 arg9 harg9 arg10 harg10 arg11 harg11 arg12 harg12 v18 v40 v42 f3 f4 f5 ⟨g8, g9, g10, g11, g12⟩ k).m
  | 0 => rfl
  | _ + 1 => rfl

/-- One buffer of them: at trip 0 what the loop found in it. -/
def aAt (f3 : Bf (F := F) c arg3) (f4 : Bf (F := F) c arg4) (f5 : Bf (F := F) c arg5) (g8 : Bf (F := F) c arg8) (g9 : Bf (F := F) c arg9)
    (g10 : Bf (F := F) c arg10) (g11 : Bf (F := F) c arg11) (g12 : Bf (F := F) c arg12) : ℕ → Bf (F := F) c arg12
  | 0 => g12
  | k + 1 => (bufsAt c i arg3 harg3 arg4 harg4 arg5 harg5 arg6 harg6 arg7 harg7 arg8 harg8 arg9 harg9 arg10 harg10 arg11 harg11 arg12 harg12 v18 v40 v42 f3 f4 f5 ⟨g8, g9, g10, g11, g12⟩ (k + 1)).a

theorem aAt_eq (f3 : Bf (F := F) c arg3) (f4 : Bf (F := F) c arg4) (f5 : Bf (F := F) c arg5) (g8 : Bf (F := F) c arg8) (g9 : Bf (F := F) c arg9)
    (g10 : Bf (F := F) c arg10) (g11 : Bf (F := F) c arg11) (g12 : Bf (F := F) c arg12) :
    ∀ k, aAt c i arg3 harg3 arg4 harg4 arg5 harg5 arg6 harg6 arg7 harg7 arg8 harg8 arg9 harg9 arg10 harg10 arg11 harg11 arg12 harg12 v18 v40 v42 f3 f4 f5 g8 g9 g10 g11 g12 k = (bufsAt c i arg3 harg3 arg4 harg4 arg5 harg5 arg6 harg6 arg7 harg7 arg8 harg8 arg9 harg9 arg10 harg10 arg11 harg11 arg12 harg12 v18 v40 v42 f3 f4 f5 ⟨g8, g9, g10, g11, g12⟩ k).a
  | 0 => rfl
  | _ + 1 => rfl

set_option warn.classDefReducibility false in
/-- The loop's invariant: each trip takes the buffers one step on. -/
@[sl_loop] def loopInv (f3 : Bf (F := F) c arg3) (f4 : Bf (F := F) c arg4) (f5 : Bf (F := F) c arg5) (g8 : Bf (F := F) c arg8) (g9 : Bf (F := F) c arg9)
    (g10 : Bf (F := F) c arg10) (g11 : Bf (F := F) c arg11) (g12 : Bf (F := F) c arg12) :
    LoopInvTy_k0_t1 (F := F) Unit ℕ (UR sig nD τ) ℕ Variants.none c none Set.univ i arg3 harg3 arg4 harg4 arg5 harg5 arg6 harg6 arg7 harg7 arg8 harg8 arg9 harg9 arg10 harg10 arg11 harg11 arg12 harg12 v18 v40 v42 where
  inv k _ := iprop(pt c arg3 f3 ∗ pt c arg4 f4 ∗ pt c arg5 f5 ∗ pt c arg8 (oAt c i arg3 harg3 arg4 harg4 arg5 harg5 arg6 harg6 arg7 harg7 arg8 harg8 arg9 harg9 arg10 harg10 arg11 harg11 arg12 harg12 v18 v40 v42 f3 f4 f5 g8 g9 g10 g11 g12 k)
    ∗ pt c arg9 (qAt c i arg3 harg3 arg4 harg4 arg5 harg5 arg6 harg6 arg7 harg7 arg8 harg8 arg9 harg9 arg10 harg10 arg11 harg11 arg12 harg12 v18 v40 v42 f3 f4 f5 g8 g9 g10 g11 g12 k) ∗ pt c arg10 (sAt c i arg3 harg3 arg4 harg4 arg5 harg5 arg6 harg6 arg7 harg7 arg8 harg8 arg9 harg9 arg10 harg10 arg11 harg11 arg12 harg12 v18 v40 v42 f3 f4 f5 g8 g9 g10 g11 g12 k)
    ∗ pt c arg11 (mAt c i arg3 harg3 arg4 harg4 arg5 harg5 arg6 harg6 arg7 harg7 arg8 harg8 arg9 harg9 arg10 harg10 arg11 harg11 arg12 harg12 v18 v40 v42 f3 f4 f5 g8 g9 g10 g11 g12 k) ∗ pt c arg12 (aAt c i arg3 harg3 arg4 harg4 arg5 harg5 arg6 harg6 arg7 harg7 arg8 harg8 arg9 harg9 arg10 harg10 arg11 harg11 arg12 harg12 v18 v40 v42 f3 f4 f5 g8 g9 g10 g11 g12 k))
  step k _ := by
    simp only [oAt_eq, qAt_eq, sAt_eq, mAt_eq, aAt_eq]
    rw [bufsAt_succ]
    exact next_run c i arg3 harg3 arg4 harg4 arg5 harg5 arg6 harg6 arg7 harg7 arg8 harg8 arg9 harg9 arg10 harg10 arg11 harg11 arg12 harg12 v18 v40 v42 f3 f4 f5 k _

end Loop

/-! ## What the buffers hold -/

theorem ld_congr {s : Shape} {e : EltTy} (X : s.Idx → Elt F e) {off off' size : Fin s.rank → ℕ} (h : off = off') (inb : ∀ a, off a + size a ≤ s.size a) (inb' : ∀ a, off' a + size a ≤ s.size a) :
    ld X (Rect.unit off size inb) = ld X (Rect.unit off' size inb') := by
  subst h; rfl

/-- A row of the block, within its tile. -/
def inTile (y : S1x8192x128.Idx) : S1x256x128.Idx
  | 0 => (0 : Fin 1)
  | 1 => (⟨(y 1).val % 256, Nat.mod_lt _ (by decide)⟩ : Fin 256)
  | 2 => (⟨(y 2).val, (y 2).isLt⟩ : Fin 128)

/-- The block of results: each row from its tile's run. -/
def blockOut (v18 : IVec S256x128 1) (v40 : FVec F S1x1 .f32) (v42 : FVec F S1x128 .f32) (X3 : S1x8192x128.Idx → Elt F .bf16)
    (X4 : S1x1x128x16640.Idx → Elt F .bf16) (X5 : S1x16640x256.Idx → Elt F .bf16) : S1x8192x128.Idx → Elt F .bf16 :=
  fun y => tileOut v18 v40 v42 X3 X4 X5 ((y 1).val / 256) (inTile y)

/-- The accumulator a trip finds: the first trip ones, a later trip that of the tile before. -/
def accBefore (v18 : IVec S256x128 1) (X3 : S1x8192x128.Idx → Elt F .bf16) (X4 : S1x1x128x16640.Idx → Elt F .bf16) (X5 : S1x16640x256.Idx → Elt F .bf16) (k : ℕ) :
    Vec F S1x512x256 .f32 :=
  if k = 0 then k0_pay196 else tileAcc v18 X3 X4 X5 (2 * k - 1)

/-- A store of a whole tile at tile `t`, read at a row of that tile, reads the tile's row. -/
theorem read_tile_hit {sg : RefSig} {κ : Kind} {sp : Space} (v : View sg κ sp S1x8192x128 .bf16) (f : v.ty.Contents (Elt F)) {off : Fin S1x8192x128.rank → ℕ} (t : ℕ)
    (inb : ∀ a, off a + S1x256x128.size a ≤ S1x8192x128.size a) (heq : off = ![0, t * 256, 0]) (w : S1x256x128.Idx → Elt F .bf16)
    (L : List (View.Piece (Elt F) S1x8192x128 .bf16)) (y : S1x8192x128.Idx) (h : (y 1).val / 256 = t) :
    v.read (Elt F) (v.writes (Elt F) f ((⟨Rect.unit off S1x256x128.size inb, w⟩ : View.Piece (Elt F) S1x8192x128 .bf16) :: L)) y = w (inTile y) := by
  refine View.read_writes_cons_unit_of_mem v f inb w L y (inTile y) heq fun a => ?_
  fin_cases a
  · have : (y 0).val < 1 := (y 0).isLt
    show (y 0).val = 0 + 0
    omega
  · show (y 1).val = t * 256 + (y 1).val % 256
    omega
  · exact (Nat.zero_add _).symm

/-- At a row of another tile it reads what was there. -/
theorem read_tile_miss {sg : RefSig} {κ : Kind} {sp : Space} (v : View sg κ sp S1x8192x128 .bf16) (f : v.ty.Contents (Elt F)) {off : Fin S1x8192x128.rank → ℕ} (t : ℕ)
    (inb : ∀ a, off a + S1x256x128.size a ≤ S1x8192x128.size a) (heq : off = ![0, t * 256, 0]) (w : S1x256x128.Idx → Elt F .bf16)
    (L : List (View.Piece (Elt F) S1x8192x128 .bf16)) (y : S1x8192x128.Idx) (h : (y 1).val / 256 ≠ t) :
    v.read (Elt F) (v.writes (Elt F) f ((⟨Rect.unit off S1x256x128.size inb, w⟩ : View.Piece (Elt F) S1x8192x128 .bf16) :: L)) y
      = v.read (Elt F) (v.writes (Elt F) f L) y := by
  refine View.read_writes_cons_unit_of_not_mem v f inb w L y heq 1 ?_
  show (y 1).val < t * 256 ∨ t * 256 + 256 ≤ (y 1).val
  omega

section Facts

variable (c : Dev nD) (i : grid0.Coords)
    (arg3 : Memref sig .tc .vmem S1x8192x128 .bf16) (harg3 : arg3.IsWhole) (arg4 : Memref sig .tc .vmem S1x1x128x16640 .bf16) (harg4 : arg4.IsWhole)
    (arg5 : Memref sig .tc .vmem S1x16640x256 .bf16) (harg5 : arg5.IsWhole) (arg6 : Memref sig .tc .vmem S4x64 .f32) (harg6 : arg6.IsWhole)
    (arg7 : Memref sig .tc .vmem S1x128 .f32) (harg7 : arg7.IsWhole) (arg8 : Memref sig .tc .vmem S1x8192x128 .bf16) (harg8 : arg8.IsWhole)
    (arg9 : Memref sig .tc .vmem S512x128 .bf16) (harg9 : arg9.IsWhole) (arg10 : Memref sig .tc .vmem S3x512x1280 .f32) (harg10 : arg10.IsWhole)
    (arg11 : Memref sig .tc .vmem S2x512x128 .f32) (harg11 : arg11.IsWhole) (arg12 : Memref sig .tc .vmem S2x512x256 .f32) (harg12 : arg12.IsWhole)
    (v18 : IVec S256x128 1) (v40 : FVec F S1x1 .f32) (v42 : FVec F S1x128 .f32)

/-- What holds of the buffers before trip `k`: the tiles before the pair's predecessor are written, and the scratch holds
    the pair's first stacked tile, its first scores and the accumulator of the tile before. -/
structure Good (f3 : Bf (F := F) c arg3) (f4 : Bf (F := F) c arg4) (f5 : Bf (F := F) c arg5) (k : ℕ) (b : Bufs (F := F) c arg8 arg9 arg10 arg11 arg12) : Prop where
  rows : ∀ y : S1x8192x128.Idx, (y 1).val < 256 * (2 * k - 1) →
    arg8.view.read (Elt F) b.o y = blockOut v18 v40 v42 (arg3.view.read (Elt F) f3) (arg4.view.read (Elt F) f4) (arg5.view.read (Elt F) f5) y
  scratch : Scratch c arg9 arg10 arg12 (arg4.view.read (Elt F) f4) (stack v18 (qryTile (arg3.view.read (Elt F) f3) (min (2 * k) 31)))
    (accBefore v18 (arg3.view.read (Elt F) f3) (arg4.view.read (Elt F) f4) (arg5.view.read (Elt F) f5) k) b.q b.s b.a

/-- One trip keeps it. -/
theorem good_next (f3 : Bf (F := F) c arg3) (f4 : Bf (F := F) c arg4) (f5 : Bf (F := F) c arg5) (k : Fin k0_t1_loop.trips) (b : Bufs (F := F) c arg8 arg9 arg10 arg11 arg12)
    (h : Good c arg3 arg4 arg5 arg8 arg9 arg10 arg11 arg12 v18 v40 v42 f3 f4 f5 k.val b) :
    Good c arg3 arg4 arg5 arg8 arg9 arg10 arg11 arg12 v18 v40 v42 f3 f4 f5 (k.val + 1) (next c i arg3 harg3 arg4 harg4 arg5 harg5 arg6 harg6 arg7 harg7 arg8 harg8 arg9 harg9 arg10 harg10 arg11 harg11 arg12 harg12 v18 v40 v42 f3 f4 f5 k b) := by
  have hk : k.val < 16 := lt_of_lt_of_eq k.isLt (by decide +kernel)
  have hp := trip_pieces c i arg3 harg3 arg4 harg4 arg5 harg5 arg6 harg6 arg7 harg7 arg8 harg8 arg9 harg9 arg10 harg10 arg11 harg11 arg12 harg12 v18 v40 v42 k f3 f4 f5 b.q b.s b.m b.a _ _ h.scratch
  have hs := trip_scratch c i arg3 harg3 arg4 harg4 arg5 harg5 arg6 harg6 arg7 harg7 arg8 harg8 arg9 harg9 arg10 harg10 arg11 harg11 arg12 harg12 v18 v40 v42 k f3 f4 f5 b.q b.s b.m b.a _ _ h.scratch
  have e2 : k0_off2 k = ![0, ((2 * k.val + 1) % 32) * 256, 0] := by
    rw [k0_off2_eq, show min (2 * k.val + 1) 31 = (2 * k.val + 1) % 32 by omega]
  have e4 : k0_off4 k = ![0, (min (2 * (k.val + 1)) 31 % 32) * 256, 0] := by
    rw [k0_off4_eq, show min (2 * (k.val + 1)) 31 % 32 = min (2 * k.val + 2) 31 by omega]
  have hmin : min (2 * k.val) 31 = 2 * k.val := by omega
  constructor
  · intro y hy
    have e : (next c i arg3 harg3 arg4 harg4 arg5 harg5 arg6 harg6 arg7 harg7 arg8 harg8 arg9 harg9 arg10 harg10 arg11 harg11 arg12 harg12 v18 v40 v42 f3 f4 f5 k b).o = arg8.view.writes (Elt F) b.o (trip c i arg3 harg3 arg4 harg4 arg5 harg5 arg6 harg6 arg7 harg7 arg8 harg8 arg9 harg9 arg10 harg10 arg11 harg11 arg12 harg12 v18 v40 v42 k f3 f4 f5 b.q b.s b.m b.a).1.1 := rfl
    rw [e, hp]
    by_cases h0 : (y 1).val / 256 = 2 * k.val
    · refine (read_tile_hit arg8.view b.o (2 * k.val) _ (k0_off3_eq k) _ _ y h0).trans ?_
      unfold blockOut tileOut tileAcc
      rw [h0, hmin]
    · refine (read_tile_miss arg8.view b.o (2 * k.val) _ (k0_off3_eq k) _ _ y h0).trans ?_
      by_cases h1 : (y 1).val / 256 = 2 * k.val - 1
      · refine (read_tile_hit arg8.view b.o (2 * k.val - 1) _ (k0_off1_eq k) _ _ y h1).trans ?_
        unfold accBefore blockOut tileOut
        rw [if_neg (show k.val ≠ 0 by omega), h1]
      · refine (read_tile_miss arg8.view b.o (2 * k.val - 1) _ (k0_off1_eq k) _ _ y h1).trans ?_
        exact h.rows y (by omega)
  · have e : accBefore v18 (arg3.view.read (Elt F) f3) (arg4.view.read (Elt F) f4) (arg5.view.read (Elt F) f5) (k.val + 1)
        = tileAcc v18 (arg3.view.read (Elt F) f3) (arg4.view.read (Elt F) f4) (arg5.view.read (Elt F) f5) (2 * k.val + 1) := by
      unfold accBefore
      rw [if_neg (Nat.succ_ne_zero _)]; rfl
    rw [e]
    have t2 : qryTile (arg3.view.read (Elt F) f3) (2 * k.val + 1)
        = ld (arg3.view.read (Elt F) f3) (Rect.unit (s := S1x8192x128) (k0_off2 k) S1x256x128.size (k0_off2_inb k)) := by
      unfold qryTile; exact (ld_congr (arg3.view.read (Elt F) f3) e2 (k0_off2_inb k) _).symm
    have t4 : qryTile (arg3.view.read (Elt F) f3) (min (2 * (k.val + 1)) 31)
        = ld (arg3.view.read (Elt F) f3) (Rect.unit (s := S1x8192x128) (k0_off4 k) S1x256x128.size (k0_off4_inb k)) := by
      unfold qryTile; exact (ld_congr (arg3.view.read (Elt F) f3) e4 (k0_off4_inb k) _).symm
    unfold tileAcc
    rw [t2, t4]
    exact hs

/-- So it holds before every trip, and after the last. -/
theorem good_bufsAt (f3 : Bf (F := F) c arg3) (f4 : Bf (F := F) c arg4) (f5 : Bf (F := F) c arg5) (b : Bufs (F := F) c arg8 arg9 arg10 arg11 arg12)
    (h : Good c arg3 arg4 arg5 arg8 arg9 arg10 arg11 arg12 v18 v40 v42 f3 f4 f5 0 b) :
    ∀ k ≤ k0_t1_loop.trips, Good c arg3 arg4 arg5 arg8 arg9 arg10 arg11 arg12 v18 v40 v42 f3 f4 f5 k (bufsAt c i arg3 harg3 arg4 harg4 arg5 harg5 arg6 harg6 arg7 harg7 arg8 harg8 arg9 harg9 arg10 harg10 arg11 harg11 arg12 harg12 v18 v40 v42 f3 f4 f5 b k)
  | 0, _ => h
  | k + 1, hk => by
    rw [bufsAt_succ c i arg3 harg3 arg4 harg4 arg5 harg5 arg6 harg6 arg7 harg7 arg8 harg8 arg9 harg9 arg10 harg10 arg11 harg11 arg12 harg12 v18 v40 v42 f3 f4 f5 b ⟨k, hk⟩]
    exact good_next c i arg3 harg3 arg4 harg4 arg5 harg5 arg6 harg6 arg7 harg7 arg8 harg8 arg9 harg9 arg10 harg10 arg11 harg11 arg12 harg12 v18 v40 v42 f3 f4 f5 ⟨k, hk⟩ _ (good_bufsAt f3 f4 f5 b h k (Nat.le_of_succ_le hk))

end Facts

end Cert.Proof.KernelIdeal

end
-- ==== Proof.KernelIdeal.Run.lean ====
/- The whole body at a point: from the blocks staged to the block of results. -/
module

public import proofs.«01_k».proof.Proof.KernelIdeal.Body
public import proofs.«01_k».proof.Proof.Gen.KernelIdeal.Loops
public import Idealize.ShloMosaic.Lib.WritesUnit

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open Idealize.ShloMosaic.View (ld)

open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

attribute [local irreducible] trip next

section Whole

variable (c : Dev nD) (i : grid0.Coords)
    (arg3 : Memref sig .tc .vmem S1x8192x128 .bf16) (harg3 : arg3.IsWhole) (arg4 : Memref sig .tc .vmem S1x1x128x16640 .bf16) (harg4 : arg4.IsWhole)
    (arg5 : Memref sig .tc .vmem S1x16640x256 .bf16) (harg5 : arg5.IsWhole) (arg6 : Memref sig .tc .vmem S4x64 .f32) (harg6 : arg6.IsWhole)
    (arg7 : Memref sig .tc .vmem S1x128 .f32) (harg7 : arg7.IsWhole) (arg8 : Memref sig .tc .vmem S1x8192x128 .bf16) (harg8 : arg8.IsWhole)
    (arg9 : Memref sig .tc .vmem S512x128 .bf16) (harg9 : arg9.IsWhole) (arg10 : Memref sig .tc .vmem S3x512x1280 .f32) (harg10 : arg10.IsWhole)
    (arg11 : Memref sig .tc .vmem S2x512x128 .f32) (harg11 : arg11.IsWhole) (arg12 : Memref sig .tc .vmem S2x512x256 .f32) (harg12 : arg12.IsWhole)

/-- The body run, its buffers afterwards named by what it found in them. -/
def bodyRun (f3 : Bf (F := F) c arg3) (f4 : Bf (F := F) c arg4) (f5 : Bf (F := F) c arg5) (f6 : Bf (F := F) c arg6) (f7 : Bf (F := F) c arg7)
    (f8 : Bf (F := F) c arg8) (f9 : Bf (F := F) c arg9) (f10 : Bf (F := F) c arg10) (f11 : Bf (F := F) c arg11) (f12 : Bf (F := F) c arg12) :
    { W : Bufs (F := F) c arg8 arg9 arg10 arg11 arg12 //
        iprop(pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12)
        ⊢ wp frame (wpE (defs₀ (F := F)) Variants.none c none) Set.univ
            (cc0_diff_attn i arg3 harg3 arg4 harg4 arg5 harg5 arg6 harg6 arg7 harg7 arg8 harg8 arg9 harg9 arg10 harg10 arg11 harg11 arg12 harg12)
            (fun _ => iprop(pt c arg3 f3 ∗ pt c arg4 f4 ∗ pt c arg5 f5 ∗ pt c arg6 f6 ∗ pt c arg7 f7
              ∗ pt c arg8 W.o ∗ pt c arg9 W.q ∗ pt c arg10 W.s ∗ pt c arg11 W.m ∗ pt c arg12 W.a)) } := by
  refine ⟨⟨?_, ?_, ?_, ?_, ?_⟩, ?run⟩
  case run =>
    rw [cc0_diff_attn_eq_skeleton]; unfold cc0_diff_attn_skel
    iintro ⟨H3, H4, H5, H6, H7, H8, H9, H10, H11, H12⟩
    sl_exec_parts
    sl_step
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-- After the loop and the last store, from buffers good at the start, the block of results is whole. -/
theorem read_last (v18 : IVec S256x128 1) (v40 : FVec F S1x1 .f32) (v42 : FVec F S1x128 .f32) (f3 : Bf (F := F) c arg3) (f4 : Bf (F := F) c arg4) (f5 : Bf (F := F) c arg5) (g8 : Bf (F := F) c arg8) (g9 : Bf (F := F) c arg9)
    (g10 : Bf (F := F) c arg10) (g11 : Bf (F := F) c arg11) (g12 : Bf (F := F) c arg12)
    (h : Good c arg3 arg4 arg5 arg8 arg9 arg10 arg11 arg12 v18 v40 v42 f3 f4 f5 0 ⟨g8, g9, g10, g11, g12⟩) :
    arg8.view.read (Elt F) (arg8.view.writes (Elt F) (oAt c i arg3 harg3 arg4 harg4 arg5 harg5 arg6 harg6 arg7 harg7 arg8 harg8 arg9 harg9 arg10 harg10 arg11 harg11 arg12 harg12 v18 v40 v42 f3 f4 f5 g8 g9 g10 g11 g12 k0_t1_loop.trips)
        [⟨Rect.unit (s := S1x8192x128) ![0, 7936, 0] S1x256x128.size inb_S1x8192x128_S1x256x128_0_7936_0,
          k0_pay1 v40 (k0_pay190 v42) (View.readAt (Elt F) arg12.view (Rect.unit (s := S2x512x256) ![1, 0, 0] S1x512x256.size inb_S2x512x256_S1x512x256_1_0_0).toLoadRect
            (aAt c i arg3 harg3 arg4 harg4 arg5 harg5 arg6 harg6 arg7 harg7 arg8 harg8 arg9 harg9 arg10 harg10 arg11 harg11 arg12 harg12 v18 v40 v42 f3 f4 f5 g8 g9 g10 g11 g12 k0_t1_loop.trips))⟩])
      = blockOut v18 v40 v42 (arg3.view.read (Elt F) f3) (arg4.view.read (Elt F) f4) (arg5.view.read (Elt F) f5) := by
  have hg := good_bufsAt c i arg3 harg3 arg4 harg4 arg5 harg5 arg6 harg6 arg7 harg7 arg8 harg8 arg9 harg9 arg10 harg10 arg11 harg11 arg12 harg12 v18 v40 v42 f3 f4 f5 _ h k0_t1_loop.trips le_rfl
  have h16 : k0_t1_loop.trips = 16 := by decide +kernel
  rw [oAt_eq, aAt_eq]
  generalize bufsAt c i arg3 harg3 arg4 harg4 arg5 harg5 arg6 harg6 arg7 harg7 arg8 harg8 arg9 harg9 arg10 harg10 arg11 harg11 arg12 harg12 v18 v40 v42 f3 f4 f5 ⟨g8, g9, g10, g11, g12⟩ k0_t1_loop.trips = b at hg ⊢
  rw [h16] at hg
  rw [hg.scratch.a]
  funext y
  have hy : (y 1).val < 8192 := (y 1).isLt
  by_cases h1 : (y 1).val / 256 = 31
  · refine (read_tile_hit arg8.view b.o 31 _ rfl _ _ y h1).trans ?_
    unfold accBefore blockOut tileOut
    rw [if_neg (by decide), h1]
  · refine (read_tile_miss arg8.view b.o 31 _ rfl _ _ y h1).trans ?_
    exact hg.rows y (by omega)

/-- A read of the whole of a buffer of two axes is what the buffer holds. -/
theorem readAt_all {sg : RefSig} {κ : Kind} {sp : Space} {e : EltTy} {a b : ℕ} (v : View sg κ sp ⟨2, ![a, b]⟩ e) (f : v.ty.Contents (Elt F))
    (inb : ∀ x, ![0, 0] x + (![a, b] : Fin 2 → ℕ) x ≤ (![a, b] : Fin 2 → ℕ) x) :
    v.readAt (Elt F) (Rect.unit (s := ⟨2, ![a, b]⟩) ![0, 0] ![a, b] inb).toLoadRect f = v.read (Elt F) f := by
  funext y
  refine congrArg (v.read (Elt F) f) (funext fun x => Fin.ext ?_)
  fin_cases x
  · show 0 + 1 * (y 0).val = (y 0).val
    omega
  · show 0 + 1 * (y 1).val = (y 1).val
    omega

/-- A store, the last of several, read back. -/
theorem readAt_write_head {sg : RefSig} {κ : Kind} {sp : Space} {s : Shape} {e : EltTy} (v : View sg κ sp s e) (f : v.ty.Contents (Elt F))
    (r : Rect s) (w : r.shape.Idx → Elt F e) (L : List (View.Piece (Elt F) s e)) :
    v.readAt (Elt F) r.toLoadRect (View.write (Elt F) (v.slice r) (v.writes (Elt F) f L) w Finset.univ) = w :=
  readAt_writes_head v f r w L

attribute [local irreducible] oAt aAt qAt sAt mAt in
/-- The block of results, after the body. -/
theorem read_bodyRun (f3 : Bf (F := F) c arg3) (f4 : Bf (F := F) c arg4) (f5 : Bf (F := F) c arg5) (f6 : Bf (F := F) c arg6) (f7 : Bf (F := F) c arg7)
    (f8 : Bf (F := F) c arg8) (f9 : Bf (F := F) c arg9) (f10 : Bf (F := F) c arg10) (f11 : Bf (F := F) c arg11) (f12 : Bf (F := F) c arg12) :
    arg8.view.read (Elt F) (bodyRun c i arg3 harg3 arg4 harg4 arg5 harg5 arg6 harg6 arg7 harg7 arg8 harg8 arg9 harg9 arg10 harg10 arg11 harg11 arg12 harg12 f3 f4 f5 f6 f7 f8 f9 f10 f11 f12).1.o
      = blockOut k0_pay187 (k0_pay188 (arg6.view.read (Elt F) f6)) (k0_pay189 (arg7.view.read (Elt F) f7)) (arg3.view.read (Elt F) f3) (arg4.view.read (Elt F) f4) (arg5.view.read (Elt F) f5) := by
  have e6 := readAt_all arg6.view f6 inb_S4x64_S4x64_0_0
  have e7 := readAt_all arg7.view f7 inb_S1x128_S1x128_0_0
  have q0 : View.readAt (Elt F) arg3.view (Rect.unit (s := S1x8192x128) ![0, 0, 0] S1x256x128.size inb_S1x8192x128_S1x256x128_0_0_0).toLoadRect f3
      = qryTile (arg3.view.read (Elt F) f3) (min (2 * 0) 31) := by
    unfold qryTile; exact ld_congr (arg3.view.read (Elt F) f3) (by decide) _ _
  have k0 : View.readAt (Elt F) arg4.view (Rect.unit (s := S1x1x128x16640) ![0, 0, 0, 0] S1x1x128x1280.size inb_S1x1x128x16640_S1x1x128x1280_0_0_0_0).toLoadRect f4
      = keyBlk (arg4.view.read (Elt F) f4) 0 := by
    unfold keyBlk; rfl
  have v0 : bodyRun.sl.v58 c arg3 arg9 f3 = stack k0_pay187 (qryTile (arg3.view.read (Elt F) f3) (min (2 * 0) 31)) := by
    unfold bodyRun.sl.v58 bodyRun.sl.H9_2
    exact (readCov_stack arg9.view _ _ []).trans (congrArg _ q0)
  have s0 : k0_pay195 (bodyRun.sl.v58 c arg3 arg9 f3) (View.readAt (Elt F) arg4.view (Rect.unit (s := S1x1x128x16640) ![0, 0, 0, 0] S1x1x128x1280.size inb_S1x1x128x16640_S1x1x128x1280_0_0_0_0).toLoadRect f4)
      = k0_pay2 (stack k0_pay187 (qryTile (arg3.view.read (Elt F) f3) (min (2 * 0) 31))) (keyBlk (arg4.view.read (Elt F) f4) 0) := by
    rw [pay_10_73, v0, k0]
  rw [← e6, ← e7]
  dsimp only [bodyRun]
  unfold bodyRun.sl.v70 bodyRun.sl.r_2 bodyRun.sl.r bodyRun.sl.r_1
  refine read_last c i arg3 harg3 arg4 harg4 arg5 harg5 arg6 harg6 arg7 harg7 arg8 harg8 arg9 harg9 arg10 harg10 arg11 harg11 arg12 harg12 k0_pay187 _ _ f3 f4 f5 _ _ _ _ _ ⟨fun y hy => ?_, ?_, ?_, ?_⟩
  · exact absurd hy (Nat.not_lt_zero _)
  · refine (readAt_stack arg9.view arg9.view.junk k0_pay187 _ []).trans (congrArg _ q0)
  · dsimp only
    refine (readAt_write_head arg10.view f10 _ _ []).trans ?_
    exact s0
  · dsimp only
    exact readAt_write_head arg12.view f12 _ _ []

end Whole

end Cert.Proof.KernelIdeal

end
-- ==== Proof.KernelIdeal.Frame.lean ====
/- The launch: the proof data of the one pipeline, the body at every point, and the frame. -/
module

public import proofs.«01_k».proof.Proof.KernelIdeal.Run
public import proofs.«01_k».proof.Proof.Gen.KernelIdeal.Frame
public import proofs.«01_k».proof.Proof.Gen.KernelIdeal.Points
public import proofs.«01_k».proof.Proof.Gen.KernelIdeal.Launch
public import Idealize.ShloMosaic.Lib.Pipeline.Quiescent

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI

open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

attribute [local irreducible] trip next bodyRun blockOut

/-- The block of results at a point, from the blocks staged there. -/
def outBlk (x3 : S1x8192x128.Idx → Elt F .bf16) (x4 : S1x1x128x16640.Idx → Elt F .bf16) (x5 : S1x16640x256.Idx → Elt F .bf16)
    (x6 : Vec F S4x64 .f32) (x7 : Vec F S1x128 .f32) : S1x8192x128.Idx → Elt F .bf16 :=
  blockOut k0_pay187 (k0_pay188 x6) (k0_pay189 x7) x3 x4 x5

/-- The body on memrefs holding the staged blocks: it leaves them, and the block of results in the sixth. -/
theorem sound_kernel (c : Dev nD) (i : grid0.Coords)
    (arg3 : Memref sig .tc .vmem S1x8192x128 .bf16) (harg3 : arg3.IsWhole) (arg4 : Memref sig .tc .vmem S1x1x128x16640 .bf16) (harg4 : arg4.IsWhole)
    (arg5 : Memref sig .tc .vmem S1x16640x256 .bf16) (harg5 : arg5.IsWhole) (arg6 : Memref sig .tc .vmem S4x64 .f32) (harg6 : arg6.IsWhole)
    (arg7 : Memref sig .tc .vmem S1x128 .f32) (harg7 : arg7.IsWhole) (arg8 : Memref sig .tc .vmem S1x8192x128 .bf16) (harg8 : arg8.IsWhole)
    (arg9 : Memref sig .tc .vmem S512x128 .bf16) (harg9 : arg9.IsWhole) (arg10 : Memref sig .tc .vmem S3x512x1280 .f32) (harg10 : arg10.IsWhole)
    (arg11 : Memref sig .tc .vmem S2x512x128 .f32) (harg11 : arg11.IsWhole) (arg12 : Memref sig .tc .vmem S2x512x256 .f32) (harg12 : arg12.IsWhole)
    (x3 : S1x8192x128.Idx → Elt F .bf16) (x4 : S1x1x128x16640.Idx → Elt F .bf16) (x5 : S1x16640x256.Idx → Elt F .bf16)
    (x6 : S4x64.Idx → Elt F .f32) (x7 : S1x128.Idx → Elt F .f32) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ (∃ d, owns (c : Thread nD τ) arg8 fullShare d)
        ∗ (∃ f, pt c arg9 f) ∗ (∃ f, pt c arg10 f) ∗ (∃ f, pt c arg11 f) ∗ (∃ f, pt c arg12 f)
        ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7
            ∗ owns (c : Thread nD τ) arg8 fullShare (outBlk x3 x4 x5 x6 x7)
            ∗ (∃ f, pt c arg9 f) ∗ (∃ f, pt c arg10 f) ∗ (∃ f, pt c arg11 f) ∗ (∃ f, pt c arg12 f)) -∗ K ⟨⟩))
      ⊢ wp frame (wpE (defs₀ (F := F)) Variants.none c none) Set.univ
          (cc0_diff_attn i arg3 harg3 arg4 harg4 arg5 harg5 arg6 harg6 arg7 harg7 arg8 harg8 arg9 harg9 arg10 harg10 arg11 harg11 arg12 harg12) K := by
  unfold owns
  rw [harg3.set_eq_univ, harg4.set_eq_univ, harg5.set_eq_univ, harg6.set_eq_univ, harg7.set_eq_univ, harg8.set_eq_univ]
  iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%f9, H9⟩, ⟨%f10, H10⟩, ⟨%f11, H11⟩, ⟨%f12, H12⟩, Hk⟩
  have hrun := (bodyRun c i arg3 harg3 arg4 harg4 arg5 harg5 arg6 harg6 arg7 harg7 arg8 harg8 arg9 harg9 arg10 harg10 arg11 harg11 arg12 harg12 f3 f4 f5 f6 f7 f8 f9 f10 f11 f12).2
  have hread := read_bodyRun c i arg3 harg3 arg4 harg4 arg5 harg5 arg6 harg6 arg7 harg7 arg8 harg8 arg9 harg9 arg10 harg10 arg11 harg11 arg12 harg12 f3 f4 f5 f6 f7 f8 f9 f10 f11 f12
  generalize (bodyRun c i arg3 harg3 arg4 harg4 arg5 harg5 arg6 harg6 arg7 harg7 arg8 harg8 arg9 harg9 arg10 harg10 arg11 harg11 arg12 harg12 f3 f4 f5 f6 f7 f8 f9 f10 f11 f12).1 = W at hrun hread
  rw [hf3, hf4, hf5, hf6, hf7] at hread
  iapply (wp_wand_r Idealize.ShloMosaic.frame (wpE (defs₀ (F := F)) Variants.none (c : Thread nD τ) none) Set.univ)
  isplitl [H3 H4 H5 H6 H7 H8 H9 H10 H11 H12]
  · iapply hrun
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  iintro %u ⟨H3, H4, H5, H6, H7, H8, H9, H10, H11, H12⟩
  iapply Hk
  isplitl [H3]; · iexists f3; isplitr; swap; (· iexact H3); ipureintro; exact hf3
  isplitl [H4]; · iexists f4; isplitr; swap; (· iexact H4); ipureintro; exact hf4
  isplitl [H5]; · iexists f5; isplitr; swap; (· iexact H5); ipureintro; exact hf5
  isplitl [H6]; · iexists f6; isplitr; swap; (· iexact H6); ipureintro; exact hf6
  isplitl [H7]; · iexists f7; isplitr; swap; (· iexact H7); ipureintro; exact hf7
  isplitl [H8]
  · iexists _; isplitr; swap; (· iexact H8); ipureintro
    exact hread
  isplitl [H9]; · iexists _; iexact H9
  isplitl [H10]; · iexists _; iexact H10
  isplitl [H11]; · iexists _; iexact H11
  iexists _; iexact H12

/-! ## The pipeline's proof data -/

/-- The proof data on core `c`: the arrays as the region finds them; after the body each input's buffer at its block and
    the output's at the block of results; the scratch and the generator between; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => outBlk (X0_0 m c t) (iblk m c 1 t) (iblk m c 2 t) (iblk m c 3 t) (iblk m c 4 t)
  Φ _ := Pipeline.ΦA spec0 c
  q _ := fullShare
  owed _ := 0

/-- The arrays are what the region finds. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = outBlk (X0_0 m c t) (iblk m c 1 t) (iblk m c 2 t) (iblk m c 3 t) (iblk m c 4 t) := by dsimp only [dats]

theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point, from its blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl,
    after0_0, after0_1, after0_2, after0_3, after0_4, after0_5]
  unfold Pipeline.ΦA
  rw [scopedRest0_eq]
  iintro ⟨⟨⟨H9, H10, H11, H12⟩, HP⟩, Ho, ⟨%d0, H0⟩, ⟨%d1, H1⟩, ⟨%d2, H2⟩, ⟨%d3, H3⟩, ⟨%d4, H4⟩, ⟨%d5, H5⟩⟩
  iapply (sound_kernel c (grid0.coords t) _ _ _ _ _ _ _ _ _ _ _ _ _ _ _ _ _ _ _ _ (X0_0 m c t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H9]; · iexact H9
  isplitl [H10]; · iexact H10
  isplitl [H11]; · iexact H11
  isplitl [H12]; · iexact H12
  iintro ⟨H0, H1, H2, H3, H4, H5, H9, H10, H11, H12⟩
  isplitl [H9 H10 H11 H12 HP]
  · isplitr [HP]
    · isplitl [H9]; · iexact H9
      isplitl [H10]; · iexact H10
      isplitl [H11]; · iexact H11
      iexact H12
    iexact HP
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body there. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: every array of the pipeline ends at what the proof data says, every counter at zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments end as they began, every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_with_sems (frame_of m ρ (dats m) (A_eq m)) (run_main m ρ)

end Cert.Proof.KernelIdeal

end
-- ==== Proof.Value.Host.lean ====
/- The operands the host prepares, read at an index. -/
module

public import proofs.«01_k».proof.Proof.KernelIdeal.Frame
public import Idealize.ShloMosaic.Lib.Pipeline.ValueKit
public import Idealize.ShloMosaic.Lib.StableHlo.ReadAt

@[expose] public section

set_option maxRecDepth 16384

noncomputable section

namespace Cert.Proof.Value

open Cert.KernelIdeal Cert.KernelIdeal.Gen Cert.Proof.KernelIdeal
open Idealize.ShloMosaic Idealize.ShloMosaic.TcCoe Idealize.ShloMosaic.Tactic

variable (m : (ℓ : Loc nD τ sig) → Buf (Elt Ideal) ℓ)

/-- The queries, as launched. -/
def aQ (c : Dev nD) : S2x16384x512.Idx → EReal := m ((c : Thread nD τ).loc main_arg0)
/-- The keys. -/
def aK (c : Dev nD) : S2x16384x512.Idx → EReal := m ((c : Thread nD τ).loc main_arg1)
/-- The values. -/
def aV (c : Dev nD) : S2x16384x512.Idx → EReal := m ((c : Thread nD τ).loc main_arg2)
/-- The context's queries. -/
def cQ (c : Dev nD) : S2x256x512.Idx → EReal := m ((c : Thread nD τ).loc main_arg3)
/-- The context's keys. -/
def cK (c : Dev nD) : S2x256x512.Idx → EReal := m ((c : Thread nD τ).loc main_arg4)
/-- The context's values. -/
def cV (c : Dev nD) : S2x256x512.Idx → EReal := m ((c : Thread nD τ).loc main_arg5)
/-- The four rows the mixing weight is made of. -/
def aL (c : Dev nD) : S4x64.Idx → EReal := m ((c : Thread nD τ).loc main_arg6)
/-- The gain. -/
def aG (c : Dev nD) : S128.Idx → EReal := m ((c : Thread nD τ).loc main_arg7)

/-- A sequence followed by its context, at a row and a column. -/
def joinAt (A : S2x16384x512.Idx → EReal) (C : S2x256x512.Idx → EReal) (b : Fin 2) (k : Fin 16640) (l : Fin 512) : EReal :=
  if h : k.val < 16384 then A (ix3 b ⟨k.val, h⟩ l) else C (ix3 b ⟨k.val - 16384, by omega⟩ l)

/-- The column of an argument that a prepared lane holds: the components' halves change places. -/
def srcCol (l : ℕ) : ℕ := l / 128 * 128 + l / 32 % 2 * 64 + l / 16 % 2 * 32 + l / 64 % 2 * 16 + l % 16

theorem srcCol_lt {l : ℕ} (h : l < 512) : srcCol l < 512 := by unfold srcCol; omega

/-- What the queries are multiplied with before the scores are formed. -/
def qScale : EReal := Ideal.div (Ideal.ofBits FTy.f32 0x3E000000#32) (Ideal.log (Ideal.ofBits FTy.f32 0x40000000#32))

/-- The prepared queries. -/
theorem v8_at (c : Dev nD) (b : Fin 2) (n : Fin 16640) (l : Fin 512) :
    (V m c main_v8 : S2x16640x512.Idx → EReal) (ix3 b n l)
      = joinAt (aQ m c) (cQ m c) b n ⟨srcCol l.val, srcCol_lt l.isLt⟩ * qScale := by
  unfold joinAt qScale srcCol V hostOps0
  after_reads_at
  after_reads_simp
  rfl

/-- The prepared keys. -/
theorem v15_at (c : Dev nD) (b : Fin 2) (h : Fin 4) (l : Fin 128) (k : Fin 16640) :
    (V m c main_v15 : S2x4x128x16640.Idx → EReal) (ix4 b h l k)
      = joinAt (aK m c) (cK m c) b k ⟨srcCol (h.val * 128 + l.val), srcCol_lt (by omega)⟩ := by
  unfold joinAt srcCol V hostOps0
  after_reads_at
  after_reads_simp
  rfl

/-- The prepared values: a head's 128 columns, then 128 ones. -/
theorem v21_at (c : Dev nD) (b : Fin 2) (k : Fin 16640) (l : Fin 1024) :
    (V m c main_v21 : S2x16640x1024.Idx → EReal) (ix3 b k l)
      = if l.val % 256 < 128 then joinAt (aV m c) (cV m c) b k ⟨(l.val / 256 * 128 + l.val % 256) % 512, by omega⟩ else 1 := by
  unfold joinAt V hostOps0
  after_reads_at
  after_reads_simp
  pointwise
  after_reads_simp
  by_cases h : l.val % 256 < 128
  · rw [dif_pos h, if_pos h]
    have e : (l.val / 256 * 128 + l.val % 256) % 512 = l.val / 256 * 128 + l.val % 256 := Nat.mod_eq_of_lt (by omega)
    simp only [e]
    rfl
  · rw [dif_neg h, if_neg h]

/-- The gain as a row. -/
theorem v22_at (c : Dev nD) (l : Fin 128) :
    (V m c main_v22 : S1x128.Idx → EReal) (ix2 0 l) = aG m c (ix1 l) := by
  unfold V hostOps0
  after_reads_at
  rfl

end Cert.Proof.Value
-- ==== Proof.Value.Math.lean ====
/- Real numbers behind the extended ones, constants, and sums taken in another order. -/
module

public import Idealize.ShloMosaic.Lib.Pipeline.ValueKit
public import Idealize.ShloMosaic.PureOps.Ideal

@[expose] public section

set_option maxRecDepth 16384

noncomputable section

namespace Cert.Proof.Value

open Idealize.ShloMosaic

/-- A sum of reals, read among the extended reals, is the sum there. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The pattern of minus infinity is the least extended real. -/
theorem neg_inf : Ideal.ofBits FTy.f32 0xFF800000#32 = ⊥ := by
  simp [Ideal.ofBits, Ideal.ieee]

/-- The pattern of an eighth. -/
theorem lit_eighth : Ideal.ofBits FTy.f32 0x3E000000#32 = (((1 : ℝ) / 8 : ℝ) : EReal) := by
  simp [Ideal.ofBits, Ideal.ieee]
  rw [← EReal.coe_mul]
  congr 1; norm_num

/-- The pattern of two. -/
theorem lit_two : Ideal.ofBits FTy.f32 0x40000000#32 = ((2 : ℝ) : EReal) := by
  simp [Ideal.ofBits, Ideal.ieee]
  rw [← EReal.coe_mul]
  congr 1; norm_num

/-- The mixing weight's constant is a real. -/
theorem lit_init : ∃ r : ℝ, Ideal.ofBits FTy.f32 0x3E4CCCCD#32 = (r : EReal) := by
  refine ⟨(13421773 : ℝ) * (2 : ℝ) ^ (-26 : ℤ), ?_⟩
  simp [Ideal.ofBits, Ideal.ieee]

/-- An eighth over the logarithm of two. -/
theorem scale_real : Ideal.div (Ideal.ofBits FTy.f32 0x3E000000#32) (Ideal.log (Ideal.ofBits FTy.f32 0x40000000#32)) = ((1 / 8 / Real.log 2 : ℝ) : EReal) := by
  have h2 : Real.log 2 ≠ 0 := (Real.log_pos (by norm_num)).ne'
  rw [lit_eighth, lit_two, Ideal.log_coe, if_neg (by norm_num), Ideal.div_coe h2, ← EReal.coe_mul]
  congr 1
  ring

/-- A component's 64 places among the 128 prepared lanes. -/
theorem lanes_sum {R : Type} [AddCommMonoid R] (p : ℕ) (hp : p < 2) (f : ℕ → R) :
    ∑ l ∈ Finset.range 128, (if l / 32 % 2 = p then f (l / 32 % 2 * 64 + l / 16 % 2 * 32 + l / 64 % 2 * 16 + l % 16) else 0)
      = ∑ d ∈ Finset.range 64, f (p * 64 + d) := by
  rw [← Finset.sum_filter]
  refine Finset.sum_nbij' (fun l => l / 16 % 2 * 32 + l / 64 % 2 * 16 + l % 16) (fun d => d / 16 % 2 * 64 + p * 32 + d / 32 * 16 + d % 16) ?_ ?_ ?_ ?_ ?_
  · have h : ∀ p < 2, ∀ l ∈ (Finset.range 128).filter (fun l => l / 32 % 2 = p), l / 16 % 2 * 32 + l / 64 % 2 * 16 + l % 16 ∈ Finset.range 64 := by decide +kernel
    exact h p hp
  · have h : ∀ p < 2, ∀ d ∈ Finset.range 64, d / 16 % 2 * 64 + p * 32 + d / 32 * 16 + d % 16 ∈ (Finset.range 128).filter (fun l => l / 32 % 2 = p) := by decide +kernel
    exact h p hp
  · have h : ∀ p < 2, ∀ l ∈ (Finset.range 128).filter (fun l => l / 32 % 2 = p), (fun d => d / 16 % 2 * 64 + p * 32 + d / 32 * 16 + d % 16) ((fun l => l / 16 % 2 * 32 + l / 64 % 2 * 16 + l % 16) l) = l := by decide +kernel
    exact h p hp
  · have h : ∀ p < 2, ∀ d ∈ Finset.range 64, (fun l => l / 16 % 2 * 32 + l / 64 % 2 * 16 + l % 16) ((fun d => d / 16 % 2 * 64 + p * 32 + d / 32 * 16 + d % 16) d) = d := by decide +kernel
    exact h p hp
  · intro l hl
    simp only [Finset.mem_filter] at hl
    rw [hl.2]
    congr 1; omega

/-- The keys in the other order: the last 256 first. -/
theorem rotate_sum (f : ℕ → ℝ) :
    ∑ k ∈ Finset.range 16640, f (if k < 256 then 16384 + k else k - 256) = ∑ k ∈ Finset.range 16640, f k := by
  refine Finset.sum_nbij' (fun k => if k < 256 then 16384 + k else k - 256) (fun k => if k < 16384 then k + 256 else k - 16384) ?_ ?_ ?_ ?_ ?_
  · intro k hk; simp only [Finset.mem_range] at hk ⊢; split <;> omega
  · intro k hk; simp only [Finset.mem_range] at hk ⊢; split <;> omega
  · intro k hk; simp only [Finset.mem_range] at hk ⊢; split_ifs <;> omega
  · intro k hk; simp only [Finset.mem_range] at hk ⊢; split_ifs <;> omega
  · intro k hk; rfl

end Cert.Proof.Value
-- ==== Proof.Value.Gap.lean ====
/- Weights of scores that may be infinite: under a maximum of theirs each weight is a real number, and so are the weighted sums. -/
module

public import proofs.«01_k».proof.Proof.Value.Math

@[expose] public section

set_option maxRecDepth 16384

noncomputable section

namespace Cert.Proof.Value

open Idealize.ShloMosaic

/-- Two to a score less a maximum, as a real: no weight for a score of minus infinity, nor for any under a maximum of plus infinity. -/
def gap (s M : EReal) : ℝ := if s = ⊥ ∨ M = ⊤ then 0 else Real.rpow 2 (s.toReal - M.toReal)

/-- The exponential of a score less a maximum, as a real, with the same exceptions. -/
def egap (s M : EReal) : ℝ := if s = ⊥ ∨ M = ⊤ then 0 else Real.exp (s.toReal - M.toReal)

/-- A score, no larger than a maximum, is minus infinity, or the maximum is plus infinity, or both are reals. -/
theorem gap_cases {s M : EReal} (h : s ≤ M) : (s = ⊥ ∨ M = ⊤) ∨ ∃ a b : ℝ, s = (a : EReal) ∧ M = (b : EReal) := by
  by_cases h1 : s = ⊥
  · exact Or.inl (Or.inl h1)
  by_cases h2 : M = ⊤
  · exact Or.inl (Or.inr h2)
  have h3 : s ≠ ⊤ := fun e => h2 (top_le_iff.mp (e ▸ h))
  have h4 : M ≠ ⊥ := fun e => h1 (le_bot_iff.mp (e ▸ h))
  exact Or.inr ⟨s.toReal, M.toReal, (EReal.coe_toReal h3 h1).symm, (EReal.coe_toReal h2 h4).symm⟩

theorem gap_coe (a b : ℝ) : gap (a : EReal) (b : EReal) = Real.rpow 2 (a - b) := by
  unfold gap; rw [if_neg (by simp), EReal.toReal_coe, EReal.toReal_coe]

theorem egap_coe (a b : ℝ) : egap (a : EReal) (b : EReal) = Real.exp (a - b) := by
  unfold egap; rw [if_neg (by simp), EReal.toReal_coe, EReal.toReal_coe]

theorem sub_eq_bot {s M : EReal} (h : s = ⊥ ∨ M = ⊤) : s - M = ⊥ := by
  rcases h with rfl | rfl
  · exact EReal.bot_sub _
  · exact EReal.sub_top _

theorem exp2_gap {s M : EReal} (h : s ≤ M) : Ideal.exp2 (s - M) = ((gap s M : ℝ) : EReal) := by
  rcases gap_cases h with h | ⟨a, b, rfl, rfl⟩
  · rw [sub_eq_bot h, Ideal.exp2_bot]; unfold gap; rw [if_pos h]; rfl
  · rw [gap_coe, ← EReal.coe_sub, Ideal.exp2_coe]

theorem exp_egap {s M : EReal} (h : s ≤ M) : Ideal.exp (s - M) = ((egap s M : ℝ) : EReal) := by
  rcases gap_cases h with h | ⟨a, b, rfl, rfl⟩
  · rw [sub_eq_bot h, Ideal.exp_bot]; unfold egap; rw [if_pos h]; rfl
  · rw [egap_coe, ← EReal.coe_sub, Ideal.exp_coe]

theorem egap_nonneg (s M : EReal) : 0 ≤ egap s M := by
  unfold egap; split
  · exact le_rfl
  · exact (Real.exp_pos _).le

/-- A weight under a maximum, rescaled to a larger maximum, is the weight under that. -/
theorem gap_mul {s M M' : EReal} (h : s ≤ M) (h' : M ≤ M') : gap s M * gap M M' = gap s M' := by
  by_cases hb : s = ⊥ ∨ M' = ⊤
  · have : gap s M' = 0 := by unfold gap; rw [if_pos hb]
    rw [this]
    rcases hb with hb | hb
    · have : gap s M = 0 := by unfold gap; rw [if_pos (Or.inl hb)]
      rw [this, zero_mul]
    · have : gap M M' = 0 := by unfold gap; rw [if_pos (Or.inr hb)]
      rw [this, mul_zero]
  · rcases gap_cases (h.trans h') with h1 | ⟨a, c, rfl, rfl⟩
    · exact absurd h1 hb
    rcases gap_cases h with (h1 | h1) | ⟨a', b, e, rfl⟩
    · simp at h1
    · rw [h1] at h'; simp at h'
    · rw [gap_coe, gap_coe, gap_coe]
      have := Real.rpow_add (show (0 : ℝ) < 2 by norm_num) (a - b) (b - c)
      rw [sub_add_sub_cancel] at this
      exact this.symm

/-- Weights to the base two, of scores scaled by one over the logarithm of two, are exponentials. -/
theorem gap_scale {w : ℝ} (hw : 0 < w) {s M : EReal} (h : s ≤ M) :
    gap (s * ((w / Real.log 2 : ℝ) : EReal)) (M * ((w / Real.log 2 : ℝ) : EReal)) = egap (s * ((w : ℝ) : EReal)) (M * ((w : ℝ) : EReal)) := by
  have hl : 0 < Real.log 2 := Real.log_pos (by norm_num)
  have hw2 : 0 < w / Real.log 2 := div_pos hw hl
  have e1 := EReal.bot_mul_coe_of_pos hw
  have e2 := EReal.bot_mul_coe_of_pos hw2
  have e3 := EReal.top_mul_coe_of_pos hw
  have e4 := EReal.top_mul_coe_of_pos hw2
  induction s using EReal.rec with
  | bot => rw [e1, e2]; unfold gap egap; simp
  | top =>
    rw [e3, e4]
    induction M using EReal.rec with
    | bot => rw [e1, e2]; unfold gap egap; simp
    | top => rw [e3, e4]; unfold gap egap; simp
    | coe b => simp at h
  | coe a =>
    induction M using EReal.rec with
    | bot => simp at h
    | top => rw [e3, e4]; unfold gap egap; simp
    | coe b =>
      rw [← EReal.coe_mul, ← EReal.coe_mul, ← EReal.coe_mul, ← EReal.coe_mul, gap_coe, egap_coe]
      show (2 : ℝ) ^ (a * (w / Real.log 2) - b * (w / Real.log 2)) = _
      rw [Real.rpow_def_of_pos (by norm_num)]
      congr 1
      field_simp

/-- A number is the largest of `f` below `n`. -/
def IsTop (f : ℕ → EReal) (n : ℕ) (M : EReal) : Prop := (∀ k < n, f k ≤ M) ∧ ∃ k < n, f k = M

theorem IsTop.unique {f : ℕ → EReal} {n : ℕ} {M M' : EReal} (h : IsTop f n M) (h' : IsTop f n M') : M = M' := by
  obtain ⟨h1, k, hk, rfl⟩ := h
  obtain ⟨h1', k', hk', rfl⟩ := h'
  exact le_antisymm (h1' k hk) (h1 k' hk')

theorem IsTop.scale {f : ℕ → EReal} {n : ℕ} {M : EReal} (h : IsTop f n M) {c : ℝ} (hc : 0 < c) : IsTop (fun k => f k * (c : EReal)) n (M * (c : EReal)) := by
  obtain ⟨h1, k, hk, rfl⟩ := h
  exact ⟨fun j hj => mul_le_mul_of_nonneg_right (h1 j hj) (EReal.coe_nonneg.mpr hc.le), k, hk, rfl⟩

/-- The largest of two stretches is the larger of the two largest. -/
theorem IsTop.append {f : ℕ → EReal} {n k : ℕ} {M M' : EReal} (h : IsTop f n M) (h' : IsTop (fun x => f (n + x)) k M') : IsTop f (n + k) (max M M') := by
  obtain ⟨h1, a, ha, e⟩ := h
  obtain ⟨h2, b, hb, e'⟩ := h'
  refine ⟨fun x hx => ?_, ?_⟩
  · by_cases hn : x < n
    · exact (h1 x hn).trans (le_max_left _ _)
    · have : f (n + (x - n)) ≤ M' := h2 (x - n) (by omega)
      rw [show n + (x - n) = x by omega] at this
      exact this.trans (le_max_right _ _)
  · rcases max_choice M M' with hm | hm
    · exact ⟨a, by omega, by rw [hm, e]⟩
    · exact ⟨n + b, by omega, by rw [hm]; exact e'⟩

/-- The largest over a nonempty finite range, taken from minus infinity. -/
theorem rowmax_top {n : ℕ} (f : ℕ → EReal) : IsTop f (n + 1) (Finset.fold max (Ideal.ofBits FTy.f32 0xFF800000#32) (fun i : Fin (n + 1) => f i.val) Finset.univ) := by
  rw [neg_inf]
  have hle : ∀ i : Fin (n + 1), f i.val ≤ Finset.fold max (⊥ : EReal) (fun i : Fin (n + 1) => f i.val) Finset.univ :=
    fun i => (Finset.le_fold_max _).mpr (Or.inr ⟨i, Finset.mem_univ _, le_rfl⟩)
  refine ⟨fun k hk => hle ⟨k, hk⟩, ?_⟩
  rcases (Finset.le_fold_max (f := fun i : Fin (n + 1) => f i.val) (b := (⊥ : EReal)) (s := Finset.univ) _).mp le_rfl with h | ⟨i, -, h⟩
  · exact ⟨0, by omega, le_antisymm (hle 0) (h.trans bot_le)⟩
  · exact ⟨i.val, i.isLt, le_antisymm (hle i) h⟩

/-- The first block of keys, weighted from a maximum `M`. -/
theorem first_block (M : EReal) (s : ℕ → EReal) (v : ℕ → ℝ) (B : ℕ) (h : ∀ k < B, s k ≤ M) :
    (∑ x : Fin B, Ideal.exp2 (s x - M) * ((v x : ℝ) : EReal)) = ((∑ k ∈ Finset.range B, gap (s k) M * v k : ℝ) : EReal) := by
  rw [Finset.sum_range, coe_sum]
  refine Finset.sum_congr rfl fun x _ => ?_
  rw [exp2_gap (h x x.isLt), ← EReal.coe_mul]

/-- A further block of keys: the sum so far rescaled from the old maximum `M` to the new one `M'`, the block's own added. -/
theorem next_block (M M' : EReal) (s : ℕ → EReal) (v : ℕ → ℝ) (A B : ℕ) (h : ∀ k < A, s k ≤ M) (hM : M ≤ M') (h' : ∀ k < A + B, s k ≤ M') :
    ((∑ k ∈ Finset.range A, gap (s k) M * v k : ℝ) : EReal) * Ideal.exp2 (M - M')
      + (∑ x : Fin B, Ideal.exp2 (s (A + x) - M') * ((v (A + x) : ℝ) : EReal))
      = ((∑ k ∈ Finset.range (A + B), gap (s k) M' * v k : ℝ) : EReal) := by
  rw [first_block M' (fun x => s (A + x)) (fun x => v (A + x)) B (fun k hk => h' _ (by omega)), exp2_gap hM, ← EReal.coe_mul, ← EReal.coe_add,
    Finset.sum_range_add, Finset.sum_mul]
  congr 2
  refine Finset.sum_congr rfl fun k hk => ?_
  rw [← gap_mul (h k (Finset.mem_range.mp hk)) hM]; ring

/-- A positive real factor goes into a sum. -/
theorem sum_mul_pos {ι : Type} (s : Finset ι) (f : ι → EReal) {c : ℝ} (hc : 0 < c) : (∑ i ∈ s, f i) * (c : EReal) = ∑ i ∈ s, f i * (c : EReal) := by
  classical
  induction s using Finset.induction_on with
  | empty => simp
  | insert a s ha ih =>
    rw [Finset.sum_insert ha, Finset.sum_insert ha, EReal.right_distrib_of_nonneg_of_ne_top (EReal.coe_nonneg.mpr hc.le) (EReal.coe_ne_top _), ih]

/-- A sum of terms each of them nought or infinite: all are nought, or the sum is infinite. -/
theorem sum_inf {ι : Type} (s : Finset ι) (f : ι → EReal) (h : ∀ i, f i = 0 ∨ f i = ⊤ ∨ f i = ⊥) :
    (∑ i ∈ s, f i = 0) ∨ (∑ i ∈ s, f i = ⊤) ∨ (∑ i ∈ s, f i = ⊥) := by
  classical
  induction s using Finset.induction_on with
  | empty => simp
  | insert a s ha ih =>
    rw [Finset.sum_insert ha]
    rcases h a with h | h | h <;> rcases ih with i | i | i <;> rw [h, i] <;> simp

end Cert.Proof.Value
-- ==== Proof.Value.Ends.lean ====
/- The kernel body's last step, its mask of lanes and its mixing weight, read at an index. -/
module

public import proofs.«01_k».proof.Proof.KernelIdeal.Model
public import Idealize.ShloMosaic.Lib.Pipeline.ValueKit

@[expose] public section

set_option maxRecDepth 16384

noncomputable section

namespace Cert.Proof.Value

open Cert.KernelIdeal Cert.KernelIdeal.Gen Cert.Proof.KernelIdeal
open Idealize.ShloMosaic Idealize.ShloMosaic.TcCoe Idealize.ShloMosaic.Tactic

/-- A row of the accumulator, weighted values over the sum of the weights. -/
def ratio (a : Vec Ideal S1x512x256 .f32) (r : ℕ) (hr : r < 512) (l : Fin 128) : EReal :=
  Ideal.div (a (ix3 0 ⟨r, hr⟩ ⟨l.val, by omega⟩)) (a (ix3 0 ⟨r, hr⟩ ⟨128 + l.val, by omega⟩))

/-- A row over the root of its mean square, then times a gain. -/
def normed (o : Fin 128 → EReal) (l : Fin 128) : EReal :=
  o l * Ideal.rsqrt (Ideal.div (∑ x : Fin 128, o x * o x) (Ideal.ofBits FTy.f32 1124073472#32) + Ideal.ofBits FTy.f32 925353388#32)

/-- The tile of results at an index. -/
theorem pay1_at (lam : FVec Ideal S1x1 .f32) (g : FVec Ideal S1x128 .f32) (a : Vec Ideal S1x512x256 .f32) (r : Fin 256) (l : Fin 128) :
    k0_pay1 lam g a (ix3 0 r l) = normed (fun x => ratio a r.val (by omega) x - (lam (ix2 0 0) : EReal) * ratio a (256 + r.val) (by omega) x) l * (g (ix2 0 l) : EReal) := by
  unfold normed ratio
  pointwise [k0_pay1]

/-- The gain as the body scales it. -/
theorem pay190_at (g : FVec Ideal S1x128 .f32) (l : Fin 128) :
    k0_pay190 g (ix2 0 l) = (g (ix2 0 l) : EReal) * Ideal.ofBits FTy.f32 0x3F4CCCCD#32 := by
  pointwise [k0_pay190]

/-- The gain as the body loads it. -/
theorem pay189_at (g : Vec Ideal S1x128 .f32) (l : Fin 128) :
    k0_pay189 g (ix2 0 l) = (g (ix2 0 l) : EReal) := by
  pointwise [k0_pay189]

/-- The mixing weight. -/
theorem pay188_at (w : Vec Ideal S4x64 .f32) :
    k0_pay188 w (ix2 0 0) = Ideal.exp (∑ x : Fin 64, (w (ix2 0 x) : EReal) * w (ix2 1 x)) - Ideal.exp (∑ x : Fin 64, (w (ix2 2 x) : EReal) * w (ix2 3 x))
      + Ideal.ofBits FTy.f32 0x3E4CCCCD#32 := by
  pointwise [k0_pay188]
  simp only [Finset.univ_unique, Finset.sum_singleton]

/-- The mask: a lane is the first component's where its place modulo 64 is below 32. -/
theorem pay187_at (r : Fin 256) (l : Fin 128) :
    (k0_pay187 (ix2 r l) : BitVec 1) = if l.val % 64 < 32 then 1#1 else 0#1 := by
  pointwise [k0_pay187]
  revert l
  decide +kernel

/-- The upper half of a stacked tile keeps the first component. -/
theorem pay193_at (v : IVec S256x128 1) (x : Vec Ideal S1x256x128 .bf16) (r : Fin 256) (l : Fin 128) :
    k0_pay193 v x (ix2 r l) = if (v (ix2 r l) : BitVec 1) = 1#1 then (x (ix3 0 r l) : EReal) else 0 := by
  pointwise [k0_pay193, k0_pay191, k0_pay192]
  rfl

/-- The lower half keeps the second. -/
theorem pay194_at (v : IVec S256x128 1) (x : Vec Ideal S1x256x128 .bf16) (r : Fin 256) (l : Fin 128) :
    k0_pay194 v x (ix2 r l) = if (v (ix2 r l) : BitVec 1) = 1#1 then 0 else (x (ix3 0 r l) : EReal) := by
  pointwise [k0_pay194, k0_pay191, k0_pay192]
  rfl

/-- The stacked tile, first half. -/
theorem stack_lo (v : IVec S256x128 1) (x : Vec Ideal S1x256x128 .bf16) (r : Fin 256) (l : Fin 128) (h : r.val < 512) :
    stack v x (ix2 ⟨r.val, h⟩ l) = k0_pay193 v x (ix2 r l) := by
  unfold stack
  have e : (ix2 ⟨r.val, h⟩ l : S512x128.Idx) = (Rect.unit (s := S512x128) ![0, 0] S256x128.size inb_S512x128_S256x128_0_0).emb (ix2 r l) := by
    funext a; fin_cases a <;> exact Fin.ext (by simp [Rect.unit, Rect.emb, LoadRect.idx])
  rw [View.canon_cons_of_not_mem, e, View.canon_cons_emb]
  rw [Rect.mem_set_unit]
  intro hh
  have := (hh 0).1
  simp at this
  omega

/-- The stacked tile, second half. -/
theorem stack_hi (v : IVec S256x128 1) (x : Vec Ideal S1x256x128 .bf16) (r : Fin 256) (l : Fin 128) (h : 256 + r.val < 512) :
    stack v x (ix2 ⟨256 + r.val, h⟩ l) = k0_pay194 v x (ix2 r l) := by
  unfold stack
  have e : (ix2 ⟨256 + r.val, h⟩ l : S512x128.Idx) = (Rect.unit (s := S512x128) ![256, 0] S256x128.size inb_S512x128_S256x128_256_0).emb (ix2 r l) := by
    funext a; fin_cases a <;> exact Fin.ext (by simp [Rect.unit, Rect.emb, LoadRect.idx])
  rw [e, View.canon_cons_emb]

end Cert.Proof.Value
-- ==== Proof.Value.Spec.lean ====
/- What the result is, the scores perhaps infinite and the values real numbers: attention of each half of a head's columns, the second taken from the first with a weight. -/
module

public import proofs.«01_k».proof.Proof.Value.Gap
public import proofs.«01_k».proof.Proof.Value.Ends

@[expose] public section

set_option maxRecDepth 16384

noncomputable section

namespace Cert.Proof.Value

open Idealize.ShloMosaic

/-- The score of key `j`: the product of the query with it over the 64 columns of component `p` of head `h`. -/
def dotS (q : ℕ → EReal) (k : ℕ → ℕ → EReal) (h p j : ℕ) : EReal := ∑ d ∈ Finset.range 64, q (h * 128 + p * 64 + d) * k j (h * 128 + p * 64 + d)

/-- The largest score. -/
def topS (q : ℕ → EReal) (k : ℕ → ℕ → EReal) (h p : ℕ) : EReal := (Finset.range 16640).sup (dotS q k h p)

/-- The weight of key `j`: the exponential of its scaled score less the largest. -/
def wgt (q : ℕ → EReal) (k : ℕ → ℕ → EReal) (h p j : ℕ) : ℝ := egap (dotS q k h p j * ((1 / 8 : ℝ) : EReal)) (topS q k h p * ((1 / 8 : ℝ) : EReal))

/-- The sum of the weights. -/
def sumL (q : ℕ → EReal) (k : ℕ → ℕ → EReal) (h p : ℕ) : ℝ := ∑ j ∈ Finset.range 16640, wgt q k h p j

/-- The values' column `e`, weighted. -/
def sumS (q : ℕ → EReal) (k : ℕ → ℕ → EReal) (v : ℕ → ℕ → ℝ) (h p e : ℕ) : ℝ := ∑ j ∈ Finset.range 16640, wgt q k h p j * v j (h * 128 + e)

/-- A component's attention: nothing over nothing is minus infinity. -/
def attn (q : ℕ → EReal) (k : ℕ → ℕ → EReal) (v : ℕ → ℕ → ℝ) (h p e : ℕ) : EReal :=
  if sumL q k h p = 0 then ⊥ else ((sumS q k v h p e / sumL q k h p : ℝ) : EReal)

theorem topS_top (q : ℕ → EReal) (k : ℕ → ℕ → EReal) (h p : ℕ) : IsTop (dotS q k h p) 16640 (topS q k h p) := by
  refine ⟨fun j hj => Finset.le_sup (f := dotS q k h p) (Finset.mem_range.mpr hj), ?_⟩
  obtain ⟨j, hj, e⟩ := Finset.exists_mem_eq_sup (Finset.range 16640) ⟨0, by simp⟩ (dotS q k h p)
  exact ⟨j, Finset.mem_range.mp hj, e.symm⟩

theorem wgt_nonneg (q : ℕ → EReal) (k : ℕ → ℕ → EReal) (h p j : ℕ) : 0 ≤ wgt q k h p j := egap_nonneg _ _

/-- Where the weights come to nothing, each is nothing. -/
theorem wgt_zero {q : ℕ → EReal} {k : ℕ → ℕ → EReal} {h p : ℕ} (h0 : sumL q k h p = 0) {j : ℕ} (hj : j < 16640) : wgt q k h p j = 0 :=
  (Finset.sum_eq_zero_iff_of_nonneg fun j _ => wgt_nonneg q k h p j).mp h0 j (Finset.mem_range.mpr hj)

/-- Nothing over nothing. -/
theorem div_zero_zero : Ideal.div ((0 : ℝ) : EReal) ((0 : ℝ) : EReal) = ⊥ := by
  unfold Ideal.div; simp

/-- The quotient of the weighted sum by the sum of the weights. -/
theorem div_attn (q : ℕ → EReal) (k : ℕ → ℕ → EReal) (v : ℕ → ℕ → ℝ) (h p e : ℕ) :
    Ideal.div ((sumS q k v h p e : ℝ) : EReal) ((sumL q k h p : ℝ) : EReal) = attn q k v h p e := by
  unfold attn
  split
  · rename_i h0
    have : sumS q k v h p e = 0 := Finset.sum_eq_zero fun j hj => by rw [wgt_zero h0 (Finset.mem_range.mp hj), zero_mul]
    rw [h0, this, div_zero_zero]
  · rename_i h0
    rw [Ideal.div_coe h0, ← EReal.coe_mul, mul_one_div]

/-- The quotient of one weight by the sum of them. -/
theorem div_wgt (q : ℕ → EReal) (k : ℕ → ℕ → EReal) (h p : ℕ) {j : ℕ} (hj : j < 16640) :
    Ideal.div ((wgt q k h p j : ℝ) : EReal) ((sumL q k h p : ℝ) : EReal) = if sumL q k h p = 0 then ⊥ else ((wgt q k h p j / sumL q k h p : ℝ) : EReal) := by
  split
  · rename_i h0
    rw [h0, wgt_zero h0 hj, div_zero_zero]
  · rename_i h0
    rw [Ideal.div_coe h0, ← EReal.coe_mul, mul_one_div]

/-- The first component's attention less `lam` times the second's. -/
def mixed (q : ℕ → EReal) (k : ℕ → ℕ → EReal) (v : ℕ → ℕ → ℝ) (lam : ℝ) (h e : ℕ) : EReal :=
  attn q k v h 0 e - (lam : EReal) * attn q k v h 1 e

/-- The result at a column of head `h`: the mixed row normalised, times the gain and the fixed factor. -/
def specAt (q : ℕ → EReal) (k : ℕ → ℕ → EReal) (v : ℕ → ℕ → ℝ) (lam : ℝ) (h : ℕ) (g : EReal) (e : Fin 128) : EReal :=
  normed (fun x => mixed q k v lam h x.val) e * (g * Ideal.ofBits FTy.f32 0x3F4CCCCD#32)

/-- A row with an infinite number in it normalises to nought: its mean square is plus infinity. -/
theorem normed_inf (o : Fin 128 → EReal) (l : Fin 128) (h : ∃ x, o x = ⊤ ∨ o x = ⊥) : normed o l = 0 := by
  have hn : ∀ x, 0 ≤ o x * o x := fun x => by
    generalize o x = y
    induction y using EReal.rec with
    | bot => simp
    | top => simp
    | coe a => rw [← EReal.coe_mul]; exact EReal.coe_nonneg.mpr (mul_self_nonneg a)
  obtain ⟨x, hx⟩ := h
  have ht : o x * o x = ⊤ := by rcases hx with hx | hx <;> rw [hx] <;> simp
  have hs : ∑ x : Fin 128, o x * o x = ⊤ := by
    refine top_le_iff.mp ?_
    rw [← ht]
    exact Finset.single_le_sum (f := fun x => o x * o x) (fun x _ => hn x) (Finset.mem_univ x)
  have h1 : Ideal.ofBits FTy.f32 1124073472#32 = ((128 : ℝ) : EReal) := by
    simp [Ideal.ofBits, Ideal.ieee]
    rw [← EReal.coe_mul]
    congr 1; norm_num
  have h2 : ∃ r : ℝ, Ideal.ofBits FTy.f32 925353388#32 = (r : EReal) := by
    refine ⟨(10995116 : ℝ) * (2 : ℝ) ^ (-40 : ℤ), ?_⟩
    simp [Ideal.ofBits, Ideal.ieee]
  obtain ⟨r, hr⟩ := h2
  unfold normed
  rw [hs, h1, hr, Ideal.div_coe (by norm_num), EReal.top_mul_coe_of_pos (by norm_num), EReal.top_add_coe, Ideal.rsqrt_top, mul_zero]

/-- A row of noughts normalises to nought. -/
theorem normed_nought (o : Fin 128 → EReal) (l : Fin 128) (h : o l = 0) : normed o l = 0 := by
  unfold normed; rw [h, zero_mul]

/-- A row of noughts and infinite numbers normalises to nought. -/
theorem normed_ends (o : Fin 128 → EReal) (l : Fin 128) (h : ∀ x, o x = 0 ∨ o x = ⊤ ∨ o x = ⊥) : normed o l = 0 := by
  rcases h l with h | h
  · exact normed_nought o l h
  · exact normed_inf o l ⟨l, h⟩

end Cert.Proof.Value
-- ==== Proof.Value.Tables.lean ====
/- The arguments as tables, the values' of real numbers, and the result as a function of them. -/
module

public import proofs.«01_k».proof.Proof.Value.Host
public import proofs.«01_k».proof.Proof.Value.Spec

@[expose] public section

set_option maxRecDepth 16384

noncomputable section

namespace Cert.Proof.Value

open Cert.KernelIdeal Cert.KernelIdeal.Gen Cert.Proof.KernelIdeal
open Idealize.ShloMosaic Idealize.ShloMosaic.TcCoe

/-- Every element is a real number. -/
def AllReal {ι : Type} (A : ι → EReal) : Prop := ∀ i, ∃ r : ℝ, A i = (r : EReal)

theorem toReal_of {x : EReal} (h : ∃ r : ℝ, x = (r : EReal)) : x = ((x.toReal : ℝ) : EReal) := by
  obtain ⟨r, rfl⟩ := h; rw [EReal.toReal_coe]

/-- The queries' table. -/
def tabQ (A : S2x16384x512.Idx → EReal) (b : Fin 2) (n l : ℕ) : EReal :=
  if h : n < 16384 ∧ l < 512 then A (ix3 b ⟨n, h.1⟩ ⟨l, h.2⟩) else 0

/-- The table of a sequence followed by its context. -/
def tabJ (A : S2x16384x512.Idx → EReal) (C : S2x256x512.Idx → EReal) (b : Fin 2) (k l : ℕ) : EReal :=
  if h : k < 16640 ∧ l < 512 then joinAt A C b ⟨k, h.1⟩ ⟨l, h.2⟩ else 0

/-- The same table, of real numbers. -/
def tabR (A : S2x16384x512.Idx → EReal) (C : S2x256x512.Idx → EReal) (b : Fin 2) (k l : ℕ) : ℝ := (tabJ A C b k l).toReal

theorem tabQ_eq (A : S2x16384x512.Idx → EReal) (b : Fin 2) (n : Fin 16384) (l : Fin 512) : A (ix3 b n l) = tabQ A b n.val l.val := by
  unfold tabQ
  rw [dif_pos ⟨n.isLt, l.isLt⟩]

theorem tabJ_eq (A : S2x16384x512.Idx → EReal) (C : S2x256x512.Idx → EReal) (b : Fin 2) (k : Fin 16640) (l : Fin 512) :
    joinAt A C b k l = tabJ A C b k.val l.val := by
  unfold tabJ
  rw [dif_pos ⟨k.isLt, l.isLt⟩]

theorem tabR_eq {A : S2x16384x512.Idx → EReal} {C : S2x256x512.Idx → EReal} (hA : AllReal A) (hC : AllReal C) (b : Fin 2) (k : Fin 16640) (l : Fin 512) :
    tabJ A C b k.val l.val = ((tabR A C b k.val l.val : ℝ) : EReal) := by
  refine toReal_of ?_
  rw [← tabJ_eq]
  unfold joinAt
  split
  · exact hA _
  · exact hC _

/-- The mixing weight, of the four rows. -/
def lamE (w : S4x64.Idx → EReal) : EReal :=
  Ideal.exp (∑ x : Fin 64, w (ix2 0 x) * w (ix2 1 x)) - Ideal.exp (∑ x : Fin 64, w (ix2 2 x) * w (ix2 3 x)) + Ideal.ofBits FTy.f32 0x3E4CCCCD#32

theorem lamE_real {w : S4x64.Idx → EReal} (hw : AllReal w) : lamE w = (((lamE w).toReal : ℝ) : EReal) := by
  refine toReal_of ?_
  choose f hf using hw
  obtain ⟨r, hr⟩ := lit_init
  unfold lamE
  simp only [hf, ← EReal.coe_mul]
  rw [← coe_sum, ← coe_sum, Ideal.exp_coe, Ideal.exp_coe, hr, ← EReal.coe_sub, ← EReal.coe_add]
  exact ⟨_, rfl⟩

/-- The result, of the arguments. -/
def result (Q K V : S2x16384x512.Idx → EReal) (Kc Vc : S2x256x512.Idx → EReal) (L : S4x64.Idx → EReal) (g : S128.Idx → EReal)
    (b : Fin 2) (n : Fin 16384) (l : Fin 512) : EReal :=
  specAt (tabQ Q b n.val) (tabJ K Kc b) (tabR V Vc b) (lamE L).toReal (l.val / 128) (g (ix1 ⟨l.val % 128, Nat.mod_lt _ (by norm_num)⟩)) ⟨l.val % 128, Nat.mod_lt _ (by norm_num)⟩

end Cert.Proof.Value
-- ==== Proof.Value.Finite.lean ====
/- What the precondition says: the arrays it names hold real numbers. -/
module

public import proofs.«01_k».proof.Defs
public import proofs.«01_k».proof.Proof.Value.Tables

@[expose] public section

set_option maxRecDepth 16384

noncomputable section

namespace Cert.Proof.Value

open Cert.KernelIdeal Cert.KernelIdeal.Gen
open Idealize.ShloMosaic Idealize.ShloMosaic.TcCoe

/-- The precondition's shapes fit. -/
theorem pre_facts : Cert.Pre_finite.Facts := ⟨by decide, by decide, by decide⟩

/-- A value whose size is below infinity is a real number. -/
theorem real_of_lt (x : Ideal .f32) (h : FloatOps.cmpf .olt (FloatOps.hostAbsf x) (FloatOps.ofBits (F := Ideal) .f32 0x7F800000#32) = 1#1) :
    ∃ r : ℝ, (x : EReal) = (r : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  by_cases hx : (x : EReal) = ⊤ ∨ (x : EReal) = ⊥
  · exfalso
    have hn : ¬ (max (x : EReal) (-(x : EReal)) < ⊤) := by
      rcases hx with hx | hx <;> rw [hx] <;> simp
    unfold Ideal.cmp at h'
    simp [hn] at h'
  · push Not at hx
    exact ⟨(x : EReal).toReal, (EReal.coe_toReal hx.1 hx.2).symm⟩

variable (m : (ℓ : Loc nD τ sig) → Buf (Elt Ideal) ℓ)

/-- Under the precondition the arrays it names hold real numbers. -/
theorem pre_real (h : Cert.Pre_KernelIdeal_finite (hPre_finite := pre_facts) m) (c : Dev nD) :
    AllReal (aV m c) ∧ AllReal (cV m c) ∧ AllReal (aL m c) := by
  obtain ⟨h0, h1, h2⟩ := h c
  exact ⟨fun i => real_of_lt _ (congrFun h0 i), fun i => real_of_lt _ (congrFun h1 i), fun i => real_of_lt _ (congrFun h2 i)⟩

end Cert.Proof.Value
-- ==== Proof.Value.Blocks.lean ====
/- The blocks staged at a point of the grid, read at an index. -/
module

public import proofs.«01_k».proof.Proof.Value.Tables
public import Idealize.ShloMosaic.Lib.Pipeline.ValueKit

@[expose] public section

set_option maxRecDepth 16384

noncomputable section

namespace Cert.Proof.Value

open Cert.KernelIdeal Cert.KernelIdeal.Gen Cert.Proof.KernelIdeal
open Idealize.ShloMosaic Idealize.ShloMosaic.TcCoe Idealize.ShloMosaic.Tactic

variable (m : (ℓ : Loc nD τ sig) → Buf (Elt Ideal) ℓ)

/-- The block of each array at a point of the grid. -/
theorem idx : ∀ t : Fin cfg0.N,
    win0_0.index t = ![(grid0.coords t 0).val, (grid0.coords t 2).val, (grid0.coords t 1).val]
    ∧ win0_1.index t = ![(grid0.coords t 0).val, (grid0.coords t 1).val, 0, 0]
    ∧ win0_2.index t = ![(grid0.coords t 0).val, 0, (grid0.coords t 1).val]
    ∧ win0_3.index t = ![0, 0]
    ∧ win0_4.index t = ![0, 0]
    ∧ win0_5.index t = ![(grid0.coords t 0).val, (grid0.coords t 2).val, (grid0.coords t 1).val] :=
  (by decide +kernel : ∀ t : Fin grid0.N, _)

/-- The grid's extents. -/
theorem ext : ∀ t : Fin cfg0.N, (grid0.coords t 0).val < 2 ∧ (grid0.coords t 1).val < 4 ∧ (grid0.coords t 2).val < 2 :=
  (by decide +kernel : ∀ t : Fin grid0.N, _)

/-- A block of the queries' array. -/
theorem read0 (A : S2x16640x512.Idx → EReal) (t : Fin cfg0.N) (y : Fin 8192) (l : Fin 128) :
    ((cfg0.win 0).fill (cfg0.grid.coords t) (dflt0_0 (F := Ideal)) (((cfg0.win 0).blk t).view.read (Elt Ideal) A) (ix3 0 y l) : EReal)
      = A (ix3 ⟨(grid0.coords t 0).val, (ext t).1⟩ ⟨(grid0.coords t 2).val * 8192 + y.val, by have := (ext t).2.2; omega⟩ ⟨(grid0.coords t 1).val * 128 + l.val, by have := (ext t).2.1; omega⟩) := by
  obtain ⟨h0, h1, h2, h3, h4, h5⟩ := idx t
  unfold Pipeline.Window.fill
  rw [dif_pos (moved0_0 t _)]
  blk_simp
  refine congrArg A (funext fun a => Fin.ext ?_)
  fin_cases a
  · blk_simp [h0] <;> rfl
  · blk_simp [h0] <;> rfl
  · blk_simp [h0] <;> rfl

/-- A block of the keys' array. -/
theorem read1 (A : S2x4x128x16640.Idx → EReal) (t : Fin cfg0.N) (l : Fin 128) (k : Fin 16640) :
    (((cfg0.win 1).blk t).view.read (Elt Ideal) A (ix4 0 0 l k) : EReal)
      = A (ix4 ⟨(grid0.coords t 0).val, (ext t).1⟩ ⟨(grid0.coords t 1).val, (ext t).2.1⟩ l k) := by
  obtain ⟨h0, h1, h2, h3, h4, h5⟩ := idx t
  blk_simp
  refine congrArg A (funext fun a => Fin.ext ?_)
  fin_cases a
  · blk_simp [h1] <;> rfl
  · blk_simp [h1] <;> rfl
  · blk_simp [h1] <;> rfl
  · blk_simp [h1] <;> rfl

/-- A block of the values' array. -/
theorem read2 (A : S2x16640x1024.Idx → EReal) (t : Fin cfg0.N) (k : Fin 16640) (l : Fin 256) :
    (((cfg0.win 2).blk t).view.read (Elt Ideal) A (ix3 0 k l) : EReal)
      = A (ix3 ⟨(grid0.coords t 0).val, (ext t).1⟩ k ⟨(grid0.coords t 1).val * 256 + l.val, by have := (ext t).2.1; omega⟩) := by
  obtain ⟨h0, h1, h2, h3, h4, h5⟩ := idx t
  blk_simp
  refine congrArg A (funext fun a => Fin.ext ?_)
  fin_cases a
  · blk_simp [h2] <;> rfl
  · blk_simp [h2] <;> rfl
  · blk_simp [h2] <;> rfl

/-- The mixing weight's rows are whole. -/
theorem read3 (A : S4x64.Idx → EReal) (t : Fin cfg0.N) (r : Fin 4) (l : Fin 64) :
    (((cfg0.win 3).blk t).view.read (Elt Ideal) A (ix2 r l) : EReal)
      = A (ix2 r l) := by
  obtain ⟨h0, h1, h2, h3, h4, h5⟩ := idx t
  blk_simp
  refine congrArg A (funext fun a => Fin.ext ?_)
  fin_cases a
  · blk_simp [h3] <;> rfl
  · blk_simp [h3] <;> rfl

/-- The gain is whole. -/
theorem read4 (A : S1x128.Idx → EReal) (t : Fin cfg0.N) (l : Fin 128) :
    (((cfg0.win 4).blk t).view.read (Elt Ideal) A (ix2 0 l) : EReal)
      = A (ix2 0 l) := by
  obtain ⟨h0, h1, h2, h3, h4, h5⟩ := idx t
  blk_simp
  refine congrArg A (funext fun a => Fin.ext ?_)
  fin_cases a
  · blk_simp [h4] <;> rfl
  · blk_simp [h4] <;> rfl

/-- A block of the results, in their array. -/
theorem emb5 (t : Fin cfg0.N) (y : Fin 8192) (l : Fin 128) :
    ((win0_5.blk t).view.emb (ix3 0 y l) : S2x16384x512.Idx)
      = ix3 ⟨(grid0.coords t 0).val, (ext t).1⟩ ⟨(grid0.coords t 2).val * 8192 + y.val, by have := (ext t).2.2; omega⟩ ⟨(grid0.coords t 1).val * 128 + l.val, by have := (ext t).2.1; omega⟩ := by
  obtain ⟨h0, h1, h2, h3, h4, h5⟩ := idx t
  refine funext fun a => Fin.ext ?_
  fin_cases a
  · blk_simp [h5] <;> rfl
  · blk_simp [h5] <;> rfl
  · blk_simp [h5] <;> rfl

/-- The queries staged at a point. -/
theorem x0_at (c : Dev nD) (t : Fin cfg0.N) (y : Fin 8192) (l : Fin 128) :
    (X0_0 m c t (ix3 0 y l) : EReal) = (V m c main_v8 : S2x16640x512.Idx → EReal)
      (ix3 ⟨(grid0.coords t 0).val, (ext t).1⟩ ⟨(grid0.coords t 2).val * 8192 + y.val, by have := (ext t).2.2; omega⟩ ⟨(grid0.coords t 1).val * 128 + l.val, by have := (ext t).2.1; omega⟩) := by
  unfold X0_0 iblk
  exact read0 (V m c main_v8) t y l

/-- The keys staged at a point. -/
theorem x1_at (c : Dev nD) (t : Fin cfg0.N) (l : Fin 128) (k : Fin 16640) :
    (iblk m c 1 t (ix4 0 0 l k) : EReal) = (V m c main_v15 : S2x4x128x16640.Idx → EReal)
      (ix4 ⟨(grid0.coords t 0).val, (ext t).1⟩ ⟨(grid0.coords t 1).val, (ext t).2.1⟩ l k) := by
  unfold iblk
  exact read1 (V m c main_v15) t l k

/-- The values staged at a point. -/
theorem x2_at (c : Dev nD) (t : Fin cfg0.N) (k : Fin 16640) (l : Fin 256) :
    (iblk m c 2 t (ix3 0 k l) : EReal) = (V m c main_v21 : S2x16640x1024.Idx → EReal)
      (ix3 ⟨(grid0.coords t 0).val, (ext t).1⟩ k ⟨(grid0.coords t 1).val * 256 + l.val, by have := (ext t).2.1; omega⟩) := by
  unfold iblk
  exact read2 (V m c main_v21) t k l

/-- The mixing weight's rows staged at a point. -/
theorem x3_at (c : Dev nD) (t : Fin cfg0.N) (r : Fin 4) (l : Fin 64) : (iblk m c 3 t (ix2 r l) : EReal) = aL m c (ix2 r l) := by
  unfold iblk
  exact (read3 (V m c main_arg6) t r l).trans (congrFun (V_main_arg6 m c) _)

/-- The gain staged at a point. -/
theorem x4_at (c : Dev nD) (t : Fin cfg0.N) (l : Fin 128) : (iblk m c 4 t (ix2 0 l) : EReal) = aG m c (ix1 l) := by
  unfold iblk
  exact (read4 (V m c main_v22) t l).trans (v22_at m c l)

end Cert.Proof.Value
-- ==== Proof.Value.Pay.lean ====
/- The kernel body's payloads, read at an index. -/
module

public import proofs.«01_k».proof.Proof.KernelIdeal.Model
public import Idealize.ShloMosaic.Lib.Pipeline.ValueKit

@[expose] public section

set_option maxRecDepth 16384

noncomputable section

namespace Cert.Proof.Value

open Cert.KernelIdeal Cert.KernelIdeal.Gen Cert.Proof.KernelIdeal
open Idealize.ShloMosaic Idealize.ShloMosaic.TcCoe Idealize.ShloMosaic.Tactic

/-- The largest score of a row, over one block of keys. -/
def rowMax (s : Vec Ideal S1x512x1280 .f32) (r : Fin 512) : EReal :=
  Finset.fold max (Ideal.ofBits FTy.f32 4286578688#32) (fun x : Fin 1280 => (s (ix3 0 r x) : EReal)) Finset.univ

/-- A block's scores: the products of a stacked row with the keys. -/
theorem pay2_at (q : Vec Ideal S512x128 .bf16) (kk : Vec Ideal S1x1x128x1280 .bf16) (r : Fin 512) (k : Fin 1280) :
    k0_pay2 q kk (ix3 0 r k) = ∑ x : Fin 128, (q (ix2 r x) : EReal) * kk (ix4 0 0 x k) := by
  pointwise [k0_pay2]

/-- The first block's row maximum, in every lane. -/
theorem pay6_at (s : Vec Ideal S1x512x1280 .f32) (r : Fin 512) (l : Fin 128) :
    k0_pay6 s (ix2 r l) = rowMax s r := by
  unfold rowMax
  pointwise [k0_pay6, k0_pay5]

/-- The same, as it is stored. -/
theorem pay8_at (s : Vec Ideal S1x512x1280 .f32) (r : Fin 512) (l : Fin 128) :
    k0_pay8 s (ix3 0 r l) = rowMax s r := by
  unfold rowMax
  pointwise [k0_pay8, k0_pay6, k0_pay5]

/-- The first block's accumulator. -/
theorem pay7_at (s : Vec Ideal S1x512x1280 .f32) (vv : Vec Ideal S1x1280x256 .bf16) (r : Fin 512) (l : Fin 256) :
    k0_pay7 s vv (ix3 0 r l) = ∑ x : Fin 1280, Ideal.exp2 ((s (ix3 0 r x) : EReal) - rowMax s r) * vv (ix3 0 x l) := by
  pointwise [k0_pay7, k0_pay5]
  simp only [pay6_at, dite_eq_ite, ite_self]
  rfl

/-- The running maximum after a further block. -/
theorem pay12_at (s : Vec Ideal S1x512x1280 .f32) (m : Vec Ideal S1x512x128 .f32) (r : Fin 512) (l : Fin 128) :
    k0_pay12 s m (ix2 r l) = max (m (ix3 0 r l) : EReal) (rowMax s r) := by
  unfold rowMax
  pointwise [k0_pay12, k0_pay10, k0_pay11]

/-- The same, as it is stored. -/
theorem pay14_at (s : Vec Ideal S1x512x1280 .f32) (m : Vec Ideal S1x512x128 .f32) (r : Fin 512) (l : Fin 128) :
    k0_pay14 s m (ix3 0 r l) = max (m (ix3 0 r l) : EReal) (rowMax s r) := by
  unfold rowMax
  pointwise [k0_pay14, k0_pay12, k0_pay10, k0_pay11]

/-- The accumulator after a further block, the maximum before it being the same in every lane. -/
theorem pay13_at (s : Vec Ideal S1x512x1280 .f32) (m : Vec Ideal S1x512x128 .f32) (vv : Vec Ideal S1x1280x256 .bf16) (a : Vec Ideal S1x512x256 .f32) (r : Fin 512) (l : Fin 256)
    (μ : EReal) (hm : ∀ l : Fin 128, m (ix3 0 r l) = μ) :
    k0_pay13 s m vv a (ix3 0 r l) = (a (ix3 0 r l) : EReal) * Ideal.exp2 (μ - max μ (rowMax s r))
      + ∑ x : Fin 1280, Ideal.exp2 ((s (ix3 0 r x) : EReal) - max μ (rowMax s r)) * vv (ix3 0 x l) := by
  pointwise [k0_pay13, k0_pay10, k0_pay11]
  simp only [pay12_at, hm, dite_eq_ite, ite_self]
  rfl

/-- The block of keys at an index. -/
theorem keyBlk_at (X : S1x1x128x16640.Idx → Elt Ideal .bf16) (j : ℕ) (l : Fin 128) (k : Fin 1280) (h : 1280 * (j % 13) + k.val < 16640) :
    keyBlk X j (ix4 0 0 l k) = X (ix4 0 0 l ⟨1280 * (j % 13) + k.val, h⟩) := by
  unfold keyBlk
  rw [View.ld_apply]
  congr 1
  funext a
  fin_cases a <;> exact Fin.ext (by simp [Rect.unit, Rect.toLoadRect, LoadRect.idx])

/-- The block of values at an index. -/
theorem valBlk_at (X : S1x16640x256.Idx → Elt Ideal .bf16) (j : ℕ) (k : Fin 1280) (l : Fin 256) (h : 1280 * (j % 13) + k.val < 16640) :
    valBlk X j (ix3 0 k l) = X (ix3 0 ⟨1280 * (j % 13) + k.val, h⟩ l) := by
  unfold valBlk
  rw [View.ld_apply]
  congr 1
  funext a
  fin_cases a <;> exact Fin.ext (by simp [Rect.unit, Rect.toLoadRect, LoadRect.idx])

/-- The tile of queries at an index. -/
theorem qryTile_at (X : S1x8192x128.Idx → Elt Ideal .bf16) (t : ℕ) (r : Fin 256) (l : Fin 128) (h : t % 32 * 256 + r.val < 8192) :
    qryTile X t (ix3 0 r l) = X (ix3 0 ⟨t % 32 * 256 + r.val, h⟩ l) := by
  unfold qryTile
  rw [View.ld_apply]
  congr 1
  funext a
  fin_cases a <;> exact Fin.ext (by simp [Rect.unit, Rect.toLoadRect, LoadRect.idx])

end Cert.Proof.Value
-- ==== Proof.Value.Loop.lean ====
/- The thirteen blocks of keys: what the running maximum and the accumulator hold after each. -/
module

public import proofs.«01_k».proof.Proof.Value.Pay
public import proofs.«01_k».proof.Proof.Value.Spec

@[expose] public section

set_option maxRecDepth 16384

noncomputable section

namespace Cert.Proof.Value

open Cert.KernelIdeal Cert.KernelIdeal.Gen Cert.Proof.KernelIdeal
open Idealize.ShloMosaic Idealize.ShloMosaic.TcCoe

variable (Q : Vec Ideal S512x128 .bf16) (X4 : S1x1x128x16640.Idx → Elt Ideal .bf16) (X5 : S1x16640x256.Idx → Elt Ideal .bf16)

/-- A row's scores against block `j`, given the scores of all keys. -/
theorem score_block (r : Fin 512) (s : ℕ → EReal)
    (hs : ∀ k : Fin 16640, ∑ x : Fin 128, (Q (ix2 r x) : EReal) * X4 (ix4 0 0 x k) = s k.val) (j : ℕ) (hj : j ≤ 12) (k : Fin 1280) :
    (k0_pay2 Q (keyBlk X4 j) (ix3 0 r k) : EReal) = s (1280 * j + k.val) := by
  have hm : j % 13 = j := Nat.mod_eq_of_lt (by omega)
  have hk : 1280 * (j % 13) + k.val < 16640 := by have := k.isLt; rw [hm]; omega
  rw [pay2_at]
  have e : ∀ x : Fin 128, (keyBlk X4 j (ix4 0 0 x k) : EReal) = X4 (ix4 0 0 x ⟨1280 * (j % 13) + k.val, hk⟩) := fun x => keyBlk_at X4 j x k hk
  simp only [e]
  rw [hs ⟨1280 * (j % 13) + k.val, hk⟩]
  simp only [hm]

/-- A block's largest score. -/
theorem rowMax_block (r : Fin 512) (s : ℕ → EReal)
    (hs : ∀ k : Fin 16640, ∑ x : Fin 128, (Q (ix2 r x) : EReal) * X4 (ix4 0 0 x k) = s k.val) (j : ℕ) (hj : j ≤ 12) :
    IsTop (fun x => s (1280 * j + x)) 1280 (rowMax (k0_pay2 Q (keyBlk X4 j)) r) := by
  unfold rowMax
  simp only [score_block Q X4 r s hs j hj]
  exact rowmax_top (n := 1279) fun x => s (1280 * j + x)

/-- After block `j` the running maximum of a row is the largest score so far, in every lane, and the accumulator holds the values of the keys so far, weighted with two to the score less it. -/
theorem run_top (r : Fin 512) (s : ℕ → EReal) (v : ℕ → ℕ → ℝ)
    (hs : ∀ k : Fin 16640, ∑ x : Fin 128, (Q (ix2 r x) : EReal) * X4 (ix4 0 0 x k) = s k.val)
    (hv : ∀ (k : Fin 16640) (l : Fin 256), (X5 (ix3 0 k l) : EReal) = ((v k.val l.val : ℝ) : EReal)) :
    ∀ j ≤ 12, ∃ μ : EReal, IsTop s (1280 * j + 1280) μ ∧ (∀ l : Fin 128, (runMax Q X4 j (ix3 0 r l) : EReal) = μ)
      ∧ ∀ l : Fin 256, (runAcc Q X4 X5 j (ix3 0 r l) : EReal) = ((∑ k ∈ Finset.range (1280 * j + 1280), gap (s k) μ * v k l.val : ℝ) : EReal) := by
  have hvb : ∀ j ≤ 12, ∀ (k : Fin 1280) (l : Fin 256), (valBlk X5 j (ix3 0 k l) : EReal) = ((v (1280 * j + k.val) l.val : ℝ) : EReal) := by
    intro j hj k l
    have hm : j % 13 = j := Nat.mod_eq_of_lt (by omega)
    have hk : 1280 * (j % 13) + k.val < 16640 := by have := k.isLt; rw [hm]; omega
    rw [valBlk_at X5 j k l hk, hv]
    simp only [hm]
  intro j
  induction j with
  | zero =>
    intro hj
    have hμ := rowMax_block Q X4 r s hs 0 hj
    simp only [Nat.mul_zero, Nat.zero_add] at hμ
    refine ⟨_, by simpa using hμ, fun l => ?_, fun l => ?_⟩
    · exact pay8_at _ r l
    · refine (pay7_at _ _ r l).trans ?_
      simp only [score_block Q X4 r s hs 0 hj, hvb 0 hj]
      have := first_block (rowMax (k0_pay2 Q (keyBlk X4 0)) r) s (fun k => v k l.val) 1280 hμ.1
      simpa using this
  | succ j ih =>
    intro hj
    obtain ⟨μ, ht, hμ, ha⟩ := ih (by omega)
    have hν := rowMax_block Q X4 r s hs (j + 1) hj
    rw [show 1280 * (j + 1) = 1280 * j + 1280 by ring] at hν ⊢
    have hT := ht.append hν
    refine ⟨_, hT, fun l => ?_, fun l => ?_⟩
    · refine (pay14_at _ _ r l).trans ?_
      rw [hμ]
    · refine (pay13_at _ _ _ _ r l μ hμ).trans ?_
      rw [ha]
      simp only [score_block Q X4 r s hs (j + 1) hj, hvb (j + 1) hj]
      exact next_block μ _ s (fun k => v k l.val) (1280 * j + 1280) 1280 ht.1 (le_max_left _ _) hT.1

/-- After all the keys, the accumulator's columns over its column of weights: a component's attention. -/
theorem acc_ratio (r : ℕ) (hr : r < 512) (q : ℕ → EReal) (k : ℕ → ℕ → EReal) (v : ℕ → ℕ → ℝ) (h p : ℕ)
    (hs : ∀ j : Fin 16640, ∑ x : Fin 128, (Q (ix2 ⟨r, hr⟩ x) : EReal) * X4 (ix4 0 0 x j) = dotS q k h p j.val * ((1 / 8 / Real.log 2 : ℝ) : EReal))
    (hv : ∀ (j : Fin 16640) (l : Fin 128), (X5 (ix3 0 j ⟨l.val, by omega⟩) : EReal) = ((v j.val (h * 128 + l.val) : ℝ) : EReal))
    (hone : ∀ (j : Fin 16640) (l : Fin 128), (X5 (ix3 0 j ⟨128 + l.val, by omega⟩) : EReal) = 1) (l : Fin 128) :
    Ideal.div (runAcc Q X4 X5 12 (ix3 0 ⟨r, hr⟩ ⟨l.val, by omega⟩)) (runAcc Q X4 X5 12 (ix3 0 ⟨r, hr⟩ ⟨128 + l.val, by omega⟩))
      = attn q k v h p l.val := by
  obtain ⟨μ, ht, -, ha⟩ := run_top Q X4 X5 ⟨r, hr⟩ (fun j => dotS q k h p j * ((1 / 8 / Real.log 2 : ℝ) : EReal)) (fun j l => if l < 128 then v j (h * 128 + l) else 1) hs
    (fun j l => by
      by_cases hl : l.val < 128
      · rw [if_pos hl]; exact hv j ⟨l.val, hl⟩
      · rw [if_neg hl]
        have := hone j ⟨l.val - 128, by omega⟩
        have e : (⟨128 + (l.val - 128), by omega⟩ : Fin 256) = l := Fin.ext (by simp; omega)
        simp only [e] at this
        rw [this]; rfl) 12 le_rfl
  have hc : (0 : ℝ) < 1 / 8 / Real.log 2 := div_pos (by norm_num) (Real.log_pos (by norm_num))
  have htop := topS_top q k h p
  have hμ : μ = topS q k h p * ((1 / 8 / Real.log 2 : ℝ) : EReal) := IsTop.unique (n := 16640) ht (htop.scale hc)
  have hw : ∀ j < 16640, gap (dotS q k h p j * ((1 / 8 / Real.log 2 : ℝ) : EReal)) μ = wgt q k h p j := by
    intro j hj
    rw [hμ, gap_scale (by norm_num) (htop.1 j hj)]
    rfl
  rw [ha, ha]
  simp only [l.isLt, if_true, show ¬ (128 + l.val < 128) by omega, if_false, mul_one]
  have e1 : ∑ j ∈ Finset.range (1280 * 12 + 1280), gap (dotS q k h p j * ((1 / 8 / Real.log 2 : ℝ) : EReal)) μ * v j (h * 128 + l.val) = sumS q k v h p l.val :=
    Finset.sum_congr rfl fun j hj => by rw [hw j (Finset.mem_range.mp hj)]
  have e2 : ∑ j ∈ Finset.range (1280 * 12 + 1280), gap (dotS q k h p j * ((1 / 8 / Real.log 2 : ℝ) : EReal)) μ = sumL q k h p :=
    Finset.sum_congr rfl fun j hj => hw j (Finset.mem_range.mp hj)
  rw [e1, e2]
  exact div_attn q k v h p l.val

end Cert.Proof.Value
-- ==== Proof.Value.Tile.lean ====
/- What one block of the grid computes, at a row and a column. -/
module

public import proofs.«01_k».proof.Proof.Value.Loop
public import proofs.«01_k».proof.Proof.Value.Spec
public import proofs.«01_k».proof.Proof.KernelIdeal.Frame

@[expose] public section

set_option maxRecDepth 16384

noncomputable section

namespace Cert.Proof.Value

open Cert.KernelIdeal Cert.KernelIdeal.Gen Cert.Proof.KernelIdeal
open Idealize.ShloMosaic Idealize.ShloMosaic.TcCoe

/-- The column, within a head, that a prepared lane holds. -/
def lane (l : ℕ) : ℕ := l / 32 % 2 * 64 + l / 16 % 2 * 32 + l / 64 % 2 * 16 + l % 16

variable (X3 : S1x8192x128.Idx → Elt Ideal .bf16) (X4 : S1x1x128x16640.Idx → Elt Ideal .bf16) (X5 : S1x16640x256.Idx → Elt Ideal .bf16)

/-- A masked row's product with a key: the score over the component's own columns, scaled. -/
theorem masked_dot (q : ℕ → EReal) (k : ℕ → ℕ → EReal) (h p : ℕ) (hp : p < 2) {sc : ℝ} (hsc : 0 < sc) (j : ℕ) (Qr Kr : Fin 128 → EReal)
    (hQ : ∀ x : Fin 128, Qr x = if x.val / 32 % 2 = p then q (h * 128 + lane x.val) * (sc : EReal) else 0)
    (hK : ∀ x : Fin 128, Kr x = k j (h * 128 + lane x.val)) :
    ∑ x : Fin 128, Qr x * Kr x = dotS q k h p j * (sc : EReal) := by
  have e : ∀ x : Fin 128, Qr x * Kr x
      = if x.val / 32 % 2 = p then (fun d => q (h * 128 + d) * k j (h * 128 + d) * (sc : EReal)) (x.val / 32 % 2 * 64 + x.val / 16 % 2 * 32 + x.val / 64 % 2 * 16 + x.val % 16) else 0 := by
    intro x
    rw [hQ, hK]
    split
    · exact mul_right_comm _ _ _
    · exact zero_mul _
  simp only [e]
  rw [← Finset.sum_range (fun x => if x / 32 % 2 = p then (fun d => q (h * 128 + d) * k j (h * 128 + d) * (sc : EReal)) (x / 32 % 2 * 64 + x / 16 % 2 * 32 + x / 64 % 2 * 16 + x % 16) else 0),
    lanes_sum p hp (fun d => q (h * 128 + d) * k j (h * 128 + d) * (sc : EReal))]
  unfold dotS
  rw [sum_mul_pos _ _ hsc]
  refine Finset.sum_congr rfl fun d _ => ?_
  simp only [show h * 128 + (p * 64 + d) = h * 128 + p * 64 + d by ring]

/-- The scale of the queries is positive. -/
theorem scale_pos : (0 : ℝ) < 1 / 8 / Real.log 2 := div_pos (by norm_num) (Real.log_pos (by norm_num))

/-- The two halves of a stacked row's quotients: each component's attention. -/
theorem ratio_at (q : ℕ → EReal) (k : ℕ → ℕ → EReal) (v : ℕ → ℕ → ℝ) (h t : ℕ) (r : Fin 256) (hr : t % 32 * 256 + r.val < 8192)
    (hq : ∀ l : Fin 128, (X3 (ix3 0 ⟨t % 32 * 256 + r.val, hr⟩ l) : EReal) = q (h * 128 + lane l.val) * ((1 / 8 / Real.log 2 : ℝ) : EReal))
    (hk : ∀ (l : Fin 128) (j : Fin 16640), (X4 (ix4 0 0 l j) : EReal) = k j.val (h * 128 + lane l.val))
    (hv : ∀ (j : Fin 16640) (l : Fin 128), (X5 (ix3 0 j ⟨l.val, by omega⟩) : EReal) = ((v j.val (h * 128 + l.val) : ℝ) : EReal))
    (hone : ∀ (j : Fin 16640) (l : Fin 128), (X5 (ix3 0 j ⟨128 + l.val, by omega⟩) : EReal) = 1) (l : Fin 128) :
    ratio (tileAcc k0_pay187 X3 X4 X5 t) r.val (by omega) l = attn q k v h 0 l.val
      ∧ ratio (tileAcc k0_pay187 X3 X4 X5 t) (256 + r.val) (by omega) l = attn q k v h 1 l.val := by
  have hx : ∀ x : Fin 128, (qryTile X3 t (ix3 0 r x) : EReal) = q (h * 128 + lane x.val) * ((1 / 8 / Real.log 2 : ℝ) : EReal) :=
    fun x => (qryTile_at X3 t r x hr).trans (hq x)
  unfold ratio tileAcc
  constructor
  · refine acc_ratio _ X4 X5 r.val (by omega) q k v h 0 (fun j => ?_) hv hone l
    refine masked_dot q k h 0 (by omega) scale_pos j.val _ _ (fun x => ?_) (fun x => hk x j)
    refine (stack_lo _ _ r x (by omega)).trans ((pay193_at _ _ r x).trans ?_)
    rw [pay187_at, hx]
    by_cases hc : x.val % 64 < 32
    · rw [if_pos hc, if_pos rfl, if_pos (by omega)]
    · rw [if_neg hc, if_neg (by decide), if_neg (by omega)]
  · refine acc_ratio _ X4 X5 (256 + r.val) (by omega) q k v h 1 (fun j => ?_) hv hone l
    refine masked_dot q k h 1 (by omega) scale_pos j.val _ _ (fun x => ?_) (fun x => hk x j)
    refine (stack_hi _ _ r x (by omega)).trans ((pay194_at _ _ r x).trans ?_)
    rw [pay187_at, hx]
    by_cases hc : x.val % 64 < 32
    · rw [if_pos hc, if_pos rfl, if_neg (by omega)]
    · rw [if_neg hc, if_neg (by decide), if_pos (by omega)]

/-- A block of results, at a row and a column. -/
theorem outBlk_at (X6 : S4x64.Idx → Elt Ideal .f32) (X7 : S1x128.Idx → Elt Ideal .f32) (q : ℕ → EReal) (k : ℕ → ℕ → EReal) (v : ℕ → ℕ → ℝ) (lam : ℝ) (h : ℕ) (y : Fin 8192) (e : Fin 128)
    (hq : ∀ l : Fin 128, (X3 (ix3 0 y l) : EReal) = q (h * 128 + lane l.val) * ((1 / 8 / Real.log 2 : ℝ) : EReal))
    (hk : ∀ (l : Fin 128) (j : Fin 16640), (X4 (ix4 0 0 l j) : EReal) = k j.val (h * 128 + lane l.val))
    (hv : ∀ (j : Fin 16640) (l : Fin 128), (X5 (ix3 0 j ⟨l.val, by omega⟩) : EReal) = ((v j.val (h * 128 + l.val) : ℝ) : EReal))
    (hone : ∀ (j : Fin 16640) (l : Fin 128), (X5 (ix3 0 j ⟨128 + l.val, by omega⟩) : EReal) = 1)
    (hlam : (k0_pay188 X6 (ix2 0 0) : EReal) = ((lam : ℝ) : EReal)) :
    (outBlk X3 X4 X5 X6 X7 (ix3 0 y e) : EReal) = specAt q k v lam h (X7 (ix2 0 e)) e := by
  have hy : y.val / 256 % 32 * 256 + y.val % 256 = y.val := by have := y.isLt; omega
  have hlt : y.val / 256 % 32 * 256 + y.val % 256 < 8192 := by rw [hy]; exact y.isLt
  have hyy : (⟨y.val / 256 % 32 * 256 + y.val % 256, hlt⟩ : Fin 8192) = y := Fin.ext hy
  have hr := ratio_at X3 X4 X5 q k v h (y.val / 256) ⟨y.val % 256, Nat.mod_lt _ (by norm_num)⟩ hlt (by rw [hyy]; exact hq) hk hv hone
  have ei : inTile (ix3 0 y e) = ix3 0 ⟨y.val % 256, Nat.mod_lt _ (by norm_num)⟩ e := by
    funext a; fin_cases a <;> rfl
  unfold outBlk blockOut
  rw [ei]
  refine (pay1_at _ _ _ _ e).trans ?_
  unfold specAt mixed
  rw [hlam, pay190_at, pay189_at]
  have ef : (fun x => ratio (tileAcc k0_pay187 X3 X4 X5 (y.val / 256)) (y.val % 256) (by omega) x - ((lam : ℝ) : EReal) * ratio (tileAcc k0_pay187 X3 X4 X5 (y.val / 256)) (256 + y.val % 256) (by omega) x)
      = fun x : Fin 128 => attn q k v h 0 x.val - ((lam : ℝ) : EReal) * attn q k v h 1 x.val := by
    funext x
    rw [(hr x).1, (hr x).2]
  exact congrArg (fun f => normed f e * ((X7 (ix2 0 e) : EReal) * Ideal.ofBits FTy.f32 0x3F4CCCCD#32)) ef

end Cert.Proof.Value
-- ==== Proof.Value.Kern.lean ====
/- The kernel's array of results. -/
module

public import proofs.«01_k».proof.Proof.Value.Blocks
public import proofs.«01_k».proof.Proof.Value.Tile
public import Idealize.ShloMosaic.Lib.Pipeline.ValueKit

@[expose] public section

set_option maxRecDepth 16384

noncomputable section

namespace Cert.Proof.Value

open Cert.KernelIdeal Cert.KernelIdeal.Gen Cert.Proof.KernelIdeal
open Idealize.ShloMosaic Idealize.ShloMosaic.TcCoe Idealize.ShloMosaic.Tactic

variable (m : (ℓ : Loc nD τ sig) → Buf (Elt Ideal) ℓ)

/-- The result as an array. -/
def resArr (c : Dev nD) : S2x16384x512.Idx → EReal :=
  fun i => result (aQ m c) (aK m c) (aV m c) (cK m c) (cV m c) (aL m c) (aG m c) (i 0) (i 1) (i 2)

/-- A block of results, at a row and a column, of the arguments. -/
theorem point_at (c : Dev nD) (hV : AllReal (aV m c)) (hVc : AllReal (cV m c))
    (hL : AllReal (aL m c)) (t : Fin cfg0.N) (y : Fin 8192) (e : Fin 128) :
    (outBlk (X0_0 m c t) (iblk m c 1 t) (iblk m c 2 t) (iblk m c 3 t) (iblk m c 4 t) (ix3 0 y e) : EReal)
      = result (aQ m c) (aK m c) (aV m c) (cK m c) (cV m c) (aL m c) (aG m c) ⟨(grid0.coords t 0).val, (ext t).1⟩
        ⟨(grid0.coords t 2).val * 8192 + y.val, by have := (ext t).2.2; omega⟩ ⟨(grid0.coords t 1).val * 128 + e.val, by have := (ext t).2.1; omega⟩ := by
  obtain ⟨e0, e1, e2⟩ := ext t
  have hsrc : ∀ l : Fin 128, srcCol ((grid0.coords t 1).val * 128 + l.val) = (grid0.coords t 1).val * 128 + lane l.val := by
    intro l; unfold srcCol lane; omega
  have hd : ((grid0.coords t 1).val * 128 + e.val) / 128 = (grid0.coords t 1).val := by omega
  have hm : ((grid0.coords t 1).val * 128 + e.val) % 128 = e.val := by omega
  refine (outBlk_at _ _ _ _ _ (tabQ (aQ m c) ⟨(grid0.coords t 0).val, (ext t).1⟩ ((grid0.coords t 2).val * 8192 + y.val))
    (tabJ (aK m c) (cK m c) ⟨(grid0.coords t 0).val, (ext t).1⟩) (tabR (aV m c) (cV m c) ⟨(grid0.coords t 0).val, (ext t).1⟩) (lamE (aL m c)).toReal
    (grid0.coords t 1).val y e (fun l => ?_) (fun l j => ?_) (fun j l => ?_) (fun j l => ?_) ?_).trans ?_
  · rw [x0_at, v8_at]
    have hn : (grid0.coords t 2).val * 8192 + y.val < 16384 := by omega
    unfold joinAt
    rw [dif_pos hn]
    rw [tabQ_eq (aQ m c)]
    simp only [hsrc]
    unfold qScale
    rw [scale_real]
  · rw [x1_at, v15_at, tabJ_eq]
    simp only [hsrc]
  · rw [x2_at, v21_at, if_pos (by simp only; omega), tabJ_eq, tabR_eq hV hVc]
    simp only [show (((grid0.coords t 1).val * 256 + l.val) / 256 * 128 + ((grid0.coords t 1).val * 256 + l.val) % 256) % 512 = (grid0.coords t 1).val * 128 + l.val by omega]
  · rw [x2_at, v21_at, if_neg (by simp only; omega)]
  · rw [pay188_at, ← lamE_real hL]
    unfold lamE
    simp only [x3_at]
  · unfold result
    simp only [hd, hm]
    rw [x4_at]

/-- A block of results is the array's own part. -/
theorem block_eq (c : Dev nD) (hV : AllReal (aV m c)) (hVc : AllReal (cV m c))
    (hL : AllReal (aL m c)) (t : Fin cfg0.N) (y : S1x8192x128.Idx) :
    (outBlk (X0_0 m c t) (iblk m c 1 t) (iblk m c 2 t) (iblk m c 3 t) (iblk m c 4 t) y : EReal) = resArr m c ((win0_5.blk t).view.emb y) := by
  obtain ⟨a, b, rfl⟩ : ∃ (a : Fin 8192) (b : Fin 128), y = ix3 0 a b := by
    refine ⟨y 1, y 2, ?_⟩
    funext x
    fin_cases x
    · exact Subsingleton.elim (α := Fin 1) _ _
    · rfl
    · rfl
  rw [point_at m c hV hVc hL t a b, emb5]
  rfl

/-- The array the kernel leaves. -/
theorem arr_eq (c : Dev nD) (hV : AllReal (aV m c)) (hVc : AllReal (cV m c))
    (hL : AllReal (aL m c)) : (dats m 0 c).arrAt 5 cfg0.N = resArr m c := by
  refine (dats m 0 c).arrAt_eq_of_covers 5 (resArr m c) (by decide +kernel) fun t hf y => ?_
  blk_simp
  rw [after0_5]
  exact block_eq m c hV hVc hL t y

end Cert.Proof.Value
-- ==== Proof.Value.RefSoft.lean ====
/- The reference's weights of a row of scores, read at an index. -/
module

public import proofs.«01_k».proof.Proof.Gen.ReferenceIdeal.Run
public import proofs.«01_k».proof.Proof.Value.Gap
public import Idealize.ShloMosaic.Lib.Pipeline.ValueKit

@[expose] public section

set_option maxRecDepth 16384

noncomputable section

namespace Cert.Proof.Value

open Cert.ReferenceIdeal Cert.ReferenceIdeal.Gen Cert.ReferenceIdeal.Value
open Idealize.ShloMosaic Idealize.ShloMosaic.TcCoe Idealize.ShloMosaic.Tactic

/-- Of the reference: each row's largest score. -/
def rTops (S : FVec Ideal S2x4x2x16384x16640 .f32) : FVec Ideal S2x4x2x16384 .f32 :=
  (maximumf (broadcastInDim S2x4x2x16384 ![] bcast_S_S2x4x2x16384 (constant S_ .f32 0xFF800000#32)) (Host.reduce FloatOps.maximumf S (constant S_ .f32 0xFF800000#32) reducesTo_S2x4x2x16384x16640_S2x4x2x16384_d4 h_S_))

/-- Of the reference: the exponentials of the scores, less a number for each row. -/
def rExps (S : FVec Ideal S2x4x2x16384x16640 .f32) (T : FVec Ideal S2x4x2x16384 .f32) : FVec Ideal S2x4x2x16384x16640 .f32 :=
  Host.exp (subf S (broadcastInDim S2x4x2x16384x16640 ![0, 1, 2, 3, 4] bcast_S2x4x2x16384x1_S2x4x2x16384x16640_0_1_2_3_4 (broadcastInDim S2x4x2x16384x1 ![0, 1, 2, 3] bcast_S2x4x2x16384_S2x4x2x16384x1_0_1_2_3 T)))

/-- Of the reference: the sum of each row. -/
def rSums (E : FVec Ideal S2x4x2x16384x16640 .f32) : FVec Ideal S2x4x2x16384 .f32 :=
  Host.reduceAdd E (constant S_ .f32 0x00000000#32) reducesTo_S2x4x2x16384x16640_S2x4x2x16384_d4 h_S_

/-- Of the reference: each row over a number of its own. -/
def rOver (E : FVec Ideal S2x4x2x16384x16640 .f32) (T : FVec Ideal S2x4x2x16384 .f32) : FVec Ideal S2x4x2x16384x16640 .f32 :=
  Host.divf E (broadcastInDim S2x4x2x16384x16640 ![0, 1, 2, 3, 4] bcast_S2x4x2x16384x1_S2x4x2x16384x16640_0_1_2_3_4 (broadcastInDim S2x4x2x16384x1 ![0, 1, 2, 3] bcast_S2x4x2x16384_S2x4x2x16384x1_0_1_2_3 T))

/-- Of the reference: each row's weights, of its scores. -/
def rSoft (S : FVec Ideal S2x4x2x16384x16640 .f32) : FVec Ideal S2x4x2x16384x16640 .f32 :=
  rOver (rExps S (rTops S)) (rSums (rExps S (rTops S)))

/-- The exponentials at an index. -/
theorem rExps_at (S : FVec Ideal S2x4x2x16384x16640 .f32) (T : FVec Ideal S2x4x2x16384 .f32) (b : Fin 2) (h : Fin 4) (p : Fin 2) (n : Fin 16384) (j : Fin 16640) :
    (rExps S T (ix5 b h p n j) : EReal) = Ideal.exp ((S (ix5 b h p n j) : EReal) - T (ix4 b h p n)) := by
  pointwise [rExps]

/-- The quotients at an index. -/
theorem rOver_at (E : FVec Ideal S2x4x2x16384x16640 .f32) (T : FVec Ideal S2x4x2x16384 .f32) (b : Fin 2) (h : Fin 4) (p : Fin 2) (n : Fin 16384) (j : Fin 16640) :
    (rOver E T (ix5 b h p n j) : EReal) = Ideal.div (E (ix5 b h p n j)) (T (ix4 b h p n)) := by
  pointwise [rOver]

/-- The sums at an index. -/
theorem rSums_at (E : FVec Ideal S2x4x2x16384x16640 .f32) (b : Fin 2) (h : Fin 4) (p : Fin 2) (n : Fin 16384) :
    (rSums E (ix4 b h p n) : EReal) = ∑ x : Fin 16640, (E (ix5 b h p n x) : EReal) := by
  pointwise [rSums]

/-- The largest of a list, taken from a first number: that, or one of the list, and none of the list is larger. -/
theorem foldl_max {ι : Type} (f : ι → EReal) :
    ∀ (L : List ι) (a : EReal), (a ≤ L.foldl (fun r n => max r (f n)) a) ∧ (∀ n ∈ L, f n ≤ L.foldl (fun r n => max r (f n)) a)
      ∧ (L.foldl (fun r n => max r (f n)) a = a ∨ ∃ n ∈ L, f n = L.foldl (fun r n => max r (f n)) a)
  | [], a => ⟨le_rfl, by simp, Or.inl rfl⟩
  | i :: L, a => by
    obtain ⟨h1, h2, h3⟩ := foldl_max f L (max a (f i))
    rw [List.foldl_cons]
    refine ⟨(le_max_left _ _).trans h1, fun n hn => ?_, ?_⟩
    · rcases List.mem_cons.mp hn with rfl | hn
      · exact (le_max_right _ _).trans h1
      · exact h2 n hn
    · rcases h3 with h3 | ⟨n, hn, h3⟩
      · rw [h3]
        rcases max_choice a (f i) with h | h
        · exact Or.inl h
        · exact Or.inr ⟨i, List.mem_cons_self, h.symm⟩
      · exact Or.inr ⟨n, List.mem_cons_of_mem _ hn, h3⟩

/-- A reduction to the largest, from minus infinity and no less than minus infinity, at an index: the largest of the source over the indices that go there. -/
theorem reduce_max {s t u : Shape} {axes : List (Fin s.rank)} (x : FVec Ideal s .f32) (init : FVec Ideal u .f32) (c : FVec Ideal t .f32) (h : s.ReducesTo axes t) (hu : 0 < u.numel)
    (hi : ∀ i, (init i : EReal) = ⊥) (hc : ∀ i, (c i : EReal) = ⊥) (j : t.Idx) (i0 : s.Idx) (h0 : h.drop i0 = j) :
    (∀ i, h.drop i = j → (x i : EReal) ≤ maximumf c (Host.reduce FloatOps.maximumf x init h hu) j)
      ∧ ∃ i, h.drop i = j ∧ (x i : EReal) = maximumf c (Host.reduce FloatOps.maximumf x init h hu) j := by
  have hm : (maximumf c (Host.reduce FloatOps.maximumf x init h hu) j : EReal) = Host.reduce (FloatOps.maximumf (F := Ideal) (φ := .f32)) x init h hu j := by
    show max (c j : EReal) _ = _
    rw [hc]
    simp
  rw [hm]
  unfold Host.reduce
  obtain ⟨-, h2, h3⟩ := foldl_max (fun n => (x (s.rowMajor.symm n) : EReal)) ((List.finRange s.numel).filter fun n => h.drop (s.rowMajor.symm n) = j) (init (Shape.Idx.first hu))
  have hx : ∀ i, (fun n => (x (s.rowMajor.symm n) : EReal)) (s.rowMajor i) = x i := fun i => by
    simp only [Equiv.symm_apply_apply]
  have hmem : ∀ i, h.drop i = j → s.rowMajor i ∈ (List.finRange s.numel).filter fun n => h.drop (s.rowMajor.symm n) = j := fun i hj => by
    simp [hj]
  refine ⟨fun i hj => (hx i).symm.le.trans (h2 _ (hmem i hj)), ?_⟩
  rcases h3 with h3 | ⟨n, hn, h3⟩
  · refine ⟨i0, h0, le_antisymm ((hx i0).symm.le.trans (h2 _ (hmem i0 h0))) ?_⟩
    exact (le_of_eq (h3.trans (hi _))).trans bot_le
  · exact ⟨_, by simpa using hn, h3⟩

/-- The index a row's score goes to. -/
theorem score_drop (b : Fin 2) (h : Fin 4) (p : Fin 2) (n : Fin 16384) (j : Fin 16640) :
    reducesTo_S2x4x2x16384x16640_S2x4x2x16384_d4.drop (ix5 b h p n j) = (ix4 b h p n : S2x4x2x16384.Idx) := by
  refine (Shape.ReducesTo.fiber_r5_a4 _ _ _).mpr ⟨j, ?_⟩
  rfl

/-- Minus infinity everywhere. -/
theorem bcast_neg_inf (i : S2x4x2x16384.Idx) : (broadcastInDim S2x4x2x16384 ![] bcast_S_S2x4x2x16384 (constant S_ .f32 0xFF800000#32 : FVec Ideal S_ .f32) i : EReal) = ⊥ := by
  idx_vars i
  pointwise
  exact neg_inf

/-- A row's largest score. -/
theorem rTops_top (S : FVec Ideal S2x4x2x16384x16640 .f32) (b : Fin 2) (h : Fin 4) (p : Fin 2) (n : Fin 16384) :
    (∀ j : Fin 16640, (S (ix5 b h p n j) : EReal) ≤ rTops S (ix4 b h p n)) ∧ ∃ j : Fin 16640, (S (ix5 b h p n j) : EReal) = rTops S (ix4 b h p n) := by
  unfold rTops
  obtain ⟨h1, i, hi, h2⟩ := reduce_max S _ _ reducesTo_S2x4x2x16384x16640_S2x4x2x16384_d4 h_S_ (fun _ => neg_inf) bcast_neg_inf (ix4 b h p n) (ix5 b h p n 0) (score_drop b h p n 0)
  refine ⟨fun j => h1 _ (score_drop b h p n j), ?_⟩
  obtain ⟨k, hk⟩ := (Shape.ReducesTo.fiber_r5_a4 _ _ _).mp hi
  exact ⟨k, (congrArg (fun i => (S i : EReal)) hk).trans h2⟩

/-- The reference's weights at an index. -/
theorem rSoft_at (S : FVec Ideal S2x4x2x16384x16640 .f32) (b : Fin 2) (h : Fin 4) (p : Fin 2) (n : Fin 16384) (j : Fin 16640) :
    (rSoft S (ix5 b h p n j) : EReal) = Ideal.div (Ideal.exp ((S (ix5 b h p n j) : EReal) - rTops S (ix4 b h p n)))
      (∑ x : Fin 16640, Ideal.exp ((S (ix5 b h p n x) : EReal) - rTops S (ix4 b h p n))) := by
  unfold rSoft
  rw [rOver_at, rSums_at]
  simp only [rExps_at]

end Cert.Proof.Value
-- ==== Proof.Value.Ref.lean ====
/- The reference's result, read at an index. -/
module

public import proofs.«01_k».proof.Proof.Gen.ReferenceIdeal.Run
public import proofs.«01_k».proof.Proof.Value.Ends
public import proofs.«01_k».proof.Proof.Value.RefSoft
public import Idealize.ShloMosaic.Lib.Pipeline.ValueKit

@[expose] public section

set_option maxRecDepth 16384

noncomputable section

namespace Cert.Proof.Value

open Cert.ReferenceIdeal Cert.ReferenceIdeal.Gen Cert.ReferenceIdeal.Value
open Idealize.ShloMosaic Idealize.ShloMosaic.TcCoe Idealize.ShloMosaic.Tactic

/-- Of the reference: the keys, the context's first, a head and a component at a time. -/
def rKeys (k : FVec Ideal S2x16384x512 .f32) (kc : FVec Ideal S2x256x512 .f32) : FVec Ideal S2x4x2x16640x64 .f32 :=
  (concatenate S2x4x2x16640x64 3 [⟨S2x4x2x256x64, (transpose S2x4x2x256x64 [0, 2, 3, 1, 4] (shapeCast _ kc shapeCasts_S2x256x512_S2x256x4x2x64) transposes_S2x256x4x2x64_S2x4x2x256x64_0_2_3_1_4)⟩, ⟨S2x4x2x16384x64, (transpose S2x4x2x16384x64 [0, 2, 3, 1, 4] (shapeCast _ k shapeCasts_S2x16384x512_S2x16384x4x2x64) transposes_S2x16384x4x2x64_S2x4x2x16384x64_0_2_3_1_4)⟩] concatenates_S2x4x2x256x64_S2x4x2x16384x64_S2x4x2x16640x64_d3)

/-- Of the reference: the scaled scores. -/
def rScore (q : FVec Ideal S2x16384x512 .f32) (K : FVec Ideal S2x4x2x16640x64 .f32) : FVec Ideal S2x4x2x16384x16640 .f32 :=
  (mulf (Host.dotGeneral dot_S2x4x2x16384x64_S2x4x2x16640x64_S2x4x2x16384x16640_4_4_3_3_012_012 none (transpose S2x4x2x16384x64 [0, 2, 3, 1, 4] (shapeCast _ q shapeCasts_S2x16384x512_S2x16384x4x2x64) transposes_S2x16384x4x2x64_S2x4x2x16384x64_0_2_3_1_4) K) (broadcastInDim S2x4x2x16384x16640 ![] bcast_S_S2x4x2x16384x16640 (constant S_ .f32 0x3E000000#32)))

/-- Of the reference: the mixing weight. -/
def rLam (w : FVec Ideal S4x64 .f32) : FVec Ideal S_ .f32 :=
  (addf (subf (Host.exp (Host.reduceAdd (mulf (shapeCast _ (extractStridedSlice S1x64 ![0, 0] w slices_S4x64_S1x64_0_0) shapeCasts_S1x64_S64) (shapeCast _ (extractStridedSlice S1x64 ![1, 0] w slices_S4x64_S1x64_1_0) shapeCasts_S1x64_S64)) (constant S_ .f32 0x00000000#32) reducesTo_S64_S_d0 h_S_)) (Host.exp (Host.reduceAdd (mulf (shapeCast _ (extractStridedSlice S1x64 ![2, 0] w slices_S4x64_S1x64_2_0) shapeCasts_S1x64_S64) (shapeCast _ (extractStridedSlice S1x64 ![3, 0] w slices_S4x64_S1x64_3_0) shapeCasts_S1x64_S64)) (constant S_ .f32 0x00000000#32) reducesTo_S64_S_d0 h_S_))) (constant S_ .f32 0x3E4CCCCD#32))

/-- Of the reference: the values, the context's first, a head at a time. -/
def rVals (v : FVec Ideal S2x16384x512 .f32) (vc : FVec Ideal S2x256x512 .f32) : FVec Ideal S2x4x16640x128 .f32 :=
  (concatenate S2x4x16640x128 2 [⟨S2x4x256x128, (transpose S2x4x256x128 [0, 2, 1, 3] (shapeCast _ vc shapeCasts_S2x256x512_S2x256x4x128) transposes_S2x256x4x128_S2x4x256x128_0_2_1_3)⟩, ⟨S2x4x16384x128, (transpose S2x4x16384x128 [0, 2, 1, 3] (shapeCast _ v shapeCasts_S2x16384x512_S2x16384x4x128) transposes_S2x16384x4x128_S2x4x16384x128_0_2_1_3)⟩] concatenates_S2x4x256x128_S2x4x16384x128_S2x4x16640x128_d2)

/-- Of the reference: the first component's weights less a multiple of the second's. -/
def rMix (lam : FVec Ideal S_ .f32) (P : FVec Ideal S2x4x2x16384x16640 .f32) : FVec Ideal S2x4x16384x16640 .f32 :=
  (subf (shapeCast _ (extractStridedSlice S2x4x1x16384x16640 ![0, 0, 0, 0, 0] P slices_S2x4x2x16384x16640_S2x4x1x16384x16640_0_0_0_0_0) shapeCasts_S2x4x1x16384x16640_S2x4x16384x16640) (mulf (broadcastInDim S2x4x16384x16640 ![] bcast_S_S2x4x16384x16640 lam) (shapeCast _ (extractStridedSlice S2x4x1x16384x16640 ![0, 0, 1, 0, 0] P slices_S2x4x2x16384x16640_S2x4x1x16384x16640_0_0_1_0_0) shapeCasts_S2x4x1x16384x16640_S2x4x16384x16640)))

/-- Of the reference: the weighted values. -/
def rDot (Z : FVec Ideal S2x4x16384x16640 .f32) (W : FVec Ideal S2x4x16640x128 .f32) : FVec Ideal S2x4x16384x128 .f32 :=
  (Host.dotGeneral dot_S2x4x16384x16640_S2x4x16640x128_S2x4x16384x128_3_2_2_3_01_01 none Z W)

/-- Of the reference: each row normalised, times the gain, the heads laid side by side. -/
def rFin (O : FVec Ideal S2x4x16384x128 .f32) (g : FVec Ideal S128 .f32) : FVec Ideal S2x16384x512 .bf16 :=
  truncf .bf16 (shapeCast _ (transpose S2x16384x4x128 [0, 2, 1, 3] (mulf (mulf (mulf O (broadcastInDim S2x4x16384x128 ![0, 1, 2, 3] bcast_S2x4x16384x1_S2x4x16384x128_0_1_2_3 (Host.rsqrt (addf (Host.divf (broadcastInDim S2x4x16384x1 ![0, 1, 2] bcast_S2x4x16384_S2x4x16384x1_0_1_2 (Host.reduceAdd (mulf O O) (constant S_ .f32 0x00000000#32) reducesTo_S2x4x16384x128_S2x4x16384_d3 h_S_)) (broadcastInDim S2x4x16384x1 ![] bcast_S_S2x4x16384x1 (constant S_ .f32 0x43000000#32))) (broadcastInDim S2x4x16384x1 ![] bcast_S_S2x4x16384x1 (constant S_ .f32 0x3727C5AC#32)))))) (broadcastInDim S2x4x16384x128 ![0, 1, 2, 3] bcast_S1x1x1x128_S2x4x16384x128_0_1_2_3 (broadcastInDim S1x1x1x128 ![3] bcast_S128_S1x1x1x128_3 g))) (broadcastInDim S2x4x16384x128 ![] bcast_S_S2x4x16384x128 (constant S_ .f32 0x3F4CCCCD#32))) transposes_S2x4x16384x128_S2x16384x4x128_0_2_1_3) shapeCasts_S2x16384x4x128_S2x16384x512) bitsLt_bf16_f32

/-- The reference's result is these, one after the other. -/
theorem ref_eq (m : (ℓ : Loc nD τ sig) → Buf (Elt Ideal) ℓ) (c : Dev nD) :
    res_main_v67 m c = rFin (rDot (rMix (rLam (m ((c.tc : Thread nD τ).loc main_arg6)))
        (rSoft (rScore (m ((c.tc : Thread nD τ).loc main_arg0)) (rKeys (m ((c.tc : Thread nD τ).loc main_arg1)) (m ((c.tc : Thread nD τ).loc main_arg4))))))
      (rVals (m ((c.tc : Thread nD τ).loc main_arg2)) (m ((c.tc : Thread nD τ).loc main_arg5)))) (m ((c.tc : Thread nD τ).loc main_arg7)) := by
  unfold res_main_v67 rFin rDot rMix rLam rSoft rOver rSums rExps rTops rScore rKeys rVals
  rfl

/-- The reference's keys at an index. -/
theorem rKeys_at (k : FVec Ideal S2x16384x512 .f32) (kc : FVec Ideal S2x256x512 .f32) (b : Fin 2) (h : Fin 4) (p : Fin 2) (j : Fin 16640) (d : Fin 64) :
    (rKeys k kc (ix5 b h p j d) : EReal) = if hj : j.val < 256 then (kc (ix3 b ⟨j.val, hj⟩ ⟨h.val * 128 + p.val * 64 + d.val, by omega⟩) : EReal)
      else k (ix3 b ⟨j.val - 256, by omega⟩ ⟨h.val * 128 + p.val * 64 + d.val, by omega⟩) := by
  pointwise [rKeys]

/-- The reference's values at an index. -/
theorem rVals_at (v : FVec Ideal S2x16384x512 .f32) (vc : FVec Ideal S2x256x512 .f32) (b : Fin 2) (h : Fin 4) (j : Fin 16640) (e : Fin 128) :
    (rVals v vc (ix4 b h j e) : EReal) = if hj : j.val < 256 then (vc (ix3 b ⟨j.val, hj⟩ ⟨h.val * 128 + e.val, by omega⟩) : EReal)
      else v (ix3 b ⟨j.val - 256, by omega⟩ ⟨h.val * 128 + e.val, by omega⟩) := by
  pointwise [rVals]

/-- The reference's scores at an index. -/
theorem rScore_at (q : FVec Ideal S2x16384x512 .f32) (K : FVec Ideal S2x4x2x16640x64 .f32) (b : Fin 2) (h : Fin 4) (p : Fin 2) (n : Fin 16384) (j : Fin 16640) :
    (rScore q K (ix5 b h p n j) : EReal) = (∑ d : Fin 64, (q (ix3 b n ⟨h.val * 128 + p.val * 64 + d.val, by omega⟩) : EReal) * K (ix5 b h p j d))
      * Ideal.ofBits FTy.f32 0x3E000000#32 := by
  pointwise [rScore]

/-- The reference's mixing weight. -/
theorem rLam_at (w : FVec Ideal S4x64 .f32) :
    (rLam w ix0 : EReal) = Ideal.exp (∑ x : Fin 64, (w (ix2 0 x) : EReal) * w (ix2 1 x)) - Ideal.exp (∑ x : Fin 64, (w (ix2 2 x) : EReal) * w (ix2 3 x))
      + Ideal.ofBits FTy.f32 0x3E4CCCCD#32 := by
  pointwise [rLam]

/-- The reference's mixed weights at an index. -/
theorem rMix_at (lam : FVec Ideal S_ .f32) (P : FVec Ideal S2x4x2x16384x16640 .f32) (b : Fin 2) (h : Fin 4) (n : Fin 16384) (j : Fin 16640) :
    (rMix lam P (ix4 b h n j) : EReal) = (P (ix5 b h 0 n j) : EReal) - (lam ix0 : EReal) * P (ix5 b h 1 n j) := by
  pointwise [rMix]

/-- The reference's weighted values at an index. -/
theorem rDot_at (Z : FVec Ideal S2x4x16384x16640 .f32) (W : FVec Ideal S2x4x16640x128 .f32) (b : Fin 2) (h : Fin 4) (n : Fin 16384) (e : Fin 128) :
    (rDot Z W (ix4 b h n e) : EReal) = ∑ j : Fin 16640, (Z (ix4 b h n j) : EReal) * W (ix4 b h j e) := by
  pointwise [rDot]

/-- The reference's result at an index, of its weighted values. -/
theorem rFin_at (O : FVec Ideal S2x4x16384x128 .f32) (g : FVec Ideal S128 .f32) (b : Fin 2) (n : Fin 16384) (l : Fin 512) :
    (rFin O g (ix3 b n l) : EReal) = normed (fun x => O (ix4 b ⟨l.val / 128, by omega⟩ n x)) ⟨l.val % 128, by omega⟩ * (g (ix1 ⟨l.val % 128, by omega⟩) : EReal)
      * Ideal.ofBits FTy.f32 0x3F4CCCCD#32 := by
  unfold normed
  pointwise [rFin]

end Cert.Proof.Value
-- ==== Proof.Value.RefVal.lean ====
/- The reference's array of results. -/
module

public import proofs.«01_k».proof.Proof.Value.Tables
public import proofs.«01_k».proof.Proof.Value.Ref

@[expose] public section

set_option maxRecDepth 16384

noncomputable section

namespace Cert.Proof.Value

open Cert.ReferenceIdeal Cert.ReferenceIdeal.Gen Cert.ReferenceIdeal.Value
open Idealize.ShloMosaic Idealize.ShloMosaic.TcCoe

/-- The place, in a sequence followed by its context, of the reference's key `j`: the reference has the context first. -/
def rot (j : ℕ) : ℕ := if j < 256 then 16384 + j else j - 256

theorem rot_lt {j : ℕ} (h : j < 16640) : rot j < 16640 := by unfold rot; split <;> omega

/-- Turning the places leaves a sum over all of them. -/
theorem rot_sum (f : ℕ → ℝ) : ∑ k ∈ Finset.range 16640, f (rot k) = ∑ k ∈ Finset.range 16640, f k := by
  unfold rot
  exact rotate_sum f

/-- What the reference reads first from the context, then from the sequence, is the table at the turned place. -/
theorem first_ctx (A : S2x16384x512.Idx → EReal) (C : S2x256x512.Idx → EReal) (b : Fin 2) (j : Fin 16640) (l : Fin 512) :
    (if hj : j.val < 256 then C (ix3 b ⟨j.val, hj⟩ l) else A (ix3 b ⟨j.val - 256, by omega⟩ l)) = tabJ A C b (rot j.val) l.val := by
  rw [← tabJ_eq A C b ⟨rot j.val, rot_lt j.isLt⟩ l]
  unfold joinAt rot
  by_cases hj : j.val < 256
  · simp only [if_pos hj, dif_pos hj]
    rw [dif_neg (by omega)]
    simp only [show 16384 + j.val - 16384 = j.val by omega]
  · simp only [if_neg hj, dif_neg hj]
    rw [dif_pos (by omega)]

/-- Each place is some turned place. -/
theorem rot_onto {k : ℕ} (h : k < 16640) : ∃ j : Fin 16640, rot j.val = k := by
  by_cases hk : k < 16384
  · exact ⟨⟨k + 256, by omega⟩, by unfold rot; simp only; rw [if_neg (by omega)]; omega⟩
  · exact ⟨⟨k - 16384, by omega⟩, by unfold rot; simp only; rw [if_pos (by omega)]; omega⟩

variable {Q K V : S2x16384x512.Idx → EReal} {Kc Vc : S2x256x512.Idx → EReal}

/-- The reference's scores. -/
theorem score_at (Q K : S2x16384x512.Idx → EReal) (Kc : S2x256x512.Idx → EReal) (b : Fin 2) (h : Fin 4) (p : Fin 2) (n : Fin 16384) (j : Fin 16640) :
    (rScore Q (rKeys K Kc) (ix5 b h p n j) : EReal) = dotS (tabQ Q b n.val) (tabJ K Kc b) h.val p.val (rot j.val) * ((1 / 8 : ℝ) : EReal) := by
  rw [rScore_at, lit_eighth]
  have e : ∀ d : Fin 64, (Q (ix3 b n ⟨h.val * 128 + p.val * 64 + d.val, by omega⟩) : EReal) * (rKeys K Kc (ix5 b h p j d) : EReal)
      = tabQ Q b n.val (h.val * 128 + p.val * 64 + d.val) * tabJ K Kc b (rot j.val) (h.val * 128 + p.val * 64 + d.val) := by
    intro d
    rw [rKeys_at, first_ctx, tabQ_eq Q b n]
  simp only [e]
  rw [← Finset.sum_range (fun d => tabQ Q b n.val (h.val * 128 + p.val * 64 + d) * tabJ K Kc b (rot j.val) (h.val * 128 + p.val * 64 + d))]
  rfl

/-- The reference's largest score of a row. -/
theorem top_at (Q K : S2x16384x512.Idx → EReal) (Kc : S2x256x512.Idx → EReal) (b : Fin 2) (h : Fin 4) (p : Fin 2) (n : Fin 16384) :
    (rTops (rScore Q (rKeys K Kc)) (ix4 b h p n) : EReal) = topS (tabQ Q b n.val) (tabJ K Kc b) h.val p.val * ((1 / 8 : ℝ) : EReal) := by
  obtain ⟨h1, j, h2⟩ := rTops_top (rScore Q (rKeys K Kc)) b h p n
  obtain ⟨t1, k, hk, t2⟩ := (topS_top (tabQ Q b n.val) (tabJ K Kc b) h.val p.val).scale (show (0 : ℝ) < 1 / 8 by norm_num)
  refine le_antisymm ?_ ?_
  · rw [← h2, score_at]
    exact t1 _ (rot_lt j.isLt)
  · obtain ⟨i, rfl⟩ := rot_onto hk
    rw [← t2]
    exact (score_at Q K Kc b h p n i).symm.le.trans (h1 i)

/-- The reference's weights. -/
theorem soft_at (Q K : S2x16384x512.Idx → EReal) (Kc : S2x256x512.Idx → EReal) (b : Fin 2) (h : Fin 4) (p : Fin 2) (n : Fin 16384) (j : Fin 16640) :
    (rSoft (rScore Q (rKeys K Kc)) (ix5 b h p n j) : EReal)
      = if sumL (tabQ Q b n.val) (tabJ K Kc b) h.val p.val = 0 then ⊥
        else ((wgt (tabQ Q b n.val) (tabJ K Kc b) h.val p.val (rot j.val) / sumL (tabQ Q b n.val) (tabJ K Kc b) h.val p.val : ℝ) : EReal) := by
  have e : ∀ x : Fin 16640, Ideal.exp ((rScore Q (rKeys K Kc) (ix5 b h p n x) : EReal) - rTops (rScore Q (rKeys K Kc)) (ix4 b h p n))
      = ((wgt (tabQ Q b n.val) (tabJ K Kc b) h.val p.val (rot x.val) : ℝ) : EReal) := by
    intro x
    rw [top_at, score_at]
    exact exp_egap (((topS_top (tabQ Q b n.val) (tabJ K Kc b) h.val p.val).scale (show (0 : ℝ) < 1 / 8 by norm_num)).1 _ (rot_lt x.isLt))
  rw [rSoft_at]
  simp only [e]
  rw [← coe_sum, ← Finset.sum_range (fun x => wgt (tabQ Q b n.val) (tabJ K Kc b) h.val p.val (rot x)), rot_sum]
  exact div_wgt _ _ _ _ (rot_lt j.isLt)

/-- An infinite number times a real is nought or infinite. -/
theorem inf_mul_coe {x : EReal} (hx : x = ⊤ ∨ x = ⊥) (r : ℝ) : x * (r : EReal) = 0 ∨ x * (r : EReal) = ⊤ ∨ x * (r : EReal) = ⊥ := by
  rcases lt_trichotomy r 0 with h | rfl | h
  · rcases hx with rfl | rfl
    · exact Or.inr (Or.inr (EReal.top_mul_coe_of_neg h))
    · exact Or.inr (Or.inl (EReal.bot_mul_coe_of_neg h))
  · exact Or.inl (by rw [EReal.coe_zero, mul_zero])
  · rcases hx with rfl | rfl
    · exact Or.inr (Or.inl (EReal.top_mul_coe_of_pos h))
    · exact Or.inr (Or.inr (EReal.bot_mul_coe_of_pos h))

/-- A real other than nought times minus infinity is infinite. -/
theorem coe_mul_bot {r : ℝ} (h : r ≠ 0) : ∃ i : EReal, (i = ⊤ ∨ i = ⊥) ∧ (r : EReal) * ⊥ = i := by
  rcases lt_or_gt_of_ne h with h | h
  · exact ⟨⊤, Or.inl rfl, EReal.coe_mul_bot_of_neg h⟩
  · exact ⟨⊥, Or.inr rfl, EReal.coe_mul_bot_of_pos h⟩

/-- A row of mixed weights times the values, normalised, is the mixed row normalised: both are nought where a weight is infinite. -/
theorem ref_row (q : ℕ → EReal) (k : ℕ → ℕ → EReal) (v : ℕ → ℕ → ℝ) (lam : ℝ) (h : ℕ) (o : Fin 128 → EReal)
    (ho : ∀ e : Fin 128, o e = ∑ j : Fin 16640, ((if sumL q k h 0 = 0 then ⊥ else ((wgt q k h 0 (rot j.val) / sumL q k h 0 : ℝ) : EReal))
      - (lam : EReal) * (if sumL q k h 1 = 0 then ⊥ else ((wgt q k h 1 (rot j.val) / sumL q k h 1 : ℝ) : EReal))) * ((v (rot j.val) (h * 128 + e.val) : ℝ) : EReal)) (e : Fin 128) :
    normed o e = normed (fun x => mixed q k v lam h x.val) e := by
  by_cases h0 : sumL q k h 0 = 0
  · have e1 : normed (fun x => mixed q k v lam h x.val) e = 0 := by
      refine normed_inf _ _ ⟨0, Or.inr ?_⟩
      unfold mixed attn
      rw [if_pos h0, EReal.bot_sub]
    rw [e1]
    refine normed_ends _ _ fun x => ?_
    rw [ho]
    refine sum_inf _ _ fun j => ?_
    rw [if_pos h0, EReal.bot_sub]
    exact inf_mul_coe (Or.inr rfl) _
  · by_cases h1 : sumL q k h 1 = 0 ∧ lam ≠ 0
    · obtain ⟨h1, hl⟩ := h1
      obtain ⟨i, hi, hc⟩ := coe_mul_bot hl
      have hs : ∀ a : ℝ, (a : EReal) - i = ⊤ ∨ (a : EReal) - i = ⊥ := fun a => by
        rcases hi with rfl | rfl
        · exact Or.inr (EReal.sub_top _)
        · exact Or.inl (EReal.coe_sub_bot _)
      have e1 : normed (fun x => mixed q k v lam h x.val) e = 0 := by
        refine normed_inf _ _ ⟨0, ?_⟩
        unfold mixed attn
        rw [if_neg h0, if_pos h1, hc]
        exact hs _
      rw [e1]
      refine normed_ends _ _ fun x => ?_
      rw [ho]
      refine sum_inf _ _ fun j => ?_
      rw [if_neg h0, if_pos h1, hc]
      exact inf_mul_coe (hs _) _
    · obtain ⟨d, hd⟩ : ∃ d : ℝ, (sumL q k h 1 = 0 ∧ lam = 0 ∧ d = 0) ∨ (sumL q k h 1 ≠ 0 ∧ d = lam / sumL q k h 1) := by
        by_cases hz : sumL q k h 1 = 0
        · exact ⟨0, Or.inl ⟨hz, by_contra fun hn => h1 ⟨hz, hn⟩, rfl⟩⟩
        · exact ⟨_, Or.inr ⟨hz, rfl⟩⟩
      have second : ∀ a : ℝ, (lam : EReal) * (if sumL q k h 1 = 0 then ⊥ else ((a / sumL q k h 1 : ℝ) : EReal)) = ((d * a : ℝ) : EReal) := by
        intro a
        rcases hd with ⟨hz, hl, rfl⟩ | ⟨hz, rfl⟩
        · rw [hl, EReal.coe_zero, zero_mul, zero_mul, EReal.coe_zero]
        · rw [if_neg hz, ← EReal.coe_mul]
          refine congrArg Real.toEReal ?_
          ring
      have eo : o = fun x => mixed q k v lam h x.val := by
        funext x
        rw [ho]
        unfold mixed attn
        rw [second]
        simp only [second, if_neg h0, ← EReal.coe_sub, ← EReal.coe_mul]
        obtain ⟨F, hF⟩ : ∃ F : ℕ → ℝ, ∀ j, F j = (wgt q k h 0 j / sumL q k h 0 - d * wgt q k h 1 j) * v j (h * 128 + x.val) := ⟨_, fun _ => rfl⟩
        simp only [← hF]
        rw [← coe_sum, ← Finset.sum_range (fun j => F (rot j)), rot_sum]
        refine congrArg Real.toEReal ?_
        unfold sumS
        rw [Finset.sum_div, Finset.mul_sum, ← Finset.sum_sub_distrib]
        refine Finset.sum_congr rfl fun j _ => ?_
        rw [hF]
        ring
      rw [eo]

/-- The reference's mixed row, normalised. -/
theorem ref_normed (Q K : S2x16384x512.Idx → EReal) (Kc : S2x256x512.Idx → EReal) (hV : AllReal V) (hVc : AllReal Vc) {L : S4x64.Idx → EReal} (hL : AllReal L)
    (b : Fin 2) (h : Fin 4) (n : Fin 16384) (e : Fin 128) :
    normed (fun x => (rDot (rMix (rLam L) (rSoft (rScore Q (rKeys K Kc)))) (rVals V Vc) (ix4 b h n x) : EReal)) e
      = normed (fun x => mixed (tabQ Q b n.val) (tabJ K Kc b) (tabR V Vc b) (lamE L).toReal h.val x.val) e := by
  have hlam : (rLam L ix0 : EReal) = (((lamE L).toReal : ℝ) : EReal) := (rLam_at L).trans (lamE_real hL)
  refine ref_row _ _ _ _ _ _ (fun x => ?_) e
  rw [rDot_at]
  refine Finset.sum_congr rfl fun j _ => ?_
  rw [rMix_at, rVals_at, first_ctx, hlam, soft_at, soft_at, tabR_eq hV hVc b ⟨rot j.val, rot_lt j.isLt⟩ ⟨h.val * 128 + x.val, by omega⟩]
  rfl

/-- The reference's result at an index. -/
theorem ref_at (Q K : S2x16384x512.Idx → EReal) (Kc : S2x256x512.Idx → EReal) (hV : AllReal V) (hVc : AllReal Vc) {L : S4x64.Idx → EReal} (hL : AllReal L)
    (g : S128.Idx → EReal) (b : Fin 2) (n : Fin 16384) (l : Fin 512) :
    (rFin (rDot (rMix (rLam L) (rSoft (rScore Q (rKeys K Kc)))) (rVals V Vc)) g (ix3 b n l) : EReal) = result Q K V Kc Vc L g b n l := by
  rw [rFin_at]
  rw [ref_normed Q K Kc hV hVc hL]
  rw [mul_assoc]
  rfl

end Cert.Proof.Value
-- ==== Proof.Value.Both.lean ====
/- The kernel and the reference end with equal results. -/
module

public import proofs.«01_k».proof.Proof.Value.Finite
public import proofs.«01_k».proof.Proof.Value.Kern
public import proofs.«01_k».proof.Proof.Value.RefVal
public import Idealize.ShloMosaic.Adequacy
public import Idealize.ShloMosaic.Init

@[expose] public section

set_option maxRecDepth 16384

noncomputable section

namespace Cert.Proof.Value

open Idealize.ShloMosaic Idealize.ShloMosaic.TcCoe Idealize.SL.Sem
open Cert.Proof.KernelIdeal (dats run_main A_eq)

/-- Two facts about one run hold together. -/
theorem run_both {nD : ℕ} {τ : Topo} {sig : RefSig} {Val : EltTy → Type} {Λ : Labels} {defs : Defs nD τ sig Val Λ}
    {p : (c : Thread nD τ) → Prog (TpuEff nD τ sig Val Λ c.2) PUnit} {s : MemSt nD τ sig Val} {Q Q' : PUnit × MemSt nD τ sig Val → Prop}
    (h : θ_run defs p s Q) (h' : θ_run defs p s Q') : θ_run defs p s fun r => Q r ∧ Q' r :=
  ⟨fun t ht hf => ⟨h.post t ht hf, h'.post t ht hf⟩, h.progress, h.fair⟩

/-- An index of the results is its three coordinates. -/
theorem split3 (i : Cert.KernelIdeal.S2x16384x512.Idx) : i = ix3 (i 0) (i 1) (i 2) := by
  funext a; fin_cases a <;> rfl

/-- The reference's array of results, of values and lambda vectors that are real numbers. -/
theorem ref_arr (Q K : Cert.KernelIdeal.S2x16384x512.Idx → EReal) (Kc : Cert.KernelIdeal.S2x256x512.Idx → EReal)
    {V : Cert.KernelIdeal.S2x16384x512.Idx → EReal} {Vc : Cert.KernelIdeal.S2x256x512.Idx → EReal} {L : Cert.KernelIdeal.S4x64.Idx → EReal}
    (hV : AllReal V) (hVc : AllReal Vc) (hL : AllReal L) (g : Cert.KernelIdeal.S128.Idx → EReal) :
    rFin (rDot (rMix (rLam L) (rSoft (rScore Q (rKeys K Kc)))) (rVals V Vc)) g
      = (fun i => result Q K V Kc Vc L g (i 0) (i 1) (i 2) : Cert.KernelIdeal.S2x16384x512.Idx → EReal) := by
  funext i
  rw [split3 i]
  exact ref_at Q K Kc hV hVc hL g (i 0) (i 1) (i 2)

/-- The kernel's run: the results are the array, the arguments what they were. -/
theorem kernel_run (m : (ℓ : Loc Cert.KernelIdeal.nD Cert.KernelIdeal.τ Cert.KernelIdeal.sig) → Buf (Elt Ideal) ℓ) (g : Dev Cert.KernelIdeal.nD → PrngReg)
    (h : Cert.Pre_KernelIdeal_finite (hPre_finite := pre_facts) m) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD, r.2.mem ((c.tc : Thread Cert.KernelIdeal.nD Cert.KernelIdeal.τ).loc Cert.KernelIdeal.main_v23) = resArr m c) := by
  refine (θ_run (Cert.KernelIdeal.defs (F := Ideal)) _ _).mono (fun r hr c => ?_) (run_main (F := Ideal) m g)
  obtain ⟨hV, hVc, hL⟩ := pre_real m h c
  exact (hr.1.out_eq c 5).trans (arr_eq m c hV hVc hL)

end Cert.Proof.Value
-- ==== Proof.lean ====
/- The claims, assembled, for the attention and for the experts' products: the frames of the kernel, of its ideal form and of the reference, that the
ideal form is the kernel's, and that kernel and reference compute the same over the extended reals. -/
module

public import proofs.«01_k».proof.Defs
public import proofs.«01_k».proof.Proof.Gen.ReferenceIdeal.Run
public import proofs.«01_k».proof.Proof.Gen.Reference2Ideal.Run
public import proofs.«01_k».proof.Proof.Experts.Frame
public import proofs.«01_k».proof.Proof.Experts.Tables
public import proofs.«01_k».proof.Proof.ExpertsIdeal.Frame
public import proofs.«01_k».proof.Proof.ExpertsIdeal.Tables
public import proofs.«01_k».proof.Proof.ExpertsIdeal.Both
public import proofs.«01_k».proof.Proof.Kernel.Frame
public import proofs.«01_k».proof.Proof.KernelIdeal.Frame
public import proofs.«01_k».proof.Proof.Value.Both
public import Idealize.ShloMosaic.Adequacy
public import Idealize.ShloMosaic.Init

@[expose] public section

noncomputable section

namespace Cert.Proof

open Idealize.ShloMosaic Idealize.SL.Sem

/-- The reference is host operations only: its arguments are not written, and it has no semaphore. -/
theorem frame_reference : Cert.quiescent_ReferenceIdeal := fun m g _ =>
  (θ_run (Cert.ReferenceIdeal.defs (F := Ideal)) _ _).mono (fun r h => And.intro (fun c => (h c).2) (sem_eq_zero_of_no_sems (by decide) r.2))
    (Cert.ReferenceIdeal.Value.run (F := Ideal) m g)

/-- Under the precondition the kernel and the reference, of the same arguments, end with equal results: both leave the array `resArr`. -/
theorem algebraic : Cert.algebraic_KernelIdeal_ReferenceIdeal_pre_finite (hPre_finite := Value.pre_facts) := by
  intro m g m' g' hpre harg
  refine ⟨fun c => Value.resArr m c, ?_, ?_⟩
  · refine (θ_run (Cert.KernelIdeal.defs (F := Ideal)) _ _).mono (fun r h c => ?_)
      (Value.run_both (Value.kernel_run m g hpre) (KernelIdeal.frame_main (F := Ideal) m g))
    exact ⟨h.1 c, h.2.1 c⟩
  · refine (θ_run (Cert.ReferenceIdeal.defs (F := Ideal)) _ _).mono (fun r h c => ⟨(h c).1.trans ?_, (h c).2⟩) (Cert.ReferenceIdeal.Value.run (F := Ideal) m' g')
    obtain ⟨hV, hVc, hL⟩ := Value.pre_real m hpre c
    obtain ⟨a0, a1, a2, a3, a4, a5, a6, a7⟩ := harg c
    rw [Value.ref_eq, a0, a1, a2, a4, a5, a6, a7]
    exact Value.ref_arr (Value.aQ m c) (Value.aK m c) (Value.cK m c) hV hVc hL (Value.aG m c)

/-- The tables' precondition fits. -/
theorem tables_facts : Cert.Pre_tables.Facts := ⟨by decide, by decide⟩

/-- The precondition gives tables whose blocks lie inside their arrays. -/
theorem experts_good (m : (ℓ : Loc Cert.Kernel2.nD Cert.Kernel2.τ Cert.Kernel2.sig) → Buf (Elt Bits) ℓ)
    (h : Cert.Pre_Kernel2 (hPre_tables := tables_facts) m) : Experts.Good (Experts.tbl m) :=
  Experts.good_of m (congrFun (h 0).1) (congrFun (h 0).2.1) (congrFun (h 0).2.2.1) (congrFun (h 0).2.2.2.1) (congrFun (h 0).2.2.2.2)

/-- The same for the ideal form. -/
theorem expertsIdeal_good (m : (ℓ : Loc Cert.Kernel2Ideal.nD Cert.Kernel2Ideal.τ Cert.Kernel2Ideal.sig) → Buf (Elt Ideal) ℓ)
    (h : Cert.Pre_Kernel2Ideal (hPre_tables := tables_facts) m) : ExpertsIdeal.Good (ExpertsIdeal.tbl m) :=
  ExpertsIdeal.good_of m (congrFun (h 0).1) (congrFun (h 0).2.1) (congrFun (h 0).2.2.1) (congrFun (h 0).2.2.2.1) (congrFun (h 0).2.2.2.2)

/-- The experts' reference is host operations only, as the attention's. -/
theorem frame_reference2 : Cert.quiescent_Reference2Ideal := fun m g _ =>
  (θ_run (Cert.Reference2Ideal.defs (F := Ideal)) _ _).mono (fun r h => And.intro (fun c => (h c).2) (sem_eq_zero_of_no_sems (by decide) r.2))
    (Cert.Reference2Ideal.Value.run (F := Ideal) m g)

/-- Under the tables' precondition the experts' kernel and its reference, of the same arguments, end with equal results. -/
theorem algebraic2 : Cert.algebraic_Kernel2Ideal_Reference2Ideal (hPre_tables := tables_facts) := by
  intro m g m' g' hpre harg
  have hg := expertsIdeal_good m hpre
  refine ⟨fun c => ExpertsIdeal.resArr m c, ?_, ?_⟩
  · refine (θ_run (Cert.Kernel2Ideal.defs (F := Ideal)) _ _).mono (fun r h c => ?_)
      (Value.run_both (ExpertsIdeal.kernel_run m g hg) (ExpertsIdeal.frame (F := Ideal) m g (ExpertsIdeal.ok_of _ hg)))
    exact ⟨h.1 c, h.2.1 c⟩
  · refine (θ_run (Cert.Reference2Ideal.defs (F := Ideal)) _ _).mono (fun r h c => ⟨(h c).1.trans ?_, (h c).2⟩) (Cert.Reference2Ideal.Value.run (F := Ideal) m' g')
    obtain ⟨a0, a1, a2, a3, a4, a5, a6⟩ := harg c
    rw [ExpertsIdeal.ref_eq, a0, a1, a2, a3, a4, a5, a6]
    exact ExpertsIdeal.ref_arr m hg c

/-- Every claim. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Value.pre_facts, tables_facts,
    fun m g _ => Kernel.frame_main m g, fun m g _ => KernelIdeal.frame_main m g, fun m g _ => KernelIdeal.frame_main m g,
    frame_reference, fun m g _ => frame_reference m g trivial,
    fun m g h => Experts.frame m g (Experts.ok_of _ (experts_good m h)), fun m g h => ExpertsIdeal.frame m g (ExpertsIdeal.ok_of _ (expertsIdeal_good m h)),
    frame_reference2, fun m g _ => frame_reference2 m g trivial,
    trivial, algebraic, trivial, algebraic2⟩

end Cert.Proof

end
